-- ==== Defs.lean ====
def Pre_Da [hPre_causal_and_finite : Cert.Pre_causal_and_finite.Facts] (m : (ℓ : Loc Cert.Da.nD Cert.Da.τ Cert.Da.sig) → Buf (Elt Bits) ℓ) : Prop :=
  ∀ c : Dev Cert.Da.nD,
    (Cert.Pre_causal_and_finite.fn (F := Bits) (m ((c.tc : Thread Cert.Da.nD Cert.Da.τ).loc Cert.Da.main_arg0)) (m ((c.tc : Thread Cert.Da.nD Cert.Da.τ).loc Cert.Da.main_arg1)) (m ((c.tc : Thread Cert.Da.nD Cert.Da.τ).loc Cert.Da.main_arg2)) (m ((c.tc : Thread Cert.Da.nD Cert.Da.τ).loc Cert.Da.main_arg3)) (m ((c.tc : Thread Cert.Da.nD Cert.Da.τ).loc Cert.Da.main_arg4)) (m ((c.tc : Thread Cert.Da.nD Cert.Da.τ).loc Cert.Da.main_arg5)) (m ((c.tc : Thread Cert.Da.nD Cert.Da.τ).loc Cert.Da.main_arg6))) = (fun _ => 1#1)

def Pre_DaIdeal [hPre_causal_and_finite : Cert.Pre_causal_and_finite.Facts] (m : (ℓ : Loc Cert.DaIdeal.nD Cert.DaIdeal.τ Cert.DaIdeal.sig) → Buf (Elt Ideal) ℓ) : Prop :=
  ∀ c : Dev Cert.DaIdeal.nD,
    (Cert.Pre_causal_and_finite.fn (F := Ideal) (m ((c.tc : Thread Cert.DaIdeal.nD Cert.DaIdeal.τ).loc Cert.DaIdeal.main_arg0)) (m ((c.tc : Thread Cert.DaIdeal.nD Cert.DaIdeal.τ).loc Cert.DaIdeal.main_arg1)) (m ((c.tc : Thread Cert.DaIdeal.nD Cert.DaIdeal.τ).loc Cert.DaIdeal.main_arg2)) (m ((c.tc : Thread Cert.DaIdeal.nD Cert.DaIdeal.τ).loc Cert.DaIdeal.main_arg3)) (m ((c.tc : Thread Cert.DaIdeal.nD Cert.DaIdeal.τ).loc Cert.DaIdeal.main_arg4)) (m ((c.tc : Thread Cert.DaIdeal.nD Cert.DaIdeal.τ).loc Cert.DaIdeal.main_arg5)) (m ((c.tc : Thread Cert.DaIdeal.nD Cert.DaIdeal.τ).loc Cert.DaIdeal.main_arg6))) = (fun _ => 1#1)

def Pre_DaRefIdeal (m : (ℓ : Loc Cert.DaRefIdeal.nD Cert.DaRefIdeal.τ Cert.DaRefIdeal.sig) → Buf (Elt Ideal) ℓ) : Prop :=
  True

def Pre_DaRefIdeal_causal_and_finite [hPre_causal_and_finite : Cert.Pre_causal_and_finite.Facts] (m : (ℓ : Loc Cert.DaRefIdeal.nD Cert.DaRefIdeal.τ Cert.DaRefIdeal.sig) → Buf (Elt Ideal) ℓ) : Prop :=
  ∀ c : Dev Cert.DaRefIdeal.nD,
    (Cert.Pre_causal_and_finite.fn (F := Ideal) (m ((c.tc : Thread Cert.DaRefIdeal.nD Cert.DaRefIdeal.τ).loc Cert.DaRefIdeal.main_arg0)) (m ((c.tc : Thread Cert.DaRefIdeal.nD Cert.DaRefIdeal.τ).loc Cert.DaRefIdeal.main_arg1)) (m ((c.tc : Thread Cert.DaRefIdeal.nD Cert.DaRefIdeal.τ).loc Cert.DaRefIdeal.main_arg2)) (m ((c.tc : Thread Cert.DaRefIdeal.nD Cert.DaRefIdeal.τ).loc Cert.DaRefIdeal.main_arg3)) (m ((c.tc : Thread Cert.DaRefIdeal.nD Cert.DaRefIdeal.τ).loc Cert.DaRefIdeal.main_arg4)) (m ((c.tc : Thread Cert.DaRefIdeal.nD Cert.DaRefIdeal.τ).loc Cert.DaRefIdeal.main_arg5)) (m ((c.tc : Thread Cert.DaRefIdeal.nD Cert.DaRefIdeal.τ).loc Cert.DaRefIdeal.main_arg6))) = (fun _ => 1#1)

def Pre_Ds [hPre_past_and_finite : Cert.Pre_past_and_finite.Facts] (m : (ℓ : Loc Cert.Ds.nD Cert.Ds.τ Cert.Ds.sig) → Buf (Elt Bits) ℓ) : Prop :=
  ∀ c : Dev Cert.Ds.nD,
    (Cert.Pre_past_and_finite.fn (F := Bits) (m ((c.tc : Thread Cert.Ds.nD Cert.Ds.τ).loc Cert.Ds.main_arg0)) (m ((c.tc : Thread Cert.Ds.nD Cert.Ds.τ).loc Cert.Ds.main_arg1)) (m ((c.tc : Thread Cert.Ds.nD Cert.Ds.τ).loc Cert.Ds.main_arg2)) (m ((c.tc : Thread Cert.Ds.nD Cert.Ds.τ).loc Cert.Ds.main_arg3)) (m ((c.tc : Thread Cert.Ds.nD Cert.Ds.τ).loc Cert.Ds.main_arg4)) (m ((c.tc : Thread Cert.Ds.nD Cert.Ds.τ).loc Cert.Ds.main_arg5))) = (fun _ => 1#1)

def Pre_DsIdeal [hPre_past_and_finite : Cert.Pre_past_and_finite.Facts] (m : (ℓ : Loc Cert.DsIdeal.nD Cert.DsIdeal.τ Cert.DsIdeal.sig) → Buf (Elt Ideal) ℓ) : Prop :=
  ∀ c : Dev Cert.DsIdeal.nD,
    (Cert.Pre_past_and_finite.fn (F := Ideal) (m ((c.tc : Thread Cert.DsIdeal.nD Cert.DsIdeal.τ).loc Cert.DsIdeal.main_arg0)) (m ((c.tc : Thread Cert.DsIdeal.nD Cert.DsIdeal.τ).loc Cert.DsIdeal.main_arg1)) (m ((c.tc : Thread Cert.DsIdeal.nD Cert.DsIdeal.τ).loc Cert.DsIdeal.main_arg2)) (m ((c.tc : Thread Cert.DsIdeal.nD Cert.DsIdeal.τ).loc Cert.DsIdeal.main_arg3)) (m ((c.tc : Thread Cert.DsIdeal.nD Cert.DsIdeal.τ).loc Cert.DsIdeal.main_arg4)) (m ((c.tc : Thread Cert.DsIdeal.nD Cert.DsIdeal.τ).loc Cert.DsIdeal.main_arg5))) = (fun _ => 1#1)

def Pre_DsRefIdeal (m : (ℓ : Loc Cert.DsRefIdeal.nD Cert.DsRefIdeal.τ Cert.DsRefIdeal.sig) → Buf (Elt Ideal) ℓ) : Prop :=
  True

def Pre_DsRefIdeal_past_and_finite [hPre_past_and_finite : Cert.Pre_past_and_finite.Facts] (m : (ℓ : Loc Cert.DsRefIdeal.nD Cert.DsRefIdeal.τ Cert.DsRefIdeal.sig) → Buf (Elt Ideal) ℓ) : Prop :=
  ∀ c : Dev Cert.DsRefIdeal.nD,
    (Cert.Pre_past_and_finite.fn (F := Ideal) (m ((c.tc : Thread Cert.DsRefIdeal.nD Cert.DsRefIdeal.τ).loc Cert.DsRefIdeal.main_arg0)) (m ((c.tc : Thread Cert.DsRefIdeal.nD Cert.DsRefIdeal.τ).loc Cert.DsRefIdeal.main_arg1)) (m ((c.tc : Thread Cert.DsRefIdeal.nD Cert.DsRefIdeal.τ).loc Cert.DsRefIdeal.main_arg2)) (m ((c.tc : Thread Cert.DsRefIdeal.nD Cert.DsRefIdeal.τ).loc Cert.DsRefIdeal.main_arg3)) (m ((c.tc : Thread Cert.DsRefIdeal.nD Cert.DsRefIdeal.τ).loc Cert.DsRefIdeal.main_arg4)) (m ((c.tc : Thread Cert.DsRefIdeal.nD Cert.DsRefIdeal.τ).loc Cert.DsRefIdeal.main_arg5))) = (fun _ => 1#1)

def Pre_Expert (m : (ℓ : Loc Cert.Expert.nD Cert.Expert.τ Cert.Expert.sig) → Buf (Elt Bits) ℓ) : Prop :=
  True

def Pre_ExpertIdeal (m : (ℓ : Loc Cert.ExpertIdeal.nD Cert.ExpertIdeal.τ Cert.ExpertIdeal.sig) → Buf (Elt Ideal) ℓ) : Prop :=
  True

def Pre_ExpertRefIdeal (m : (ℓ : Loc Cert.ExpertRefIdeal.nD Cert.ExpertRefIdeal.τ Cert.ExpertRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Pq (m : (ℓ : Loc Cert.Pq.nD Cert.Pq.τ Cert.Pq.sig) → Buf (Elt Bits) ℓ) : Prop :=
  True

def Pre_PqIdeal (m : (ℓ : Loc Cert.PqIdeal.nD Cert.PqIdeal.τ Cert.PqIdeal.sig) → Buf (Elt Ideal) ℓ) : Prop :=
  True

def Pre_PqRefIdeal (m : (ℓ : Loc Cert.PqRefIdeal.nD Cert.PqRefIdeal.τ Cert.PqRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def quiescent_Da [hDa : Cert.Da.Facts] [hPre_causal_and_finite : Cert.Pre_causal_and_finite.Facts] : Prop :=
  ∀ (m : (ℓ : Loc Cert.Da.nD Cert.Da.τ Cert.Da.sig) → Buf (Elt Bits) ℓ) (g : Dev Cert.Da.nD → PrngReg), Pre_Da m →
    θ_run (Cert.Da.defs (F := Bits)) (onTc (τ := Cert.Da.τ) (Cert.Da.main (F := Bits))) ⟨m, fun _ => 0, g⟩ (fun r => (∀ c : Dev Cert.Da.nD,
      r.2.mem ((c.tc : Thread Cert.Da.nD Cert.Da.τ).loc Cert.Da.main_arg0) = m ((c.tc : Thread Cert.Da.nD Cert.Da.τ).loc Cert.Da.main_arg0)
      ∧ r.2.mem ((c.tc : Thread Cert.Da.nD Cert.Da.τ).loc Cert.Da.main_arg1) = m ((c.tc : Thread Cert.Da.nD Cert.Da.τ).loc Cert.Da.main_arg1)
      ∧ r.2.mem ((c.tc : Thread Cert.Da.nD Cert.Da.τ).loc Cert.Da.main_arg2) = m ((c.tc : Thread Cert.Da.nD Cert.Da.τ).loc Cert.Da.main_arg2)
      ∧ r.2.mem ((c.tc : Thread Cert.Da.nD Cert.Da.τ).loc Cert.Da.main_arg3) = m ((c.tc : Thread Cert.Da.nD Cert.Da.τ).loc Cert.Da.main_arg3)
      ∧ r.2.mem ((c.tc : Thread Cert.Da.nD Cert.Da.τ).loc Cert.Da.main_arg4) = m ((c.tc : Thread Cert.Da.nD Cert.Da.τ).loc Cert.Da.main_arg4)
      ∧ r.2.mem ((c.tc : Thread Cert.Da.nD Cert.Da.τ).loc Cert.Da.main_arg5) = m ((c.tc : Thread Cert.Da.nD Cert.Da.τ).loc Cert.Da.main_arg5)
      ∧ r.2.mem ((c.tc : Thread Cert.Da.nD Cert.Da.τ).loc Cert.Da.main_arg6) = m ((c.tc : Thread Cert.Da.nD Cert.Da.τ).loc Cert.Da.main_arg6))
      ∧ r.2.sem = fun _ => 0)

def quiescent_DaIdeal [hDaIdeal : Cert.DaIdeal.Facts] [hPre_causal_and_finite : Cert.Pre_causal_and_finite.Facts] : Prop :=
  ∀ (m : (ℓ : Loc Cert.DaIdeal.nD Cert.DaIdeal.τ Cert.DaIdeal.sig) → Buf (Elt Ideal) ℓ) (g : Dev Cert.DaIdeal.nD → PrngReg), Pre_DaIdeal m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
      ∧ r.2.mem ((c.tc : Thread Cert.DaIdeal.nD Cert.DaIdeal.τ).loc Cert.DaIdeal.main_arg3) = m ((c.tc : Thread Cert.DaIdeal.nD Cert.DaIdeal.τ).loc Cert.DaIdeal.main_arg3)
      ∧ r.2.mem ((c.tc : Thread Cert.DaIdeal.nD Cert.DaIdeal.τ).loc Cert.DaIdeal.main_arg4) = m ((c.tc : Thread Cert.DaIdeal.nD Cert.DaIdeal.τ).loc Cert.DaIdeal.main_arg4)
      ∧ r.2.mem ((c.tc : Thread Cert.DaIdeal.nD Cert.DaIdeal.τ).loc Cert.DaIdeal.main_arg5) = m ((c.tc : Thread Cert.DaIdeal.nD Cert.DaIdeal.τ).loc Cert.DaIdeal.main_arg5)
      ∧ r.2.mem ((c.tc : Thread Cert.DaIdeal.nD Cert.DaIdeal.τ).loc Cert.DaIdeal.main_arg6) = m ((c.tc : Thread Cert.DaIdeal.nD Cert.DaIdeal.τ).loc Cert.DaIdeal.main_arg6))
      ∧ r.2.sem = fun _ => 0)

def quiescent_DaRefIdeal [hDaRefIdeal : Cert.DaRefIdeal.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1)
      ∧ r.2.mem ((c.tc : Thread Cert.DaRefIdeal.nD Cert.DaRefIdeal.τ).loc Cert.DaRefIdeal.main_arg2) = m ((c.tc : Thread Cert.DaRefIdeal.nD Cert.DaRefIdeal.τ).loc Cert.DaRefIdeal.main_arg2)
      ∧ r.2.mem ((c.tc : Thread Cert.DaRefIdeal.nD Cert.DaRefIdeal.τ).loc Cert.DaRefIdeal.main_arg3) = m ((c.tc : Thread Cert.DaRefIdeal.nD Cert.DaRefIdeal.τ).loc Cert.DaRefIdeal.main_arg3)
      ∧ r.2.mem ((c.tc : Thread Cert.DaRefIdeal.nD Cert.DaRefIdeal.τ).loc Cert.DaRefIdeal.main_arg4) = m ((c.tc : Thread Cert.DaRefIdeal.nD Cert.DaRefIdeal.τ).loc Cert.DaRefIdeal.main_arg4)
      ∧ r.2.mem ((c.tc : Thread Cert.DaRefIdeal.nD Cert.DaRefIdeal.τ).loc Cert.DaRefIdeal.main_arg5) = m ((c.tc : Thread Cert.DaRefIdeal.nD Cert.DaRefIdeal.τ).loc Cert.DaRefIdeal.main_arg5)
      ∧ r.2.mem ((c.tc : Thread Cert.DaRefIdeal.nD Cert.DaRefIdeal.τ).loc Cert.DaRefIdeal.main_arg6) = m ((c.tc : Thread Cert.DaRefIdeal.nD Cert.DaRefIdeal.τ).loc Cert.DaRefIdeal.main_arg6))
      ∧ r.2.sem = fun _ => 0)

def quiescent_DaRefIdeal_pre_causal_and_finite [hDaRefIdeal : Cert.DaRefIdeal.Facts] [hPre_causal_and_finite : Cert.Pre_causal_and_finite.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal_causal_and_finite m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1)
      ∧ r.2.mem ((c.tc : Thread Cert.DaRefIdeal.nD Cert.DaRefIdeal.τ).loc Cert.DaRefIdeal.main_arg2) = m ((c.tc : Thread Cert.DaRefIdeal.nD Cert.DaRefIdeal.τ).loc Cert.DaRefIdeal.main_arg2)
      ∧ r.2.mem ((c.tc : Thread Cert.DaRefIdeal.nD Cert.DaRefIdeal.τ).loc Cert.DaRefIdeal.main_arg3) = m ((c.tc : Thread Cert.DaRefIdeal.nD Cert.DaRefIdeal.τ).loc Cert.DaRefIdeal.main_arg3)
      ∧ r.2.mem ((c.tc : Thread Cert.DaRefIdeal.nD Cert.DaRefIdeal.τ).loc Cert.DaRefIdeal.main_arg4) = m ((c.tc : Thread Cert.DaRefIdeal.nD Cert.DaRefIdeal.τ).loc Cert.DaRefIdeal.main_arg4)
      ∧ r.2.mem ((c.tc : Thread Cert.DaRefIdeal.nD Cert.DaRefIdeal.τ).loc Cert.DaRefIdeal.main_arg5) = m ((c.tc : Thread Cert.DaRefIdeal.nD Cert.DaRefIdeal.τ).loc Cert.DaRefIdeal.main_arg5)
      ∧ r.2.mem ((c.tc : Thread Cert.DaRefIdeal.nD Cert.DaRefIdeal.τ).loc Cert.DaRefIdeal.main_arg6) = m ((c.tc : Thread Cert.DaRefIdeal.nD Cert.DaRefIdeal.τ).loc Cert.DaRefIdeal.main_arg6))
      ∧ r.2.sem = fun _ => 0)

def quiescent_Ds [hDs : Cert.Ds.Facts] [hPre_past_and_finite : Cert.Pre_past_and_finite.Facts] : Prop :=
  ∀ (m : (ℓ : Loc Cert.Ds.nD Cert.Ds.τ Cert.Ds.sig) → Buf (Elt Bits) ℓ) (g : Dev Cert.Ds.nD → PrngReg), Pre_Ds m →
    θ_run (Cert.Ds.defs (F := Bits)) (onTc (τ := Cert.Ds.τ) (Cert.Ds.main (F := Bits))) ⟨m, fun _ => 0, g⟩ (fun r => (∀ c : Dev Cert.Ds.nD,
      r.2.mem ((c.tc : Thread Cert.Ds.nD Cert.Ds.τ).loc Cert.Ds.main_arg0) = m ((c.tc : Thread Cert.Ds.nD Cert.Ds.τ).loc Cert.Ds.main_arg0)
      ∧ r.2.mem ((c.tc : Thread Cert.Ds.nD Cert.Ds.τ).loc Cert.Ds.main_arg1) = m ((c.tc : Thread Cert.Ds.nD Cert.Ds.τ).loc Cert.Ds.main_arg1)
      ∧ r.2.mem ((c.tc : Thread Cert.Ds.nD Cert.Ds.τ).loc Cert.Ds.main_arg2) = m ((c.tc : Thread Cert.Ds.nD Cert.Ds.τ).loc Cert.Ds.main_arg2)
      ∧ r.2.mem ((c.tc : Thread Cert.Ds.nD Cert.Ds.τ).loc Cert.Ds.main_arg3) = m ((c.tc : Thread Cert.Ds.nD Cert.Ds.τ).loc Cert.Ds.main_arg3)
      ∧ r.2.mem ((c.tc : Thread Cert.Ds.nD Cert.Ds.τ).loc Cert.Ds.main_arg4) = m ((c.tc : Thread Cert.Ds.nD Cert.Ds.τ).loc Cert.Ds.main_arg4)
      ∧ r.2.mem ((c.tc : Thread Cert.Ds.nD Cert.Ds.τ).loc Cert.Ds.main_arg5) = m ((c.tc : Thread Cert.Ds.nD Cert.Ds.τ).loc Cert.Ds.main_arg5))
      ∧ r.2.sem = fun _ => 0)

def quiescent_DsIdeal [hDsIdeal : Cert.DsIdeal.Facts] [hPre_past_and_finite : Cert.Pre_past_and_finite.Facts] : Prop :=
  ∀ (m : (ℓ : Loc Cert.DsIdeal.nD Cert.DsIdeal.τ Cert.DsIdeal.sig) → Buf (Elt Ideal) ℓ) (g : Dev Cert.DsIdeal.nD → PrngReg), Pre_DsIdeal m →
    θ_run (Cert.DsIdeal.defs (F := Ideal)) (onTc (τ := Cert.DsIdeal.τ) (Cert.DsIdeal.main (F := Ideal))) ⟨m, fun _ => 0, g⟩ (fun r => (∀ c : Dev Cert.DsIdeal.nD,
      r.2.mem ((c.tc : Thread Cert.DsIdeal.nD Cert.DsIdeal.τ).loc Cert.DsIdeal.main_arg0) = m ((c.tc : Thread Cert.DsIdeal.nD Cert.DsIdeal.τ).loc Cert.DsIdeal.main_arg0)
      ∧ r.2.mem ((c.tc : Thread Cert.DsIdeal.nD Cert.DsIdeal.τ).loc Cert.DsIdeal.main_arg1) = m ((c.tc : Thread Cert.DsIdeal.nD Cert.DsIdeal.τ).loc Cert.DsIdeal.main_arg1)
      ∧ r.2.mem ((c.tc : Thread Cert.DsIdeal.nD Cert.DsIdeal.τ).loc Cert.DsIdeal.main_arg2) = m ((c.tc : Thread Cert.DsIdeal.nD Cert.DsIdeal.τ).loc Cert.DsIdeal.main_arg2)
      ∧ r.2.mem ((c.tc : Thread Cert.DsIdeal.nD Cert.DsIdeal.τ).loc Cert.DsIdeal.main_arg3) = m ((c.tc : Thread Cert.DsIdeal.nD Cert.DsIdeal.τ).loc Cert.DsIdeal.main_arg3)
      ∧ r.2.mem ((c.tc : Thread Cert.DsIdeal.nD Cert.DsIdeal.τ).loc Cert.DsIdeal.main_arg4) = m ((c.tc : Thread Cert.DsIdeal.nD Cert.DsIdeal.τ).loc Cert.DsIdeal.main_arg4)
      ∧ r.2.mem ((c.tc : Thread Cert.DsIdeal.nD Cert.DsIdeal.τ).loc Cert.DsIdeal.main_arg5) = m ((c.tc : Thread Cert.DsIdeal.nD Cert.DsIdeal.τ).loc Cert.DsIdeal.main_arg5))
      ∧ r.2.sem = fun _ => 0)

def quiescent_DsRefIdeal [hDsRefIdeal : Cert.DsRefIdeal.Facts] : Prop :=
  ∀ (m : (ℓ : Loc Cert.DsRefIdeal.nD Cert.DsRefIdeal.τ Cert.DsRefIdeal.sig) → Buf (Elt Ideal) ℓ) (g : Dev Cert.DsRefIdeal.nD → PrngReg), Pre_DsRefIdeal m →
    θ_run (Cert.DsRefIdeal.defs (F := Ideal)) (onTc (τ := Cert.DsRefIdeal.τ) (Cert.DsRefIdeal.main (F := Ideal))) ⟨m, fun _ => 0, g⟩ (fun r => (∀ c : Dev Cert.DsRefIdeal.nD,
      r.2.mem ((c.tc : Thread Cert.DsRefIdeal.nD Cert.DsRefIdeal.τ).loc Cert.DsRefIdeal.main_arg0) = m ((c.tc : Thread Cert.DsRefIdeal.nD Cert.DsRefIdeal.τ).loc Cert.DsRefIdeal.main_arg0)
      ∧ r.2.mem ((c.tc : Thread Cert.DsRefIdeal.nD Cert.DsRefIdeal.τ).loc Cert.DsRefIdeal.main_arg1) = m ((c.tc : Thread Cert.DsRefIdeal.nD Cert.DsRefIdeal.τ).loc Cert.DsRefIdeal.main_arg1)
      ∧ r.2.mem ((c.tc : Thread Cert.DsRefIdeal.nD Cert.DsRefIdeal.τ).loc Cert.DsRefIdeal.main_arg2) = m ((c.tc : Thread Cert.DsRefIdeal.nD Cert.DsRefIdeal.τ).loc Cert.DsRefIdeal.main_arg2)
      ∧ r.2.mem ((c.tc : Thread Cert.DsRefIdeal.nD Cert.DsRefIdeal.τ).loc Cert.DsRefIdeal.main_arg3) = m ((c.tc : Thread Cert.DsRefIdeal.nD Cert.DsRefIdeal.τ).loc Cert.DsRefIdeal.main_arg3)
      ∧ r.2.mem ((c.tc : Thread Cert.DsRefIdeal.nD Cert.DsRefIdeal.τ).loc Cert.DsRefIdeal.main_arg4) = m ((c.tc : Thread Cert.DsRefIdeal.nD Cert.DsRefIdeal.τ).loc Cert.DsRefIdeal.main_arg4)
      ∧ r.2.mem ((c.tc : Thread Cert.DsRefIdeal.nD Cert.DsRefIdeal.τ).loc Cert.DsRefIdeal.main_arg5) = m ((c.tc : Thread Cert.DsRefIdeal.nD Cert.DsRefIdeal.τ).loc Cert.DsRefIdeal.main_arg5))
      ∧ r.2.sem = fun _ => 0)

def quiescent_DsRefIdeal_pre_past_and_finite [hDsRefIdeal : Cert.DsRefIdeal.Facts] [hPre_past_and_finite : Cert.Pre_past_and_finite.Facts] : Prop :=
  ∀ (m : (ℓ : Loc Cert.DsRefIdeal.nD Cert.DsRefIdeal.τ Cert.DsRefIdeal.sig) → Buf (Elt Ideal) ℓ) (g : Dev Cert.DsRefIdeal.nD → PrngReg), Pre_DsRefIdeal_past_and_finite m →
    θ_run (Cert.DsRefIdeal.defs (F := Ideal)) (onTc (τ := Cert.DsRefIdeal.τ) (Cert.DsRefIdeal.main (F := Ideal))) ⟨m, fun _ => 0, g⟩ (fun r => (∀ c : Dev Cert.DsRefIdeal.nD,
      r.2.mem ((c.tc : Thread Cert.DsRefIdeal.nD Cert.DsRefIdeal.τ).loc Cert.DsRefIdeal.main_arg0) = m ((c.tc : Thread Cert.DsRefIdeal.nD Cert.DsRefIdeal.τ).loc Cert.DsRefIdeal.main_arg0)
      ∧ r.2.mem ((c.tc : Thread Cert.DsRefIdeal.nD Cert.DsRefIdeal.τ).loc Cert.DsRefIdeal.main_arg1) = m ((c.tc : Thread Cert.DsRefIdeal.nD Cert.DsRefIdeal.τ).loc Cert.DsRefIdeal.main_arg1)
      ∧ r.2.mem ((c.tc : Thread Cert.DsRefIdeal.nD Cert.DsRefIdeal.τ).loc Cert.DsRefIdeal.main_arg2) = m ((c.tc : Thread Cert.DsRefIdeal.nD Cert.DsRefIdeal.τ).loc Cert.DsRefIdeal.main_arg2)
      ∧ r.2.mem ((c.tc : Thread Cert.DsRefIdeal.nD Cert.DsRefIdeal.τ).loc Cert.DsRefIdeal.main_arg3) = m ((c.tc : Thread Cert.DsRefIdeal.nD Cert.DsRefIdeal.τ).loc Cert.DsRefIdeal.main_arg3)
      ∧ r.2.mem ((c.tc : Thread Cert.DsRefIdeal.nD Cert.DsRefIdeal.τ).loc Cert.DsRefIdeal.main_arg4) = m ((c.tc : Thread Cert.DsRefIdeal.nD Cert.DsRefIdeal.τ).loc Cert.DsRefIdeal.main_arg4)
      ∧ r.2.mem ((c.tc : Thread Cert.DsRefIdeal.nD Cert.DsRefIdeal.τ).loc Cert.DsRefIdeal.main_arg5) = m ((c.tc : Thread Cert.DsRefIdeal.nD Cert.DsRefIdeal.τ).loc Cert.DsRefIdeal.main_arg5))
      ∧ r.2.sem = fun _ => 0)

def quiescent_Expert [hExpert : Cert.Expert.Facts] : Prop :=
  ∀ (m : (ℓ : Loc Cert.Expert.nD Cert.Expert.τ Cert.Expert.sig) → Buf (Elt Bits) ℓ) (g : Dev Cert.Expert.nD → PrngReg), Pre_Expert m →
    θ_run (Cert.Expert.defs (F := Bits)) (onTc (τ := Cert.Expert.τ) (Cert.Expert.main (F := Bits))) ⟨m, fun _ => 0, g⟩ (fun r => (∀ c : Dev Cert.Expert.nD,
      r.2.mem ((c.tc : Thread Cert.Expert.nD Cert.Expert.τ).loc Cert.Expert.main_arg0) = m ((c.tc : Thread Cert.Expert.nD Cert.Expert.τ).loc Cert.Expert.main_arg0)
      ∧ r.2.mem ((c.tc : Thread Cert.Expert.nD Cert.Expert.τ).loc Cert.Expert.main_arg1) = m ((c.tc : Thread Cert.Expert.nD Cert.Expert.τ).loc Cert.Expert.main_arg1)
      ∧ r.2.mem ((c.tc : Thread Cert.Expert.nD Cert.Expert.τ).loc Cert.Expert.main_arg2) = m ((c.tc : Thread Cert.Expert.nD Cert.Expert.τ).loc Cert.Expert.main_arg2)
      ∧ r.2.mem ((c.tc : Thread Cert.Expert.nD Cert.Expert.τ).loc Cert.Expert.main_arg3) = m ((c.tc : Thread Cert.Expert.nD Cert.Expert.τ).loc Cert.Expert.main_arg3)
      ∧ r.2.mem ((c.tc : Thread Cert.Expert.nD Cert.Expert.τ).loc Cert.Expert.main_arg4) = m ((c.tc : Thread Cert.Expert.nD Cert.Expert.τ).loc Cert.Expert.main_arg4)
      ∧ r.2.mem ((c.tc : Thread Cert.Expert.nD Cert.Expert.τ).loc Cert.Expert.main_arg5) = m ((c.tc : Thread Cert.Expert.nD Cert.Expert.τ).loc Cert.Expert.main_arg5))
      ∧ r.2.sem = fun _ => 0)

def quiescent_ExpertIdeal [hExpertIdeal : Cert.ExpertIdeal.Facts] : Prop :=
  ∀ (m : (ℓ : Loc Cert.ExpertIdeal.nD Cert.ExpertIdeal.τ Cert.ExpertIdeal.sig) → Buf (Elt Ideal) ℓ) (g : Dev Cert.ExpertIdeal.nD → PrngReg), Pre_ExpertIdeal m →
    θ_run (Cert.ExpertIdeal.defs (F := Ideal)) (onTc (τ := Cert.ExpertIdeal.τ) (Cert.ExpertIdeal.main (F := Ideal))) ⟨m, fun _ => 0, g⟩ (fun r => (∀ c : Dev Cert.ExpertIdeal.nD,
      r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
      ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
      ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
      ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
      ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4)
      ∧ r.2.mem ((c.tc : Thread Cert.ExpertIdeal.nD Cert.ExpertIdeal.τ).loc Cert.ExpertIdeal.main_arg5) = m ((c.tc : Thread Cert.ExpertIdeal.nD Cert.ExpertIdeal.τ).loc Cert.ExpertIdeal.main_arg5))
      ∧ r.2.sem = fun _ => 0)

def quiescent_ExpertRefIdeal [hExpertRefIdeal : Cert.ExpertRefIdeal.Facts] : Prop :=
  ∀ (m : (ℓ : Loc Cert.ExpertRefIdeal.nD Cert.ExpertRefIdeal.τ Cert.ExpertRefIdeal.sig) → Buf (Elt Ideal) ℓ) (g : Dev Cert.ExpertRefIdeal.nD → PrngReg), Pre_ExpertRefIdeal m →
    θ_run (Cert.ExpertRefIdeal.defs (F := Ideal)) (onTc (τ := Cert.ExpertRefIdeal.τ) (Cert.ExpertRefIdeal.main (F := Ideal))) ⟨m, fun _ => 0, g⟩ (fun r => (∀ c : Dev Cert.ExpertRefIdeal.nD,
      r.2.mem ((c.tc : Thread Cert.ExpertRefIdeal.nD Cert.ExpertRefIdeal.τ).loc Cert.ExpertRefIdeal.main_arg0) = m ((c.tc : Thread Cert.ExpertRefIdeal.nD Cert.ExpertRefIdeal.τ).loc Cert.ExpertRefIdeal.main_arg0)
      ∧ r.2.mem ((c.tc : Thread Cert.ExpertRefIdeal.nD Cert.ExpertRefIdeal.τ).loc Cert.ExpertRefIdeal.main_arg1) = m ((c.tc : Thread Cert.ExpertRefIdeal.nD Cert.ExpertRefIdeal.τ).loc Cert.ExpertRefIdeal.main_arg1)
      ∧ r.2.mem ((c.tc : Thread Cert.ExpertRefIdeal.nD Cert.ExpertRefIdeal.τ).loc Cert.ExpertRefIdeal.main_arg2) = m ((c.tc : Thread Cert.ExpertRefIdeal.nD Cert.ExpertRefIdeal.τ).loc Cert.ExpertRefIdeal.main_arg2)
      ∧ r.2.mem ((c.tc : Thread Cert.ExpertRefIdeal.nD Cert.ExpertRefIdeal.τ).loc Cert.ExpertRefIdeal.main_arg3) = m ((c.tc : Thread Cert.ExpertRefIdeal.nD Cert.ExpertRefIdeal.τ).loc Cert.ExpertRefIdeal.main_arg3)
      ∧ r.2.mem ((c.tc : Thread Cert.ExpertRefIdeal.nD Cert.ExpertRefIdeal.τ).loc Cert.ExpertRefIdeal.main_arg4) = m ((c.tc : Thread Cert.ExpertRefIdeal.nD Cert.ExpertRefIdeal.τ).loc Cert.ExpertRefIdeal.main_arg4)
      ∧ r.2.mem ((c.tc : Thread Cert.ExpertRefIdeal.nD Cert.ExpertRefIdeal.τ).loc Cert.ExpertRefIdeal.main_arg5) = m ((c.tc : Thread Cert.ExpertRefIdeal.nD Cert.ExpertRefIdeal.τ).loc Cert.ExpertRefIdeal.main_arg5))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Pq [hPq : Cert.Pq.Facts] : Prop :=
  ∀ (m : (ℓ : Loc Cert.Pq.nD Cert.Pq.τ Cert.Pq.sig) → Buf (Elt Bits) ℓ) (g : Dev Cert.Pq.nD → PrngReg), Pre_Pq m →
    θ_run (Cert.Pq.defs (F := Bits)) (onTc (τ := Cert.Pq.τ) (Cert.Pq.main (F := Bits))) ⟨m, fun _ => 0, g⟩ (fun r => (∀ c : Dev Cert.Pq.nD,
      r.2.mem ((c.tc : Thread Cert.Pq.nD Cert.Pq.τ).loc Cert.Pq.main_arg0) = m ((c.tc : Thread Cert.Pq.nD Cert.Pq.τ).loc Cert.Pq.main_arg0)
      ∧ r.2.mem ((c.tc : Thread Cert.Pq.nD Cert.Pq.τ).loc Cert.Pq.main_arg1) = m ((c.tc : Thread Cert.Pq.nD Cert.Pq.τ).loc Cert.Pq.main_arg1))
      ∧ r.2.sem = fun _ => 0)

def quiescent_PqIdeal [hPqIdeal : Cert.PqIdeal.Facts] : Prop :=
  ∀ (m : (ℓ : Loc Cert.PqIdeal.nD Cert.PqIdeal.τ Cert.PqIdeal.sig) → Buf (Elt Ideal) ℓ) (g : Dev Cert.PqIdeal.nD → PrngReg), Pre_PqIdeal m →
    θ_run (Cert.PqIdeal.defs (F := Ideal)) (onTc (τ := Cert.PqIdeal.τ) (Cert.PqIdeal.main (F := Ideal))) ⟨m, fun _ => 0, g⟩ (fun r => (∀ c : Dev Cert.PqIdeal.nD,
      r.2.mem ((c.tc : Thread Cert.PqIdeal.nD Cert.PqIdeal.τ).loc Cert.PqIdeal.main_arg0) = m ((c.tc : Thread Cert.PqIdeal.nD Cert.PqIdeal.τ).loc Cert.PqIdeal.main_arg0)
      ∧ r.2.mem ((c.tc : Thread Cert.PqIdeal.nD Cert.PqIdeal.τ).loc Cert.PqIdeal.main_arg1) = m ((c.tc : Thread Cert.PqIdeal.nD Cert.PqIdeal.τ).loc Cert.PqIdeal.main_arg1))
      ∧ r.2.sem = fun _ => 0)

def quiescent_PqRefIdeal [hPqRefIdeal : Cert.PqRefIdeal.Facts] : Prop :=
  ∀ (m : (ℓ : Loc Cert.PqRefIdeal.nD Cert.PqRefIdeal.τ Cert.PqRefIdeal.sig) → Buf (Elt Ideal) ℓ) (g : Dev Cert.PqRefIdeal.nD → PrngReg), Pre_PqRefIdeal m →
    θ_run (Cert.PqRefIdeal.defs (F := Ideal)) (onTc (τ := Cert.PqRefIdeal.τ) (Cert.PqRefIdeal.main (F := Ideal))) ⟨m, fun _ => 0, g⟩ (fun r => (∀ c : Dev Cert.PqRefIdeal.nD,
      r.2.mem ((c.tc : Thread Cert.PqRefIdeal.nD Cert.PqRefIdeal.τ).loc Cert.PqRefIdeal.main_arg0) = m ((c.tc : Thread Cert.PqRefIdeal.nD Cert.PqRefIdeal.τ).loc Cert.PqRefIdeal.main_arg0)
      ∧ r.2.mem ((c.tc : Thread Cert.PqRefIdeal.nD Cert.PqRefIdeal.τ).loc Cert.PqRefIdeal.main_arg1) = m ((c.tc : Thread Cert.PqRefIdeal.nD Cert.PqRefIdeal.τ).loc Cert.PqRefIdeal.main_arg1))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0)
      ∧ r.2.mem ((c.tc : Thread Cert.Sum.nD Cert.Sum.τ).loc Cert.Sum.main_arg1) = m ((c.tc : Thread Cert.Sum.nD Cert.Sum.τ).loc Cert.Sum.main_arg1)
      ∧ r.2.mem ((c.tc : Thread Cert.Sum.nD Cert.Sum.τ).loc Cert.Sum.main_arg2) = m ((c.tc : Thread Cert.Sum.nD Cert.Sum.τ).loc Cert.Sum.main_arg2))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0)
      ∧ r.2.mem ((c.tc : Thread Cert.SumIdeal.nD Cert.SumIdeal.τ).loc Cert.SumIdeal.main_arg1) = m ((c.tc : Thread Cert.SumIdeal.nD Cert.SumIdeal.τ).loc Cert.SumIdeal.main_arg1)
      ∧ r.2.mem ((c.tc : Thread Cert.SumIdeal.nD Cert.SumIdeal.τ).loc Cert.SumIdeal.main_arg2) = m ((c.tc : Thread Cert.SumIdeal.nD Cert.SumIdeal.τ).loc Cert.SumIdeal.main_arg2))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0)
      ∧ r.2.mem ((c.tc : Thread Cert.SumRefIdeal.nD Cert.SumRefIdeal.τ).loc Cert.SumRefIdeal.main_arg1) = m ((c.tc : Thread Cert.SumRefIdeal.nD Cert.SumRefIdeal.τ).loc Cert.SumRefIdeal.main_arg1)
      ∧ r.2.mem ((c.tc : Thread Cert.SumRefIdeal.nD Cert.SumRefIdeal.τ).loc Cert.SumRefIdeal.main_arg2) = m ((c.tc : Thread Cert.SumRefIdeal.nD Cert.SumRefIdeal.τ).loc Cert.SumRefIdeal.main_arg2))
      ∧ r.2.sem = fun _ => 0)

def preserves_Da_DaIdeal : Prop :=
  IdealRules.named_const.Statement Cert.DaIdeal.κ "mask" .f32 0xF149F2CA#32 ⊥

def algebraic_DaIdeal_DaRefIdeal [hDaIdeal : Cert.DaIdeal.Facts] [hDaRefIdeal : Cert.DaRefIdeal.Facts] [hPre_causal_and_finite : Cert.Pre_causal_and_finite.Facts] : Prop :=
  ∀ (m : (ℓ : Loc Cert.DaIdeal.nD Cert.DaIdeal.τ Cert.DaIdeal.sig) → Buf (Elt Ideal) ℓ) (g : Dev Cert.DaIdeal.nD → PrngReg)
    (m' : (ℓ : Loc Cert.DaRefIdeal.nD Cert.DaRefIdeal.τ Cert.DaRefIdeal.sig) → Buf (Elt Ideal) ℓ) (g' : Dev Cert.DaRefIdeal.nD → PrngReg), Pre_DaIdeal m →
    (∀ c : Dev Cert.DaIdeal.nD,
      m' ((c.tc : Thread Cert.DaRefIdeal.nD Cert.DaRefIdeal.τ).loc Cert.DaRefIdeal.main_arg0) = m ((c.tc : Thread Cert.DaIdeal.nD Cert.DaIdeal.τ).loc Cert.DaIdeal.main_arg0)
      ∧ m' ((c.tc : Thread Cert.DaRefIdeal.nD Cert.DaRefIdeal.τ).loc Cert.DaRefIdeal.main_arg1) = m ((c.tc : Thread Cert.DaIdeal.nD Cert.DaIdeal.τ).loc Cert.DaIdeal.main_arg1)
      ∧ m' ((c.tc : Thread Cert.DaRefIdeal.nD Cert.DaRefIdeal.τ).loc Cert.DaRefIdeal.main_arg2) = m ((c.tc : Thread Cert.DaIdeal.nD Cert.DaIdeal.τ).loc Cert.DaIdeal.main_arg2)
      ∧ m' ((c.tc : Thread Cert.DaRefIdeal.nD Cert.DaRefIdeal.τ).loc Cert.DaRefIdeal.main_arg3) = m ((c.tc : Thread Cert.DaIdeal.nD Cert.DaIdeal.τ).loc Cert.DaIdeal.main_arg3)
      ∧ m' ((c.tc : Thread Cert.DaRefIdeal.nD Cert.DaRefIdeal.τ).loc Cert.DaRefIdeal.main_arg4) = m ((c.tc : Thread Cert.DaIdeal.nD Cert.DaIdeal.τ).loc Cert.DaIdeal.main_arg4)
      ∧ m' ((c.tc : Thread Cert.DaRefIdeal.nD Cert.DaRefIdeal.τ).loc Cert.DaRefIdeal.main_arg5) = m ((c.tc : Thread Cert.DaIdeal.nD Cert.DaIdeal.τ).loc Cert.DaIdeal.main_arg5)
      ∧ m' ((c.tc : Thread Cert.DaRefIdeal.nD Cert.DaRefIdeal.τ).loc Cert.DaRefIdeal.main_arg6) = m ((c.tc : Thread Cert.DaIdeal.nD Cert.DaIdeal.τ).loc Cert.DaIdeal.main_arg6)) →
    ∃ (v0 : (c : Dev Cert.DaIdeal.nD) → Buf (Elt Ideal) ((c.tc : Thread Cert.DaIdeal.nD Cert.DaIdeal.τ).loc Cert.DaIdeal.main_v0)),
      θ_run (Cert.DaIdeal.defs (F := Ideal)) (onTc (τ := Cert.DaIdeal.τ) (Cert.DaIdeal.main (F := Ideal))) ⟨m, fun _ => 0, g⟩ (fun r => ∀ c : Dev Cert.DaIdeal.nD,
          r.2.mem ((c.tc : Thread Cert.DaIdeal.nD Cert.DaIdeal.τ).loc Cert.DaIdeal.main_v0) = v0 c
          ∧ r.2.mem ((c.tc : Thread Cert.DaIdeal.nD Cert.DaIdeal.τ).loc Cert.DaIdeal.main_arg0) = m ((c.tc : Thread Cert.DaIdeal.nD Cert.DaIdeal.τ).loc Cert.DaIdeal.main_arg0)
          ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
          ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
          ∧ r.2.mem ((c.tc : Thread Cert.DaIdeal.nD Cert.DaIdeal.τ).loc Cert.DaIdeal.main_arg3) = m ((c.tc : Thread Cert.DaIdeal.nD Cert.DaIdeal.τ).loc Cert.DaIdeal.main_arg3)
          ∧ r.2.mem ((c.tc : Thread Cert.DaIdeal.nD Cert.DaIdeal.τ).loc Cert.DaIdeal.main_arg4) = m ((c.tc : Thread Cert.DaIdeal.nD Cert.DaIdeal.τ).loc Cert.DaIdeal.main_arg4)
          ∧ r.2.mem ((c.tc : Thread Cert.DaIdeal.nD Cert.DaIdeal.τ).loc Cert.DaIdeal.main_arg5) = m ((c.tc : Thread Cert.DaIdeal.nD Cert.DaIdeal.τ).loc Cert.DaIdeal.main_arg5)
          ∧ r.2.mem ((c.tc : Thread Cert.DaIdeal.nD Cert.DaIdeal.τ).loc Cert.DaIdeal.main_arg6) = m ((c.tc : Thread Cert.DaIdeal.nD Cert.DaIdeal.τ).loc Cert.DaIdeal.main_arg6))
      ∧ θ_run (Cert.DaRefIdeal.defs (F := Ideal)) (onTc (τ := Cert.DaRefIdeal.τ) (Cert.DaRefIdeal.main (F := Ideal))) ⟨m', fun _ => 0, g'⟩ (fun r => ∀ c : Dev Cert.DaRefIdeal.nD,
          r.2.mem ((c.tc : Thread Cert.DaRefIdeal.nD Cert.DaRefIdeal.τ).loc Cert.DaRefIdeal.main_v67) = v0 c
          ∧ r.2.mem ((c.tc : Thread Cert.DaRefIdeal.nD Cert.DaRefIdeal.τ).loc Cert.DaRefIdeal.main_arg0) = m' ((c.tc : Thread Cert.DaRefIdeal.nD Cert.DaRefIdeal.τ).loc Cert.DaRefIdeal.main_arg0)
          ∧ r.2.mem ((c.tc : Thread Cert.DaRefIdeal.nD Cert.DaRefIdeal.τ).loc Cert.DaRefIdeal.main_arg1) = m' ((c.tc : Thread Cert.DaRefIdeal.nD Cert.DaRefIdeal.τ).loc Cert.DaRefIdeal.main_arg1)
          ∧ r.2.mem ((c.tc : Thread Cert.DaRefIdeal.nD Cert.DaRefIdeal.τ).loc Cert.DaRefIdeal.main_arg2) = m' ((c.tc : Thread Cert.DaRefIdeal.nD Cert.DaRefIdeal.τ).loc Cert.DaRefIdeal.main_arg2)
          ∧ r.2.mem ((c.tc : Thread Cert.DaRefIdeal.nD Cert.DaRefIdeal.τ).loc Cert.DaRefIdeal.main_arg3) = m' ((c.tc : Thread Cert.DaRefIdeal.nD Cert.DaRefIdeal.τ).loc Cert.DaRefIdeal.main_arg3)
          ∧ r.2.mem ((c.tc : Thread Cert.DaRefIdeal.nD Cert.DaRefIdeal.τ).loc Cert.DaRefIdeal.main_arg4) = m' ((c.tc : Thread Cert.DaRefIdeal.nD Cert.DaRefIdeal.τ).loc Cert.DaRefIdeal.main_arg4)
          ∧ r.2.mem ((c.tc : Thread Cert.DaRefIdeal.nD Cert.DaRefIdeal.τ).loc Cert.DaRefIdeal.main_arg5) = m' ((c.tc : Thread Cert.DaRefIdeal.nD Cert.DaRefIdeal.τ).loc Cert.DaRefIdeal.main_arg5)
          ∧ r.2.mem ((c.tc : Thread Cert.DaRefIdeal.nD Cert.DaRefIdeal.τ).loc Cert.DaRefIdeal.main_arg6) = m' ((c.tc : Thread Cert.DaRefIdeal.nD Cert.DaRefIdeal.τ).loc Cert.DaRefIdeal.main_arg6))

def preserves_Ds_DsIdeal : Prop :=
  IdealRules.named_const.Statement Cert.DsIdeal.κ "mask" .f32 0xF149F2CA#32 ⊥

def algebraic_DsIdeal_DsRefIdeal [hDsIdeal : Cert.DsIdeal.Facts] [hDsRefIdeal : Cert.DsRefIdeal.Facts] [hPre_past_and_finite : Cert.Pre_past_and_finite.Facts] : Prop :=
  ∀ (m : (ℓ : Loc Cert.DsIdeal.nD Cert.DsIdeal.τ Cert.DsIdeal.sig) → Buf (Elt Ideal) ℓ) (g : Dev Cert.DsIdeal.nD → PrngReg)
    (m' : (ℓ : Loc Cert.DsRefIdeal.nD Cert.DsRefIdeal.τ Cert.DsRefIdeal.sig) → Buf (Elt Ideal) ℓ) (g' : Dev Cert.DsRefIdeal.nD → PrngReg), Pre_DsIdeal m →
    (∀ c : Dev Cert.DsIdeal.nD,
      m' ((c.tc : Thread Cert.DsRefIdeal.nD Cert.DsRefIdeal.τ).loc Cert.DsRefIdeal.main_arg0) = m ((c.tc : Thread Cert.DsIdeal.nD Cert.DsIdeal.τ).loc Cert.DsIdeal.main_arg0)
      ∧ m' ((c.tc : Thread Cert.DsRefIdeal.nD Cert.DsRefIdeal.τ).loc Cert.DsRefIdeal.main_arg1) = m ((c.tc : Thread Cert.DsIdeal.nD Cert.DsIdeal.τ).loc Cert.DsIdeal.main_arg1)
      ∧ m' ((c.tc : Thread Cert.DsRefIdeal.nD Cert.DsRefIdeal.τ).loc Cert.DsRefIdeal.main_arg2) = m ((c.tc : Thread Cert.DsIdeal.nD Cert.DsIdeal.τ).loc Cert.DsIdeal.main_arg2)
      ∧ m' ((c.tc : Thread Cert.DsRefIdeal.nD Cert.DsRefIdeal.τ).loc Cert.DsRefIdeal.main_arg3) = m ((c.tc : Thread Cert.DsIdeal.nD Cert.DsIdeal.τ).loc Cert.DsIdeal.main_arg3)
      ∧ m' ((c.tc : Thread Cert.DsRefIdeal.nD Cert.DsRefIdeal.τ).loc Cert.DsRefIdeal.main_arg4) = m ((c.tc : Thread Cert.DsIdeal.nD Cert.DsIdeal.τ).loc Cert.DsIdeal.main_arg4)
      ∧ m' ((c.tc : Thread Cert.DsRefIdeal.nD Cert.DsRefIdeal.τ).loc Cert.DsRefIdeal.main_arg5) = m ((c.tc : Thread Cert.DsIdeal.nD Cert.DsIdeal.τ).loc Cert.DsIdeal.main_arg5)) →
    ∃ (v0 : (c : Dev Cert.DsIdeal.nD) → Buf (Elt Ideal) ((c.tc : Thread Cert.DsIdeal.nD Cert.DsIdeal.τ).loc Cert.DsIdeal.main_v0)),
      θ_run (Cert.DsIdeal.defs (F := Ideal)) (onTc (τ := Cert.DsIdeal.τ) (Cert.DsIdeal.main (F := Ideal))) ⟨m, fun _ => 0, g⟩ (fun r => ∀ c : Dev Cert.DsIdeal.nD,
          r.2.mem ((c.tc : Thread Cert.DsIdeal.nD Cert.DsIdeal.τ).loc Cert.DsIdeal.main_v0) = v0 c
          ∧ r.2.mem ((c.tc : Thread Cert.DsIdeal.nD Cert.DsIdeal.τ).loc Cert.DsIdeal.main_arg0) = m ((c.tc : Thread Cert.DsIdeal.nD Cert.DsIdeal.τ).loc Cert.DsIdeal.main_arg0)
          ∧ r.2.mem ((c.tc : Thread Cert.DsIdeal.nD Cert.DsIdeal.τ).loc Cert.DsIdeal.main_arg1) = m ((c.tc : Thread Cert.DsIdeal.nD Cert.DsIdeal.τ).loc Cert.DsIdeal.main_arg1)
          ∧ r.2.mem ((c.tc : Thread Cert.DsIdeal.nD Cert.DsIdeal.τ).loc Cert.DsIdeal.main_arg2) = m ((c.tc : Thread Cert.DsIdeal.nD Cert.DsIdeal.τ).loc Cert.DsIdeal.main_arg2)
          ∧ r.2.mem ((c.tc : Thread Cert.DsIdeal.nD Cert.DsIdeal.τ).loc Cert.DsIdeal.main_arg3) = m ((c.tc : Thread Cert.DsIdeal.nD Cert.DsIdeal.τ).loc Cert.DsIdeal.main_arg3)
          ∧ r.2.mem ((c.tc : Thread Cert.DsIdeal.nD Cert.DsIdeal.τ).loc Cert.DsIdeal.main_arg4) = m ((c.tc : Thread Cert.DsIdeal.nD Cert.DsIdeal.τ).loc Cert.DsIdeal.main_arg4)
          ∧ r.2.mem ((c.tc : Thread Cert.DsIdeal.nD Cert.DsIdeal.τ).loc Cert.DsIdeal.main_arg5) = m ((c.tc : Thread Cert.DsIdeal.nD Cert.DsIdeal.τ).loc Cert.DsIdeal.main_arg5))
      ∧ θ_run (Cert.DsRefIdeal.defs (F := Ideal)) (onTc (τ := Cert.DsRefIdeal.τ) (Cert.DsRefIdeal.main (F := Ideal))) ⟨m', fun _ => 0, g'⟩ (fun r => ∀ c : Dev Cert.DsRefIdeal.nD,
          r.2.mem ((c.tc : Thread Cert.DsRefIdeal.nD Cert.DsRefIdeal.τ).loc Cert.DsRefIdeal.main_v26) = v0 c
          ∧ r.2.mem ((c.tc : Thread Cert.DsRefIdeal.nD Cert.DsRefIdeal.τ).loc Cert.DsRefIdeal.main_arg0) = m' ((c.tc : Thread Cert.DsRefIdeal.nD Cert.DsRefIdeal.τ).loc Cert.DsRefIdeal.main_arg0)
          ∧ r.2.mem ((c.tc : Thread Cert.DsRefIdeal.nD Cert.DsRefIdeal.τ).loc Cert.DsRefIdeal.main_arg1) = m' ((c.tc : Thread Cert.DsRefIdeal.nD Cert.DsRefIdeal.τ).loc Cert.DsRefIdeal.main_arg1)
          ∧ r.2.mem ((c.tc : Thread Cert.DsRefIdeal.nD Cert.DsRefIdeal.τ).loc Cert.DsRefIdeal.main_arg2) = m' ((c.tc : Thread Cert.DsRefIdeal.nD Cert.DsRefIdeal.τ).loc Cert.DsRefIdeal.main_arg2)
          ∧ r.2.mem ((c.tc : Thread Cert.DsRefIdeal.nD Cert.DsRefIdeal.τ).loc Cert.DsRefIdeal.main_arg3) = m' ((c.tc : Thread Cert.DsRefIdeal.nD Cert.DsRefIdeal.τ).loc Cert.DsRefIdeal.main_arg3)
          ∧ r.2.mem ((c.tc : Thread Cert.DsRefIdeal.nD Cert.DsRefIdeal.τ).loc Cert.DsRefIdeal.main_arg4) = m' ((c.tc : Thread Cert.DsRefIdeal.nD Cert.DsRefIdeal.τ).loc Cert.DsRefIdeal.main_arg4)
          ∧ r.2.mem ((c.tc : Thread Cert.DsRefIdeal.nD Cert.DsRefIdeal.τ).loc Cert.DsRefIdeal.main_arg5) = m' ((c.tc : Thread Cert.DsRefIdeal.nD Cert.DsRefIdeal.τ).loc Cert.DsRefIdeal.main_arg5))

def preserves_Expert_ExpertIdeal : Prop :=
  True

def algebraic_ExpertIdeal_ExpertRefIdeal [hExpertIdeal : Cert.ExpertIdeal.Facts] [hExpertRefIdeal : Cert.ExpertRefIdeal.Facts] : Prop :=
  ∀ (m : (ℓ : Loc Cert.ExpertIdeal.nD Cert.ExpertIdeal.τ Cert.ExpertIdeal.sig) → Buf (Elt Ideal) ℓ) (g : Dev Cert.ExpertIdeal.nD → PrngReg)
    (m' : (ℓ : Loc Cert.ExpertRefIdeal.nD Cert.ExpertRefIdeal.τ Cert.ExpertRefIdeal.sig) → Buf (Elt Ideal) ℓ) (g' : Dev Cert.ExpertRefIdeal.nD → PrngReg), Pre_ExpertIdeal m →
    (∀ c : Dev Cert.ExpertIdeal.nD,
      m' ((c.tc : Thread Cert.ExpertRefIdeal.nD Cert.ExpertRefIdeal.τ).loc Cert.ExpertRefIdeal.main_arg0) = m ((c.tc : Thread Cert.ExpertIdeal.nD Cert.ExpertIdeal.τ).loc Cert.ExpertIdeal.main_arg0)
      ∧ m' ((c.tc : Thread Cert.ExpertRefIdeal.nD Cert.ExpertRefIdeal.τ).loc Cert.ExpertRefIdeal.main_arg1) = m ((c.tc : Thread Cert.ExpertIdeal.nD Cert.ExpertIdeal.τ).loc Cert.ExpertIdeal.main_arg1)
      ∧ m' ((c.tc : Thread Cert.ExpertRefIdeal.nD Cert.ExpertRefIdeal.τ).loc Cert.ExpertRefIdeal.main_arg2) = m ((c.tc : Thread Cert.ExpertIdeal.nD Cert.ExpertIdeal.τ).loc Cert.ExpertIdeal.main_arg2)
      ∧ m' ((c.tc : Thread Cert.ExpertRefIdeal.nD Cert.ExpertRefIdeal.τ).loc Cert.ExpertRefIdeal.main_arg3) = m ((c.tc : Thread Cert.ExpertIdeal.nD Cert.ExpertIdeal.τ).loc Cert.ExpertIdeal.main_arg3)
      ∧ m' ((c.tc : Thread Cert.ExpertRefIdeal.nD Cert.ExpertRefIdeal.τ).loc Cert.ExpertRefIdeal.main_arg4) = m ((c.tc : Thread Cert.ExpertIdeal.nD Cert.ExpertIdeal.τ).loc Cert.ExpertIdeal.main_arg4)
      ∧ m' ((c.tc : Thread Cert.ExpertRefIdeal.nD Cert.ExpertRefIdeal.τ).loc Cert.ExpertRefIdeal.main_arg5) = m ((c.tc : Thread Cert.ExpertIdeal.nD Cert.ExpertIdeal.τ).loc Cert.ExpertIdeal.main_arg5)) →
    ∃ (v0 : (c : Dev Cert.ExpertIdeal.nD) → Buf (Elt Ideal) ((c.tc : Thread Cert.ExpertIdeal.nD Cert.ExpertIdeal.τ).loc Cert.ExpertIdeal.main_v2)),
      θ_run (Cert.ExpertIdeal.defs (F := Ideal)) (onTc (τ := Cert.ExpertIdeal.τ) (Cert.ExpertIdeal.main (F := Ideal))) ⟨m, fun _ => 0, g⟩ (fun r => ∀ c : Dev Cert.ExpertIdeal.nD,
          r.2.mem ((c.tc : Thread Cert.ExpertIdeal.nD Cert.ExpertIdeal.τ).loc Cert.ExpertIdeal.main_v2) = v0 c
          ∧ r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
          ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
          ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
          ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
          ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4)
          ∧ r.2.mem ((c.tc : Thread Cert.ExpertIdeal.nD Cert.ExpertIdeal.τ).loc Cert.ExpertIdeal.main_arg5) = m ((c.tc : Thread Cert.ExpertIdeal.nD Cert.ExpertIdeal.τ).loc Cert.ExpertIdeal.main_arg5))
      ∧ θ_run (Cert.ExpertRefIdeal.defs (F := Ideal)) (onTc (τ := Cert.ExpertRefIdeal.τ) (Cert.ExpertRefIdeal.main (F := Ideal))) ⟨m', fun _ => 0, g'⟩ (fun r => ∀ c : Dev Cert.ExpertRefIdeal.nD,
          r.2.mem ((c.tc : Thread Cert.ExpertRefIdeal.nD Cert.ExpertRefIdeal.τ).loc Cert.ExpertRefIdeal.main_v30) = v0 c
          ∧ r.2.mem ((c.tc : Thread Cert.ExpertRefIdeal.nD Cert.ExpertRefIdeal.τ).loc Cert.ExpertRefIdeal.main_arg0) = m' ((c.tc : Thread Cert.ExpertRefIdeal.nD Cert.ExpertRefIdeal.τ).loc Cert.ExpertRefIdeal.main_arg0)
          ∧ r.2.mem ((c.tc : Thread Cert.ExpertRefIdeal.nD Cert.ExpertRefIdeal.τ).loc Cert.ExpertRefIdeal.main_arg1) = m' ((c.tc : Thread Cert.ExpertRefIdeal.nD Cert.ExpertRefIdeal.τ).loc Cert.ExpertRefIdeal.main_arg1)
          ∧ r.2.mem ((c.tc : Thread Cert.ExpertRefIdeal.nD Cert.ExpertRefIdeal.τ).loc Cert.ExpertRefIdeal.main_arg2) = m' ((c.tc : Thread Cert.ExpertRefIdeal.nD Cert.ExpertRefIdeal.τ).loc Cert.ExpertRefIdeal.main_arg2)
          ∧ r.2.mem ((c.tc : Thread Cert.ExpertRefIdeal.nD Cert.ExpertRefIdeal.τ).loc Cert.ExpertRefIdeal.main_arg3) = m' ((c.tc : Thread Cert.ExpertRefIdeal.nD Cert.ExpertRefIdeal.τ).loc Cert.ExpertRefIdeal.main_arg3)
          ∧ r.2.mem ((c.tc : Thread Cert.ExpertRefIdeal.nD Cert.ExpertRefIdeal.τ).loc Cert.ExpertRefIdeal.main_arg4) = m' ((c.tc : Thread Cert.ExpertRefIdeal.nD Cert.ExpertRefIdeal.τ).loc Cert.ExpertRefIdeal.main_arg4)
          ∧ r.2.mem ((c.tc : Thread Cert.ExpertRefIdeal.nD Cert.ExpertRefIdeal.τ).loc Cert.ExpertRefIdeal.main_arg5) = m' ((c.tc : Thread Cert.ExpertRefIdeal.nD Cert.ExpertRefIdeal.τ).loc Cert.ExpertRefIdeal.main_arg5))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v17)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v17) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v15) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Pq_PqIdeal : Prop :=
  True

def algebraic_PqIdeal_PqRefIdeal [hPqIdeal : Cert.PqIdeal.Facts] [hPqRefIdeal : Cert.PqRefIdeal.Facts] : Prop :=
  ∀ (m : (ℓ : Loc Cert.PqIdeal.nD Cert.PqIdeal.τ Cert.PqIdeal.sig) → Buf (Elt Ideal) ℓ) (g : Dev Cert.PqIdeal.nD → PrngReg)
    (m' : (ℓ : Loc Cert.PqRefIdeal.nD Cert.PqRefIdeal.τ Cert.PqRefIdeal.sig) → Buf (Elt Ideal) ℓ) (g' : Dev Cert.PqRefIdeal.nD → PrngReg), Pre_PqIdeal m →
    (∀ c : Dev Cert.PqIdeal.nD,
      m' ((c.tc : Thread Cert.PqRefIdeal.nD Cert.PqRefIdeal.τ).loc Cert.PqRefIdeal.main_arg0) = m ((c.tc : Thread Cert.PqIdeal.nD Cert.PqIdeal.τ).loc Cert.PqIdeal.main_arg0)
      ∧ m' ((c.tc : Thread Cert.PqRefIdeal.nD Cert.PqRefIdeal.τ).loc Cert.PqRefIdeal.main_arg1) = m ((c.tc : Thread Cert.PqIdeal.nD Cert.PqIdeal.τ).loc Cert.PqIdeal.main_arg1)) →
    ∃ (v0 : (c : Dev Cert.PqIdeal.nD) → Buf (Elt Ideal) ((c.tc : Thread Cert.PqIdeal.nD Cert.PqIdeal.τ).loc Cert.PqIdeal.main_v1)),
      θ_run (Cert.PqIdeal.defs (F := Ideal)) (onTc (τ := Cert.PqIdeal.τ) (Cert.PqIdeal.main (F := Ideal))) ⟨m, fun _ => 0, g⟩ (fun r => ∀ c : Dev Cert.PqIdeal.nD,
          r.2.mem ((c.tc : Thread Cert.PqIdeal.nD Cert.PqIdeal.τ).loc Cert.PqIdeal.main_v1) = v0 c
          ∧ r.2.mem ((c.tc : Thread Cert.PqIdeal.nD Cert.PqIdeal.τ).loc Cert.PqIdeal.main_arg0) = m ((c.tc : Thread Cert.PqIdeal.nD Cert.PqIdeal.τ).loc Cert.PqIdeal.main_arg0)
          ∧ r.2.mem ((c.tc : Thread Cert.PqIdeal.nD Cert.PqIdeal.τ).loc Cert.PqIdeal.main_arg1) = m ((c.tc : Thread Cert.PqIdeal.nD Cert.PqIdeal.τ).loc Cert.PqIdeal.main_arg1))
      ∧ θ_run (Cert.PqRefIdeal.defs (F := Ideal)) (onTc (τ := Cert.PqRefIdeal.τ) (Cert.PqRefIdeal.main (F := Ideal))) ⟨m', fun _ => 0, g'⟩ (fun r => ∀ c : Dev Cert.PqRefIdeal.nD,
          r.2.mem ((c.tc : Thread Cert.PqRefIdeal.nD Cert.PqRefIdeal.τ).loc Cert.PqRefIdeal.main_v1) = v0 c
          ∧ r.2.mem ((c.tc : Thread Cert.PqRefIdeal.nD Cert.PqRefIdeal.τ).loc Cert.PqRefIdeal.main_arg0) = m' ((c.tc : Thread Cert.PqRefIdeal.nD Cert.PqRefIdeal.τ).loc Cert.PqRefIdeal.main_arg0)
          ∧ r.2.mem ((c.tc : Thread Cert.PqRefIdeal.nD Cert.PqRefIdeal.τ).loc Cert.PqRefIdeal.main_arg1) = m' ((c.tc : Thread Cert.PqRefIdeal.nD Cert.PqRefIdeal.τ).loc Cert.PqRefIdeal.main_arg1))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v3) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v10) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)
      ∧ m' ((c.tc : Thread Cert.SumRefIdeal.nD Cert.SumRefIdeal.τ).loc Cert.SumRefIdeal.main_arg1) = m ((c.tc : Thread Cert.SumIdeal.nD Cert.SumIdeal.τ).loc Cert.SumIdeal.main_arg1)
      ∧ m' ((c.tc : Thread Cert.SumRefIdeal.nD Cert.SumRefIdeal.τ).loc Cert.SumRefIdeal.main_arg2) = m ((c.tc : Thread Cert.SumIdeal.nD Cert.SumIdeal.τ).loc Cert.SumIdeal.main_arg2)) →
    ∃ (v0 : (c : Dev Cert.SumIdeal.nD) → Buf (Elt Ideal) ((c.tc : Thread Cert.SumIdeal.nD Cert.SumIdeal.τ).loc Cert.SumIdeal.main_v1_0)) (v1 : (c : Dev Cert.SumIdeal.nD) → Buf (Elt Ideal) ((c.tc : Thread Cert.SumIdeal.nD Cert.SumIdeal.τ).loc Cert.SumIdeal.main_v1_1)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v1_0) = v0 c
          ∧ r.2.mem ((c.tc : Thread Cert.SumIdeal.nD Cert.SumIdeal.τ).loc Cert.SumIdeal.main_v1_1) = v1 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0)
          ∧ r.2.mem ((c.tc : Thread Cert.SumIdeal.nD Cert.SumIdeal.τ).loc Cert.SumIdeal.main_arg1) = m ((c.tc : Thread Cert.SumIdeal.nD Cert.SumIdeal.τ).loc Cert.SumIdeal.main_arg1)
          ∧ r.2.mem ((c.tc : Thread Cert.SumIdeal.nD Cert.SumIdeal.τ).loc Cert.SumIdeal.main_arg2) = m ((c.tc : Thread Cert.SumIdeal.nD Cert.SumIdeal.τ).loc Cert.SumIdeal.main_arg2))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v0) = v0 c
          ∧ r.2.mem ((c.tc : Thread Cert.SumRefIdeal.nD Cert.SumRefIdeal.τ).loc Cert.SumRefIdeal.main_v14) = v1 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0)
          ∧ r.2.mem ((c.tc : Thread Cert.SumRefIdeal.nD Cert.SumRefIdeal.τ).loc Cert.SumRefIdeal.main_arg1) = m' ((c.tc : Thread Cert.SumRefIdeal.nD Cert.SumRefIdeal.τ).loc Cert.SumRefIdeal.main_arg1)
          ∧ r.2.mem ((c.tc : Thread Cert.SumRefIdeal.nD Cert.SumRefIdeal.τ).loc Cert.SumRefIdeal.main_arg2) = m' ((c.tc : Thread Cert.SumRefIdeal.nD Cert.SumRefIdeal.τ).loc Cert.SumRefIdeal.main_arg2))

def Claim : Prop :=
  ∃ (hDa : Cert.Da.Facts) (hDaIdeal : Cert.DaIdeal.Facts) (hDaRefIdeal : Cert.DaRefIdeal.Facts) (hDs : Cert.Ds.Facts) (hDsIdeal : Cert.DsIdeal.Facts) (hDsRefIdeal : Cert.DsRefIdeal.Facts) (hExpert : Cert.Expert.Facts) (hExpertIdeal : Cert.ExpertIdeal.Facts) (hExpertRefIdeal : Cert.ExpertRefIdeal.Facts) (hIn : Cert.In.Facts) (hInIdeal : Cert.InIdeal.Facts) (hInRefIdeal : Cert.InRefIdeal.Facts) (hOut : Cert.Out.Facts) (hOutIdeal : Cert.OutIdeal.Facts) (hOutRefIdeal : Cert.OutRefIdeal.Facts) (hPq : Cert.Pq.Facts) (hPqIdeal : Cert.PqIdeal.Facts) (hPqRefIdeal : Cert.PqRefIdeal.Facts) (hPle : Cert.Ple.Facts) (hPleIdeal : Cert.PleIdeal.Facts) (hPleRefIdeal : Cert.PleRefIdeal.Facts) (hNorm : Cert.Norm.Facts) (hNormIdeal : Cert.NormIdeal.Facts) (hNormRefIdeal : Cert.NormRefIdeal.Facts) (hSum : Cert.Sum.Facts) (hSumIdeal : Cert.SumIdeal.Facts) (hSumRefIdeal : Cert.SumRefIdeal.Facts) (hPre_causal_and_finite : Cert.Pre_causal_and_finite.Facts) (hPre_past_and_finite : Cert.Pre_past_and_finite.Facts),
    quiescent_Da (hDa := hDa) (hPre_causal_and_finite := hPre_causal_and_finite)
    ∧ quiescent_DaIdeal (hDaIdeal := hDaIdeal) (hPre_causal_and_finite := hPre_causal_and_finite)
    ∧ quiescent_DaRefIdeal (hDaRefIdeal := hDaRefIdeal)
    ∧ quiescent_DaRefIdeal_pre_causal_and_finite (hDaRefIdeal := hDaRefIdeal) (hPre_causal_and_finite := hPre_causal_and_finite)
    ∧ quiescent_Ds (hDs := hDs) (hPre_past_and_finite := hPre_past_and_finite)
    ∧ quiescent_DsIdeal (hDsIdeal := hDsIdeal) (hPre_past_and_finite := hPre_past_and_finite)
    ∧ quiescent_DsRefIdeal (hDsRefIdeal := hDsRefIdeal)
    ∧ quiescent_DsRefIdeal_pre_past_and_finite (hDsRefIdeal := hDsRefIdeal) (hPre_past_and_finite := hPre_past_and_finite)
    ∧ quiescent_Expert (hExpert := hExpert)
    ∧ quiescent_ExpertIdeal (hExpertIdeal := hExpertIdeal)
    ∧ quiescent_ExpertRefIdeal (hExpertRefIdeal := hExpertRefIdeal)
    ∧ quiescent_In (hIn := hIn)
    ∧ quiescent_InIdeal (hInIdeal := hInIdeal)
    ∧ quiescent_InRefIdeal (hInRefIdeal := hInRefIdeal)
    ∧ quiescent_Out (hOut := hOut)
    ∧ quiescent_OutIdeal (hOutIdeal := hOutIdeal)
    ∧ quiescent_OutRefIdeal (hOutRefIdeal := hOutRefIdeal)
    ∧ quiescent_Pq (hPq := hPq)
    ∧ quiescent_PqIdeal (hPqIdeal := hPqIdeal)
    ∧ quiescent_PqRefIdeal (hPqRefIdeal := hPqRefIdeal)
    ∧ quiescent_Ple (hPle := hPle)
    ∧ quiescent_PleIdeal (hPleIdeal := hPleIdeal)
    ∧ quiescent_PleRefIdeal (hPleRefIdeal := hPleRefIdeal)
    ∧ quiescent_Norm (hNorm := hNorm)
    ∧ quiescent_NormIdeal (hNormIdeal := hNormIdeal)
    ∧ quiescent_NormRefIdeal (hNormRefIdeal := hNormRefIdeal)
    ∧ quiescent_Sum (hSum := hSum)
    ∧ quiescent_SumIdeal (hSumIdeal := hSumIdeal)
    ∧ quiescent_SumRefIdeal (hSumRefIdeal := hSumRefIdeal)
    ∧ preserves_Da_DaIdeal
    ∧ algebraic_DaIdeal_DaRefIdeal (hDaIdeal := hDaIdeal) (hDaRefIdeal := hDaRefIdeal) (hPre_causal_and_finite := hPre_causal_and_finite)
    ∧ preserves_Ds_DsIdeal
    ∧ algebraic_DsIdeal_DsRefIdeal (hDsIdeal := hDsIdeal) (hDsRefIdeal := hDsRefIdeal) (hPre_past_and_finite := hPre_past_and_finite)
    ∧ preserves_Expert_ExpertIdeal
    ∧ algebraic_ExpertIdeal_ExpertRefIdeal (hExpertIdeal := hExpertIdeal) (hExpertRefIdeal := hExpertRefIdeal)
    ∧ preserves_In_InIdeal
    ∧ algebraic_InIdeal_InRefIdeal (hInIdeal := hInIdeal) (hInRefIdeal := hInRefIdeal)
    ∧ preserves_Out_OutIdeal
    ∧ algebraic_OutIdeal_OutRefIdeal (hOutIdeal := hOutIdeal) (hOutRefIdeal := hOutRefIdeal)
    ∧ preserves_Pq_PqIdeal
    ∧ algebraic_PqIdeal_PqRefIdeal (hPqIdeal := hPqIdeal) (hPqRefIdeal := hPqRefIdeal)
    ∧ preserves_Ple_PleIdeal
    ∧ algebraic_PleIdeal_PleRefIdeal (hPleIdeal := hPleIdeal) (hPleRefIdeal := hPleRefIdeal)
    ∧ preserves_Norm_NormIdeal
    ∧ algebraic_NormIdeal_NormRefIdeal (hNormIdeal := hNormIdeal) (hNormRefIdeal := hNormRefIdeal)
    ∧ preserves_Sum_SumIdeal
    ∧ algebraic_SumIdeal_SumRefIdeal (hSumIdeal := hSumIdeal) (hSumRefIdeal := hSumRefIdeal)
-- ==== Pre_causal_and_finite.lean ====
abbrev S136 : Shape := ⟨1, ![136]⟩
abbrev S16384x1024 : Shape := ⟨2, ![16384, 1024]⟩
abbrev S1024x16384 : Shape := ⟨2, ![1024, 16384]⟩
abbrev S4x64 : Shape := ⟨2, ![4, 64]⟩
abbrev S128x1 : Shape := ⟨2, ![128, 1]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S4x64 : S_.BroadcastsInDim S4x64 (![] : Fin 0 → Fin S4x64.rank)
  reducesTo_S4x64_S_d0_1 : S4x64.ReducesTo [0, 1] S_
  reducesTo_S136_S_d0 : S136.ReducesTo [0] S_

variable [Facts]

noncomputable abbrev lit0 : Fin 136 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32 | 36 => 8#32 | 37 => 8#32 | 38 => 8#32 | 39 => 8#32
  | 40 => 8#32 | 41 => 8#32 | 42 => 8#32 | 43 => 8#32 | 44 => 8#32 | 45 => 9#32 | 46 => 9#32 | 47 => 9#32
  | 48 => 9#32 | 49 => 9#32 | 50 => 9#32 | 51 => 9#32 | 52 => 9#32 | 53 => 9#32 | 54 => 9#32 | 55 => 10#32
  | 56 => 10#32 | 57 => 10#32 | 58 => 10#32 | 59 => 10#32 | 60 => 10#32 | 61 => 10#32 | 62 => 10#32 | 63 => 10#32
  | 64 => 10#32 | 65 => 10#32 | 66 => 11#32 | 67 => 11#32 | 68 => 11#32 | 69 => 11#32 | 70 => 11#32 | 71 => 11#32
  | 72 => 11#32 | 73 => 11#32 | 74 => 11#32 | 75 => 11#32 | 76 => 11#32 | 77 => 11#32 | 78 => 12#32 | 79 => 12#32
  | 80 => 12#32 | 81 => 12#32 | 82 => 12#32 | 83 => 12#32 | 84 => 12#32 | 85 => 12#32 | 86 => 12#32 | 87 => 12#32
  | 88 => 12#32 | 89 => 12#32 | 90 => 12#32 | 91 => 13#32 | 92 => 13#32 | 93 => 13#32 | 94 => 13#32 | 95 => 13#32
  | 96 => 13#32 | 97 => 13#32 | 98 => 13#32 | 99 => 13#32 | 100 => 13#32 | 101 => 13#32 | 102 => 13#32 | 103 => 13#32
  | 104 => 13#32 | 105 => 14#32 | 106 => 14#32 | 107 => 14#32 | 108 => 14#32 | 109 => 14#32 | 110 => 14#32 | 111 => 14#32
  | 112 => 14#32 | 113 => 14#32 | 114 => 14#32 | 115 => 14#32 | 116 => 14#32 | 117 => 14#32 | 118 => 14#32 | 119 => 14#32
  | 120 => 15#32 | 121 => 15#32 | 122 => 15#32 | 123 => 15#32 | 124 => 15#32 | 125 => 15#32 | 126 => 15#32 | 127 => 15#32
  | 128 => 15#32 | 129 => 15#32 | 130 => 15#32 | 131 => 15#32 | 132 => 15#32 | 133 => 15#32 | 134 => 15#32 | 135 => 15#32
  | _ => 0#32

noncomputable abbrev lit1 : Fin 136 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32 | 36 => 0#32 | 37 => 1#32 | 38 => 2#32 | 39 => 3#32
  | 40 => 4#32 | 41 => 5#32 | 42 => 6#32 | 43 => 7#32 | 44 => 8#32 | 45 => 0#32 | 46 => 1#32 | 47 => 2#32
  | 48 => 3#32 | 49 => 4#32 | 50 => 5#32 | 51 => 6#32 | 52 => 7#32 | 53 => 8#32 | 54 => 9#32 | 55 => 0#32
  | 56 => 1#32 | 57 => 2#32 | 58 => 3#32 | 59 => 4#32 | 60 => 5#32 | 61 => 6#32 | 62 => 7#32 | 63 => 8#32
  | 64 => 9#32 | 65 => 10#32 | 66 => 0#32 | 67 => 1#32 | 68 => 2#32 | 69 => 3#32 | 70 => 4#32 | 71 => 5#32
  | 72 => 6#32 | 73 => 7#32 | 74 => 8#32 | 75 => 9#32 | 76 => 10#32 | 77 => 11#32 | 78 => 0#32 | 79 => 1#32
  | 80 => 2#32 | 81 => 3#32 | 82 => 4#32 | 83 => 5#32 | 84 => 6#32 | 85 => 7#32 | 86 => 8#32 | 87 => 9#32
  | 88 => 10#32 | 89 => 11#32 | 90 => 12#32 | 91 => 0#32 | 92 => 1#32 | 93 => 2#32 | 94 => 3#32 | 95 => 4#32
  | 96 => 5#32 | 97 => 6#32 | 98 => 7#32 | 99 => 8#32 | 100 => 9#32 | 101 => 10#32 | 102 => 11#32 | 103 => 12#32
  | 104 => 13#32 | 105 => 0#32 | 106 => 1#32 | 107 => 2#32 | 108 => 3#32 | 109 => 4#32 | 110 => 5#32 | 111 => 6#32
  | 112 => 7#32 | 113 => 8#32 | 114 => 9#32 | 115 => 10#32 | 116 => 11#32 | 117 => 12#32 | 118 => 13#32 | 119 => 14#32
  | 120 => 0#32 | 121 => 1#32 | 122 => 2#32 | 123 => 3#32 | 124 => 4#32 | 125 => 5#32 | 126 => 6#32 | 127 => 7#32
  | 128 => 8#32 | 129 => 9#32 | 130 => 10#32 | 131 => 11#32 | 132 => 12#32 | 133 => 13#32 | 134 => 14#32 | 135 => 15#32
  | _ => 0#32

def fn_part1 {F : FTy → Type} [FloatOps F] (main_arg0 : IVec S136 32) (main_arg1 : IVec S136 32) (main_c : IVec S136 32) (main_c_0 : IVec S136 32) (main_v4 : IVec S_ 1) (main_v9 : IVec S_ 1) (main_v14 : IVec S_ 1) (main_v15 : FVec F S4x64 .f32) : IVec S_ 1 :=
  let main_cst_6 : FVec F S_ .f32 := constant S_ .f32 0x7F800000#32
  let main_v16 : FVec F S4x64 .f32 := broadcastInDim S4x64 ![] bcast_S_S4x64 main_cst_6
  let main_v17 : IVec S4x64 1 := cmpf .olt main_v15 main_v16
  let main_c_7 : IVec S_ 1 := constantI S_ 1 1#1
  let main_v18 : IVec S_ 1 := (fun x v => Host.reduce IntOp.andi x v reducesTo_S4x64_S_d0_1 h_S_) main_v17 main_c_7
  let main_v19 : IVec S136 1 := cmpi .eq main_arg0 main_c
  let main_c_8 : IVec S_ 1 := constantI S_ 1 1#1
  let main_v20 : IVec S_ 1 := (fun x v => Host.reduce IntOp.andi x v reducesTo_S136_S_d0 h_S_) main_v19 main_c_8
  let main_v21 : IVec S136 1 := cmpi .eq main_arg1 main_c_0
  let main_c_9 : IVec S_ 1 := constantI S_ 1 1#1
  let main_v22 : IVec S_ 1 := (fun x v => Host.reduce IntOp.andi x v reducesTo_S136_S_d0 h_S_) main_v21 main_c_9
  let main_v23 : IVec S_ 1 := andi main_v20 main_v22
  let main_v24 : IVec S_ 1 := andi main_v23 main_v4
  let main_v25 : IVec S_ 1 := andi main_v24 main_v9
  let main_v26 : IVec S_ 1 := andi main_v25 main_v14
  let main_v27 : IVec S_ 1 := andi main_v26 main_v18
  main_v27

def fn {F : FTy → Type} [FloatOps F] (main_arg0 : IVec S136 32) (main_arg1 : IVec S136 32) (main_arg2 : FVec F S16384x1024 .bf16) (main_arg3 : FVec F S16384x1024 .bf16) (main_arg4 : FVec F S1024x16384 .bf16) (main_arg5 : FVec F S4x64 .f32) (main_arg6 : FVec F S128x1 .f32) : IVec S_ 1 :=
  let main_c : IVec S136 32 := fun i => lit0 (S136.rowMajor i)
  let main_c_0 : IVec S136 32 := fun i => lit1 (S136.rowMajor i)
  let main_v0 : FVec F S16384x1024 .f32 := (extf .f32 · bitsLt_bf16_f32) main_arg2
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c_1 : IVec S_ 1 := constantI S_ 1 1#1
  let main_v4 : IVec S_ 1 := (fun x v => Host.reduce IntOp.andi x v reducesTo_S16384x1024_S_d0_1 h_S_) main_v3 main_c_1
  let main_v5 : FVec F S16384x1024 .f32 := (extf .f32 · bitsLt_bf16_f32) main_arg3
  let main_v6 : FVec F S16384x1024 .f32 := Host.absf main_v5
  let main_cst_2 : FVec F S_ .f32 := constant S_ .f32 0x7F800000#32
  let main_v7 : FVec F S16384x1024 .f32 := broadcastInDim S16384x1024 ![] bcast_S_S16384x1024 main_cst_2
  let main_v8 : IVec S16384x1024 1 := cmpf .olt main_v6 main_v7
  let main_c_3 : IVec S_ 1 := constantI S_ 1 1#1
  let main_v9 : IVec S_ 1 := (fun x v => Host.reduce IntOp.andi x v reducesTo_S16384x1024_S_d0_1 h_S_) main_v8 main_c_3
  let main_v10 : FVec F S1024x16384 .f32 := (extf .f32 · bitsLt_bf16_f32) main_arg4
  let main_v11 : FVec F S1024x16384 .f32 := Host.absf main_v10
  let main_cst_4 : FVec F S_ .f32 := constant S_ .f32 0x7F800000#32
  let main_v12 : FVec F S1024x16384 .f32 := broadcastInDim S1024x16384 ![] bcast_S_S1024x16384 main_cst_4
  let main_v13 : IVec S1024x16384 1 := cmpf .olt main_v11 main_v12
  let main_c_5 : IVec S_ 1 := constantI S_ 1 1#1
  let main_v14 : IVec S_ 1 := (fun x v => Host.reduce IntOp.andi x v reducesTo_S1024x16384_S_d0_1 h_S_) main_v13 main_c_5
  let main_v15 : FVec F S4x64 .f32 := Host.absf main_arg5
  fn_part1 (F := F) main_arg0 main_arg1 main_c main_c_0 main_v4 main_v9 main_v14 main_v15
-- ==== Pre_past_and_finite.lean ====
abbrev S136 : Shape := ⟨1, ![136]⟩
abbrev S16384x1024 : Shape := ⟨2, ![16384, 1024]⟩
abbrev S1024x16384 : Shape := ⟨2, ![1024, 16384]⟩
abbrev S16384x16384 : Shape := ⟨2, ![16384, 16384]⟩
abbrev S_ : Shape := ⟨0, ![]⟩
abbrev S16384 : Shape := ⟨1, ![16384]⟩
abbrev S16384x1 : Shape := ⟨2, ![16384, 1]⟩
abbrev S1x16384 : Shape := ⟨2, ![1, 16384]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S16384x16384 : S_.BroadcastsInDim S16384x16384 (![] : Fin 0 → Fin S16384x16384.rank)
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  reducesTo_S16384x16384_S_d0_1 : S16384x16384.ReducesTo [0, 1] S_
  reducesTo_S16384x16384_S16384_d0 : S16384x16384.ReducesTo [0] S16384
  bcast_S_S16384 : S_.BroadcastsInDim S16384 (![] : Fin 0 → Fin S16384.rank)
  reducesTo_S16384_S_d0 : S16384.ReducesTo [0] S_
  reducesTo_S136_S_d0 : S136.ReducesTo [0] S_

variable [Facts]

noncomputable abbrev lit0 : Fin 136 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32 | 36 => 8#32 | 37 => 8#32 | 38 => 8#32 | 39 => 8#32
  | 40 => 8#32 | 41 => 8#32 | 42 => 8#32 | 43 => 8#32 | 44 => 8#32 | 45 => 9#32 | 46 => 9#32 | 47 => 9#32
  | 48 => 9#32 | 49 => 9#32 | 50 => 9#32 | 51 => 9#32 | 52 => 9#32 | 53 => 9#32 | 54 => 9#32 | 55 => 10#32
  | 56 => 10#32 | 57 => 10#32 | 58 => 10#32 | 59 => 10#32 | 60 => 10#32 | 61 => 10#32 | 62 => 10#32 | 63 => 10#32
  | 64 => 10#32 | 65 => 10#32 | 66 => 11#32 | 67 => 11#32 | 68 => 11#32 | 69 => 11#32 | 70 => 11#32 | 71 => 11#32
  | 72 => 11#32 | 73 => 11#32 | 74 => 11#32 | 75 => 11#32 | 76 => 11#32 | 77 => 11#32 | 78 => 12#32 | 79 => 12#32
  | 80 => 12#32 | 81 => 12#32 | 82 => 12#32 | 83 => 12#32 | 84 => 12#32 | 85 => 12#32 | 86 => 12#32 | 87 => 12#32
  | 88 => 12#32 | 89 => 12#32 | 90 => 12#32 | 91 => 13#32 | 92 => 13#32 | 93 => 13#32 | 94 => 13#32 | 95 => 13#32
  | 96 => 13#32 | 97 => 13#32 | 98 => 13#32 | 99 => 13#32 | 100 => 13#32 | 101 => 13#32 | 102 => 13#32 | 103 => 13#32
  | 104 => 13#32 | 105 => 14#32 | 106 => 14#32 | 107 => 14#32 | 108 => 14#32 | 109 => 14#32 | 110 => 14#32 | 111 => 14#32
  | 112 => 14#32 | 113 => 14#32 | 114 => 14#32 | 115 => 14#32 | 116 => 14#32 | 117 => 14#32 | 118 => 14#32 | 119 => 14#32
  | 120 => 15#32 | 121 => 15#32 | 122 => 15#32 | 123 => 15#32 | 124 => 15#32 | 125 => 15#32 | 126 => 15#32 | 127 => 15#32
  | 128 => 15#32 | 129 => 15#32 | 130 => 15#32 | 131 => 15#32 | 132 => 15#32 | 133 => 15#32 | 134 => 15#32 | 135 => 15#32
  | _ => 0#32

noncomputable abbrev lit1 : Fin 136 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32 | 36 => 0#32 | 37 => 1#32 | 38 => 2#32 | 39 => 3#32
  | 40 => 4#32 | 41 => 5#32 | 42 => 6#32 | 43 => 7#32 | 44 => 8#32 | 45 => 0#32 | 46 => 1#32 | 47 => 2#32
  | 48 => 3#32 | 49 => 4#32 | 50 => 5#32 | 51 => 6#32 | 52 => 7#32 | 53 => 8#32 | 54 => 9#32 | 55 => 0#32
  | 56 => 1#32 | 57 => 2#32 | 58 => 3#32 | 59 => 4#32 | 60 => 5#32 | 61 => 6#32 | 62 => 7#32 | 63 => 8#32
  | 64 => 9#32 | 65 => 10#32 | 66 => 0#32 | 67 => 1#32 | 68 => 2#32 | 69 => 3#32 | 70 => 4#32 | 71 => 5#32
  | 72 => 6#32 | 73 => 7#32 | 74 => 8#32 | 75 => 9#32 | 76 => 10#32 | 77 => 11#32 | 78 => 0#32 | 79 => 1#32
  | 80 => 2#32 | 81 => 3#32 | 82 => 4#32 | 83 => 5#32 | 84 => 6#32 | 85 => 7#32 | 86 => 8#32 | 87 => 9#32
  | 88 => 10#32 | 89 => 11#32 | 90 => 12#32 | 91 => 0#32 | 92 => 1#32 | 93 => 2#32 | 94 => 3#32 | 95 => 4#32
  | 96 => 5#32 | 97 => 6#32 | 98 => 7#32 | 99 => 8#32 | 100 => 9#32 | 101 => 10#32 | 102 => 11#32 | 103 => 12#32
  | 104 => 13#32 | 105 => 0#32 | 106 => 1#32 | 107 => 2#32 | 108 => 3#32 | 109 => 4#32 | 110 => 5#32 | 111 => 6#32
  | 112 => 7#32 | 113 => 8#32 | 114 => 9#32 | 115 => 10#32 | 116 => 11#32 | 117 => 12#32 | 118 => 13#32 | 119 => 14#32
  | 120 => 0#32 | 121 => 1#32 | 122 => 2#32 | 123 => 3#32 | 124 => 4#32 | 125 => 5#32 | 126 => 6#32 | 127 => 7#32
  | 128 => 8#32 | 129 => 9#32 | 130 => 10#32 | 131 => 11#32 | 132 => 12#32 | 133 => 13#32 | 134 => 14#32 | 135 => 15#32
  | _ => 0#32

def fn_part2 {F : FTy → Type} [FloatOps F] (main_arg1 : IVec S136 32) (main_c_0 : IVec S136 32) (main_v4 : IVec S_ 1) (main_v9 : IVec S_ 1) (main_v14 : IVec S_ 1) (main_v26 : IVec S_ 1) (main_v31 : IVec S_ 1) (main_v33 : IVec S_ 1) : IVec S_ 1 :=
  let main_v34 : IVec S136 1 := cmpi .eq main_arg1 main_c_0
  let main_c_12 : IVec S_ 1 := constantI S_ 1 1#1
  let main_v35 : IVec S_ 1 := (fun x v => Host.reduce IntOp.andi x v reducesTo_S136_S_d0 h_S_) main_v34 main_c_12
  let main_v36 : IVec S_ 1 := andi main_v33 main_v35
  let main_v37 : IVec S_ 1 := andi main_v36 main_v4
  let main_v38 : IVec S_ 1 := andi main_v37 main_v9
  let main_v39 : IVec S_ 1 := andi main_v38 main_v14
  let main_v40 : IVec S_ 1 := andi main_v39 main_v26
  let main_v41 : IVec S_ 1 := andi main_v40 main_v31
  main_v41

def fn_part1 {F : FTy → Type} [FloatOps F] (main_arg0 : IVec S136 32) (main_arg1 : IVec S136 32) (main_arg5 : FVec F S16384x16384 .bf16) (main_c : IVec S136 32) (main_c_0 : IVec S136 32) (main_v4 : IVec S_ 1) (main_v9 : IVec S_ 1) (main_v14 : IVec S_ 1) (main_v15 : IVec S16384 32) : IVec S_ 1 :=
  let main_v16 : FVec F S16384x16384 .f32 := (extf .f32 · bitsLt_bf16_f32) main_arg5
  let main_cst_6 : FVec F S_ .f32 := constant S_ .f32 0x00000000#32
  let main_v17 : FVec F S16384x16384 .f32 := broadcastInDim S16384x16384 ![] bcast_S_S16384x16384 main_cst_6
  let main_v18 : IVec S16384x16384 1 := cmpf .ogt main_v16 main_v17
  let main_v19 : IVec S16384x16384 1 := noti main_v18
  let main_v20 : IVec S16384x1 32 := broadcastInDim S16384x1 ![0] bcast_S16384_S16384x1_0 main_v15
  let main_v21 : IVec S1x16384 32 := broadcastInDim S1x16384 ![1] bcast_S16384_S1x16384_1 main_v15
  let main_v22 : IVec S16384x16384 32 := broadcastInDim S16384x16384 ![0, 1] bcast_S16384x1_S16384x16384_0_1 main_v20
  let main_v23 : IVec S16384x16384 32 := broadcastInDim S16384x16384 ![0, 1] bcast_S1x16384_S16384x16384_0_1 main_v21
  let main_v24 : IVec S16384x16384 1 := cmpi .sle main_v22 main_v23
  let main_v25 : IVec S16384x16384 1 := ori main_v19 main_v24
  let main_c_7 : IVec S_ 1 := constantI S_ 1 1#1
  let main_v26 : IVec S_ 1 := (fun x v => Host.reduce IntOp.andi x v reducesTo_S16384x16384_S_d0_1 h_S_) main_v25 main_c_7
  let main_v27 : FVec F S16384x16384 .f32 := (extf .f32 · bitsLt_bf16_f32) main_arg5
  let main_cst_8 : FVec F S_ .f32 := constant S_ .f32 0xFF800000#32
  let main_v28 : FVec F S16384 .f32 := (fun x v => Host.reduce FloatOps.maximumf x v reducesTo_S16384x16384_S16384_d0 h_S_) main_v27 main_cst_8
  let main_cst_9 : FVec F S_ .f32 := constant S_ .f32 0x00000000#32
  let main_v29 : FVec F S16384 .f32 := broadcastInDim S16384 ![] bcast_S_S16384 main_cst_9
  let main_v30 : IVec S16384 1 := cmpf .ogt main_v28 main_v29
  let main_c_10 : IVec S_ 1 := constantI S_ 1 1#1
  let main_v31 : IVec S_ 1 := (fun x v => Host.reduce IntOp.andi x v reducesTo_S16384_S_d0 h_S_) main_v30 main_c_10
  let main_v32 : IVec S136 1 := cmpi .eq main_arg0 main_c
  let main_c_11 : IVec S_ 1 := constantI S_ 1 1#1
  let main_v33 : IVec S_ 1 := (fun x v => Host.reduce IntOp.andi x v reducesTo_S136_S_d0 h_S_) main_v32 main_c_11
  fn_part2 (F := F) main_arg1 main_c_0 main_v4 main_v9 main_v14 main_v26 main_v31 main_v33

def fn {F : FTy → Type} [FloatOps F] (main_arg0 : IVec S136 32) (main_arg1 : IVec S136 32) (main_arg2 : FVec F S16384x1024 .bf16) (main_arg3 : FVec F S16384x1024 .bf16) (main_arg4 : FVec F S1024x16384 .bf16) (main_arg5 : FVec F S16384x16384 .bf16) : IVec S_ 1 :=
  let main_c : IVec S136 32 := fun i => lit0 (S136.rowMajor i)
  let main_c_0 : IVec S136 32 := fun i => lit1 (S136.rowMajor i)
  let main_v0 : FVec F S16384x1024 .f32 := (extf .f32 · bitsLt_bf16_f32) main_arg2
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c_1 : IVec S_ 1 := constantI S_ 1 1#1
  let main_v4 : IVec S_ 1 := (fun x v => Host.reduce IntOp.andi x v reducesTo_S16384x1024_S_d0_1 h_S_) main_v3 main_c_1
  let main_v5 : FVec F S16384x1024 .f32 := (extf .f32 · bitsLt_bf16_f32) main_arg3
  let main_v6 : FVec F S16384x1024 .f32 := Host.absf main_v5
  let main_cst_2 : FVec F S_ .f32 := constant S_ .f32 0x7F800000#32
  let main_v7 : FVec F S16384x1024 .f32 := broadcastInDim S16384x1024 ![] bcast_S_S16384x1024 main_cst_2
  let main_v8 : IVec S16384x1024 1 := cmpf .olt main_v6 main_v7
  let main_c_3 : IVec S_ 1 := constantI S_ 1 1#1
  let main_v9 : IVec S_ 1 := (fun x v => Host.reduce IntOp.andi x v reducesTo_S16384x1024_S_d0_1 h_S_) main_v8 main_c_3
  let main_v10 : FVec F S1024x16384 .f32 := (extf .f32 · bitsLt_bf16_f32) main_arg4
  let main_v11 : FVec F S1024x16384 .f32 := Host.absf main_v10
  let main_cst_4 : FVec F S_ .f32 := constant S_ .f32 0x7F800000#32
  let main_v12 : FVec F S1024x16384 .f32 := broadcastInDim S1024x16384 ![] bcast_S_S1024x16384 main_cst_4
  let main_v13 : IVec S1024x16384 1 := cmpf .olt main_v11 main_v12
  let main_c_5 : IVec S_ 1 := constantI S_ 1 1#1
  let main_v14 : IVec S_ 1 := (fun x v => Host.reduce IntOp.andi x v reducesTo_S1024x16384_S_d0_1 h_S_) main_v13 main_c_5
  let main_v15 : IVec S16384 32 := iotaInDim S16384 32 0
  fn_part1 (F := F) main_arg0 main_arg1 main_arg5 main_c main_c_0 main_v4 main_v9 main_v14 main_v15
-- ==== Da.lean ====
abbrev S136 : Shape := ⟨1, ![136]⟩
abbrev S16384x1024 : Shape := ⟨2, ![16384, 1024]⟩
abbrev S1024x16384 : Shape := ⟨2, ![1024, 16384]⟩
abbrev S4x64 : Shape := ⟨2, ![4, 64]⟩
abbrev S128x1 : Shape := ⟨2, ![128, 1]⟩
abbrev S1024x1024 : Shape := ⟨2, ![1024, 1024]⟩
abbrev S1 : Shape := ⟨1, ![1]⟩
abbrev S16x1x1024 : Shape := ⟨3, ![16, 1, 1024]⟩
abbrev S16x144x1024 : Shape := ⟨3, ![16, 144, 1024]⟩
abbrev S1x128 : Shape := ⟨2, ![1, 128]⟩
abbrev S1024x128 : Shape := ⟨2, ![1024, 128]⟩
abbrev S128x1024 : Shape := ⟨2, ![128, 1024]⟩
abbrev S16x1024 : Shape := ⟨2, ![16, 1024]⟩
abbrev S144x1024 : Shape := ⟨2, ![144, 1024]⟩
abbrev S1x1x1024 : Shape := ⟨3, ![1, 1, 1024]⟩
abbrev S1x1024 : Shape := ⟨2, ![1, 1024]⟩
abbrev S1024 : Shape := ⟨1, ![1024]⟩
abbrev S1x144x1024 : Shape := ⟨3, ![1, 144, 1024]⟩
abbrev S1x64 : Shape := ⟨2, ![1, 64]⟩
abbrev S1x1x64 : Shape := ⟨3, ![1, 1, 64]⟩
abbrev S1x1x1 : Shape := ⟨3, ![1, 1, 1]⟩
abbrev S1x1 : Shape := ⟨2, ![1, 1]⟩

abbrev nBuf : Space → Nat
  | .hbm => 6
  | .vmem => 12
  | .smem => 2
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x16384, .bf16⟩
  | .hbm, ⟨3, _⟩ => ⟨S4x64, .f32⟩
  | .hbm, ⟨4, _⟩ => ⟨S128x1, .f32⟩
  | .hbm, ⟨5, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S4x64, .f32⟩
  | .local _ .vmem, ⟨7, _⟩ => ⟨S128x1, .f32⟩
  | .local _ .vmem, ⟨8, _⟩ => ⟨S1024x1024, .bf16⟩
  | .local _ .vmem, ⟨9, _⟩ => ⟨S1024x1024, .bf16⟩
  | .local _ .vmem, ⟨10, _⟩ => ⟨S16x1x1024, .f32⟩
  | .local _ .vmem, ⟨11, _⟩ => ⟨S16x144x1024, .f32⟩
  | .local _ .smem, ⟨0, _⟩ => ⟨S136, .i32⟩
  | .local _ .smem, ⟨1, _⟩ => ⟨S136, .i32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_3 : BitVec 32 := 0#32
  let c8_i32 : BitVec 32 := 8#32
  let v14 : BitVec 32 := Scalar.addi c0_i32_3 c8_i32
  let c1_i32 : BitVec 32 := 1#32
  ⟨c0_i32_3, v14, c1_i32⟩
def k0_mult1 (k0_t1 : Fin k0_t1_loop.trips) : BitVec 32 :=
  let c0_i32_3 : BitVec 32 := 0#32
  let c1_i32 : BitVec 32 := 1#32
  let arg11 : BitVec 32 := Scf.iv c0_i32_3 c1_i32 k0_t1
  let c128_i32 : BitVec 32 := 128#32
  let v15 : BitVec 32 := Scalar.muli arg11 c128_i32
  v15
def k0_off2 (k0_t1 : Fin k0_t1_loop.trips) : Fin 2 → Nat :=
  let c0 : Index := 0#32
  let c0_i32_3 : BitVec 32 := 0#32
  let c1_i32 : BitVec 32 := 1#32
  let arg11 : BitVec 32 := Scf.iv c0_i32_3 c1_i32 k0_t1
  let c128_i32 : BitVec 32 := 128#32
  let v15 : BitVec 32 := Scalar.muli arg11 c128_i32
  let v16 : BitVec 32 := v15
  let v17 : Index := Scalar.indexCast v16
  ![0, v17.toNat]
def k0_off3 (k0_t1 : Fin k0_t1_loop.trips) : Fin 2 → Nat :=
  let c0_i32_3 : BitVec 32 := 0#32
  let c1_i32 : BitVec 32 := 1#32
  let arg11 : BitVec 32 := Scf.iv c0_i32_3 c1_i32 k0_t1
  let c128_i32 : BitVec 32 := 128#32
  let v15 : BitVec 32 := Scalar.muli arg11 c128_i32
  let v16 : BitVec 32 := v15
  let v21 : Index := Scalar.indexCast v16
  let c0_6 : Index := 0#32
  ![v21.toNat, 0]
def k0_off4 (k0_t1 : Fin k0_t1_loop.trips) (c0_i32_10 : BitVec 32) : Fin 3 → Nat :=
  let c2_i32 : BitVec 32 := 2#32
  let c0_i32_3 : BitVec 32 := 0#32
  let c1_i32 : BitVec 32 := 1#32
  let arg11 : BitVec 32 := Scf.iv c0_i32_3 c1_i32 k0_t1
  let v36 : BitVec 32 := Scalar.muli c2_i32 arg11
  let v37 : BitVec 32 := Scalar.addi v36 c0_i32_10
  let v38 : Index := Scalar.indexCast v37
  let c0_11 : Index := 0#32
  let c0_12 : Index := 0#32
  ![v38.toNat, 0, 0]
def k0_off5 (k0_t1 : Fin k0_t1_loop.trips) (c0_i32_10 : BitVec 32) : Fin 3 → Nat :=
  let c2_i32 : BitVec 32 := 2#32
  let c0_i32_3 : BitVec 32 := 0#32
  let c1_i32 : BitVec 32 := 1#32
  let arg11 : BitVec 32 := Scf.iv c0_i32_3 c1_i32 k0_t1
  let v36 : BitVec 32 := Scalar.muli c2_i32 arg11
  let v37 : BitVec 32 := Scalar.addi v36 c0_i32_10
  let v50 : Index := Scalar.indexCast v37
  let c0_14 : Index := 0#32
  let c0_15 : Index := 0#32
  ![v50.toNat, 0, 0]
@[reducible] def k0_t2_loop : Scf.Loop 32 :=
  let c0_i32_3 : BitVec 32 := 0#32
  let c8_i32 : BitVec 32 := 8#32
  let v14 : BitVec 32 := Scalar.addi c0_i32_3 c8_i32
  let c1_i32 : BitVec 32 := 1#32
  ⟨c0_i32_3, v14, c1_i32⟩
def k0_mult2 (k0_t2 : Fin k0_t2_loop.trips) : BitVec 32 :=
  let c0_i32_3 : BitVec 32 := 0#32
  let c1_i32 : BitVec 32 := 1#32
  let arg11 : BitVec 32 := Scf.iv c0_i32_3 c1_i32 k0_t2
  let c128_i32 : BitVec 32 := 128#32
  let v38 : BitVec 32 := Scalar.muli arg11 c128_i32
  v38
def k0_off6 (k0_t2 : Fin k0_t2_loop.trips) : Fin 2 → Nat :=
  let c0_12 : Index := 0#32
  let c0_i32_3 : BitVec 32 := 0#32
  let c1_i32 : BitVec 32 := 1#32
  let arg11 : BitVec 32 := Scf.iv c0_i32_3 c1_i32 k0_t2
  let c128_i32 : BitVec 32 := 128#32
  let v38 : BitVec 32 := Scalar.muli arg11 c128_i32
  let v39 : BitVec 32 := v38
  let v40 : Index := Scalar.indexCast v39
  ![0, v40.toNat]
def k0_off7 (k0_t2 : Fin k0_t2_loop.trips) : Fin 2 → Nat :=
  let c0_i32_3 : BitVec 32 := 0#32
  let c1_i32 : BitVec 32 := 1#32
  let arg11 : BitVec 32 := Scf.iv c0_i32_3 c1_i32 k0_t2
  let c128_i32 : BitVec 32 := 128#32
  let v38 : BitVec 32 := Scalar.muli arg11 c128_i32
  let v39 : BitVec 32 := v38
  let v44 : Index := Scalar.indexCast v39
  let c0_14 : Index := 0#32
  ![v44.toNat, 0]
def k0_off8 (k0_t2 : Fin k0_t2_loop.trips) (c0_i32_20 : BitVec 32) : Fin 3 → Nat :=
  let c2_i32 : BitVec 32 := 2#32
  let c0_i32_3 : BitVec 32 := 0#32
  let c1_i32 : BitVec 32 := 1#32
  let arg11 : BitVec 32 := Scf.iv c0_i32_3 c1_i32 k0_t2
  let v64 : BitVec 32 := Scalar.muli c2_i32 arg11
  let v65 : BitVec 32 := Scalar.addi v64 c0_i32_20
  let v66 : Index := Scalar.indexCast v65
  let c0_21 : Index := 0#32
  let c0_22 : Index := 0#32
  ![v66.toNat, 0, 0]
def k0_off9 (k0_t2 : Fin k0_t2_loop.trips) (c0_i32_20 : BitVec 32) : Fin 3 → Nat :=
  let c2_i32 : BitVec 32 := 2#32
  let c0_i32_3 : BitVec 32 := 0#32
  let c1_i32 : BitVec 32 := 1#32
  let arg11 : BitVec 32 := Scf.iv c0_i32_3 c1_i32 k0_t2
  let v64 : BitVec 32 := Scalar.muli c2_i32 arg11
  let v65 : BitVec 32 := Scalar.addi v64 c0_i32_20
  let v78 : Index := Scalar.indexCast v65
  let c0_24 : Index := 0#32
  let c0_25 : Index := 0#32
  ![v78.toNat, 0, 0]
@[reducible] def k0_t3_loop : Scf.Loop 32 :=
  let c0_i32_8 : BitVec 32 := 0#32
  let c8_i32_9 : BitVec 32 := 8#32
  let v37 : BitVec 32 := Scalar.addi c0_i32_8 c8_i32_9
  let c1_i32_10 : BitVec 32 := 1#32
  ⟨c0_i32_8, v37, c1_i32_10⟩
def k0_off10 (k0_t3 : Fin k0_t3_loop.trips) : Fin 3 → Nat :=
  let c2_i32 : BitVec 32 := 2#32
  let c0_i32_8 : BitVec 32 := 0#32
  let c1_i32_10 : BitVec 32 := 1#32
  let arg11 : BitVec 32 := Scf.iv c0_i32_8 c1_i32_10 k0_t3
  let v38 : BitVec 32 := Scalar.muli c2_i32 arg11
  let v39 : Index := Scalar.indexCast v38
  let c0_12 : Index := 0#32
  let c0_13 : Index := 0#32
  ![v39.toNat, 0, 0]
def k0_off11 (k0_t3 : Fin k0_t3_loop.trips) : Fin 3 → Nat :=
  let c2_i32_14 : BitVec 32 := 2#32
  let c0_i32_8 : BitVec 32 := 0#32
  let c1_i32_10 : BitVec 32 := 1#32
  let arg11 : BitVec 32 := Scf.iv c0_i32_8 c1_i32_10 k0_t3
  let v46 : BitVec 32 := Scalar.muli c2_i32_14 arg11
  let c1_i32_15 : BitVec 32 := 1#32
  let v47 : BitVec 32 := Scalar.addi v46 c1_i32_15
  let v48 : Index := Scalar.indexCast v47
  let c0_16 : Index := 0#32
  let c0_17 : Index := 0#32
  ![v48.toNat, 0, 0]
def k0_mult3 (k0_t3 : Fin k0_t3_loop.trips) : BitVec 32 :=
  let c0_i32_8 : BitVec 32 := 0#32
  let c1_i32_10 : BitVec 32 := 1#32
  let arg11 : BitVec 32 := Scf.iv c0_i32_8 c1_i32_10 k0_t3
  let c128_i32 : BitVec 32 := 128#32
  let v75 : BitVec 32 := Scalar.muli arg11 c128_i32
  v75
def k0_off12 (k0_t3 : Fin k0_t3_loop.trips) : Fin 2 → Nat :=
  let c0_24 : Index := 0#32
  let c0_i32_8 : BitVec 32 := 0#32
  let c1_i32_10 : BitVec 32 := 1#32
  let arg11 : BitVec 32 := Scf.iv c0_i32_8 c1_i32_10 k0_t3
  let c128_i32 : BitVec 32 := 128#32
  let v75 : BitVec 32 := Scalar.muli arg11 c128_i32
  let v76 : BitVec 32 := v75
  let v77 : Index := Scalar.indexCast v76
  ![0, v77.toNat]
def k0_cond3 (v1 : BitVec 32) (v3 : BitVec 32) : BitVec 1 :=
  let v11 : BitVec 1 := Scalar.cmpi .eq v3 v1
  let v12 : BitVec 32 := Scalar.extui v11
  let c0_i32_2 : BitVec 32 := 0#32
  let v13 : BitVec 1 := Scalar.cmpi .ne v12 c0_i32_2
  v13

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S136) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S136) ![v0.toNat] S1.size (k0_off1_inb i)) numel1_S1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DaIdeal.lean ====
variable {F : FTy → Type} [FloatOps F] [Named F]
def κ : String → Option EReal := fun
  | "mask" => some ⊥
  | _ => none
-- ==== DaRefIdeal.lean ====
abbrev S136 : Shape := ⟨1, ![136]⟩
abbrev S16384x1024 : Shape := ⟨2, ![16384, 1024]⟩
abbrev S1024x16384 : Shape := ⟨2, ![1024, 16384]⟩
abbrev S4x64 : Shape := ⟨2, ![4, 64]⟩
abbrev S128x1 : Shape := ⟨2, ![128, 1]⟩
abbrev S16384x8x2x64 : Shape := ⟨4, ![16384, 8, 2, 64]⟩
abbrev S16384x8x128 : Shape := ⟨3, ![16384, 8, 128]⟩
abbrev S1x64 : Shape := ⟨2, ![1, 64]⟩
abbrev S64 : Shape := ⟨1, ![64]⟩
abbrev S_ : Shape := ⟨0, ![]⟩
abbrev S16384 : Shape := ⟨1, ![16384]⟩
abbrev S8x2x16384x16384 : Shape := ⟨4, ![8, 2, 16384, 16384]⟩
abbrev S1x16384 : Shape := ⟨2, ![1, 16384]⟩
abbrev S16384x1 : Shape := ⟨2, ![16384, 1]⟩
abbrev S16384x16384 : Shape := ⟨2, ![16384, 16384]⟩
abbrev S8x2x16384 : Shape := ⟨3, ![8, 2, 16384]⟩
abbrev S8x2x16384x1 : Shape := ⟨4, ![8, 2, 16384, 1]⟩
abbrev S8x1x16384x16384 : Shape := ⟨4, ![8, 1, 16384, 16384]⟩
abbrev S8x16384x16384 : Shape := ⟨3, ![8, 16384, 16384]⟩
abbrev S8x128x16384 : Shape := ⟨3, ![8, 128, 16384]⟩
abbrev S16384x8 : Shape := ⟨2, ![16384, 8]⟩
abbrev S16384x8x1 : Shape := ⟨3, ![16384, 8, 1]⟩
abbrev S128 : Shape := ⟨1, ![128]⟩
abbrev S1x1x128 : Shape := ⟨3, ![1, 1, 128]⟩

abbrev nBuf : Space → Nat
  | .hbm => 89
  | .vmem => 0
  | .smem => 0
  | _ => 0

abbrev bufTy : (tb : Table) → Fin (tcTables nBuf tb) → BufTy
  | .hbm, ⟨0, _⟩ => ⟨S136, .i32⟩
  | .hbm, ⟨1, _⟩ => ⟨S136, .i32⟩
  | .hbm, ⟨2, _⟩ => ⟨S16384x1024, .bf16⟩
  | .hbm, ⟨3, _⟩ => ⟨S16384x1024, .bf16⟩
  | .hbm, ⟨4, _⟩ => ⟨S1024x16384, .bf16⟩
  | .hbm, ⟨5, _⟩ => ⟨S4x64, .f32⟩
  | .hbm, ⟨6, _⟩ => ⟨S128x1, .f32⟩
  | .hbm, ⟨7, _⟩ => ⟨S16384x1024, .f32⟩
  | .hbm, ⟨8, _⟩ => ⟨S16384x8x2x64, .f32⟩
  | .hbm, ⟨9, _⟩ => ⟨S16384x1024, .f32⟩
  | .hbm, ⟨10, _⟩ => ⟨S16384x8x2x64, .f32⟩
  | .hbm, ⟨11, _⟩ => ⟨S1024x16384, .f32⟩
  | .hbm, ⟨12, _⟩ => ⟨S16384x1024, .f32⟩
  | .hbm, ⟨13, _⟩ => ⟨S16384x8x128, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x64, .f32⟩
  | .hbm, ⟨23, _⟩ => ⟨S64, .f32⟩
  | .hbm, ⟨24, _⟩ => ⟨S1x64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S16384, .i32⟩
  | .hbm, ⟨34, _⟩ => ⟨S8x2x16384x16384, .f32⟩
  | .hbm, ⟨35, _⟩ => ⟨S1x16384, .i32⟩
  | .hbm, ⟨36, _⟩ => ⟨S16384x1, .i32⟩
  | .hbm, ⟨37, _⟩ => ⟨S16384x16384, .i32⟩
  | .hbm, ⟨38, _⟩ => ⟨S16384x16384, .i32⟩
  | .hbm, ⟨39, _⟩ => ⟨S16384x16384, .i1⟩
  | .hbm, ⟨40, _⟩ => ⟨S_, .f32⟩
  | .hbm, ⟨41, _⟩ => ⟨S_, .f32⟩
  | .hbm, ⟨42, _⟩ => ⟨S8x2x16384x16384, .i1⟩
  | .hbm, ⟨43, _⟩ => ⟨S8x2x16384x16384, .f32⟩
  | .hbm, ⟨44, _⟩ => ⟨S8x2x16384x16384, .f32⟩
  | .hbm, ⟨45, _⟩ => ⟨S_, .f32⟩
  | .hbm, ⟨46, _⟩ => ⟨S8x2x16384, .f32⟩
  | .hbm, ⟨47, _⟩ => ⟨S8x2x16384x1, .f32⟩
  | .hbm, ⟨48, _⟩ => ⟨S8x2x16384x16384, .f32⟩
  | .hbm, ⟨49, _⟩ => ⟨S8x2x16384x16384, .f32⟩
  | .hbm, ⟨50, _⟩ => ⟨S_, .f32⟩
  | .hbm, ⟨51, _⟩ => ⟨S8x2x16384x16384, .f32⟩
  | .hbm, ⟨52, _⟩ => ⟨S8x2x16384x16384, .f32⟩
  | .hbm, ⟨53, _⟩ => ⟨S_, .f32⟩
  | .hbm, ⟨54, _⟩ => ⟨S8x2x16384, .f32⟩
  | .hbm, ⟨55, _⟩ => ⟨S8x2x16384x1, .f32⟩
  | .hbm, ⟨56, _⟩ => ⟨S8x2x16384x16384, .f32⟩
  | .hbm, ⟨57, _⟩ => ⟨S8x2x16384x16384, .f32⟩
  | .hbm, ⟨58, _⟩ => ⟨S8x1x16384x16384, .f32⟩
  | .hbm, ⟨59, _⟩ => ⟨S8x16384x16384, .f32⟩
  | .hbm, ⟨60, _⟩ => ⟨S8x1x16384x16384, .f32⟩
  | .hbm, ⟨61, _⟩ => ⟨S8x16384x16384, .f32⟩
  | .hbm, ⟨62, _⟩ => ⟨S8x16384x16384, .f32⟩
  | .hbm, ⟨63, _⟩ => ⟨S8x16384x16384, .f32⟩
  | .hbm, ⟨64, _⟩ => ⟨S8x16384x16384, .f32⟩
  | .hbm, ⟨65, _⟩ => ⟨S8x128x16384, .f32⟩
  | .hbm, ⟨66, _⟩ => ⟨S16384x8x128, .f32⟩
  | .hbm, ⟨67, _⟩ => ⟨S16384x8x128, .f32⟩
  | .hbm, ⟨68, _⟩ => ⟨S_, .f32⟩
  | .hbm, ⟨69, _⟩ => ⟨S16384x8, .f32⟩
  | .hbm, ⟨70, _⟩ => ⟨S16384x8x1, .f32⟩
  | .hbm, ⟨71, _⟩ => ⟨S_, .f32⟩
  | .hbm, ⟨72, _⟩ => ⟨S16384x8x1, .f32⟩
  | .hbm, ⟨73, _⟩ => ⟨S16384x8x1, .f32⟩
  | .hbm, ⟨74, _⟩ => ⟨S_, .f32⟩
  | .hbm, ⟨75, _⟩ => ⟨S16384x8x1, .f32⟩
  | .hbm, ⟨76, _⟩ => ⟨S16384x8x1, .f32⟩
  | .hbm, ⟨77, _⟩ => ⟨S16384x8x1, .f32⟩
  | .hbm, ⟨78, _⟩ => ⟨S16384x8x128, .f32⟩
  | .hbm, ⟨79, _⟩ => ⟨S16384x8x128, .f32⟩
  | .hbm, ⟨80, _⟩ => ⟨S128, .f32⟩
  | .hbm, ⟨81, _⟩ => ⟨S1x1x128, .f32⟩
  | .hbm, ⟨82, _⟩ => ⟨S16384x8x128, .f32⟩
  | .hbm, ⟨83, _⟩ => ⟨S16384x8x128, .f32⟩
  | .hbm, ⟨84, _⟩ => ⟨S_, .f32⟩
  | .hbm, ⟨85, _⟩ => ⟨S16384x8x128, .f32⟩
  | .hbm, ⟨86, _⟩ => ⟨S16384x8x128, .f32⟩
  | .hbm, ⟨87, _⟩ => ⟨S16384x1024, .f32⟩
  | .hbm, ⟨88, _⟩ => ⟨S16384x1024, .bf16⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_6 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩

abbrev nD : Nat := 1
abbrev τ : Topo := Topo.v7x

variable {F : FTy → Type} [FloatOps F]
-- ==== Ds.lean ====
abbrev S136 : Shape := ⟨1, ![136]⟩
abbrev S16384x1024 : Shape := ⟨2, ![16384, 1024]⟩
abbrev S1024x16384 : Shape := ⟨2, ![1024, 16384]⟩
abbrev S16384x16384 : Shape := ⟨2, ![16384, 16384]⟩
abbrev S1024x1024 : Shape := ⟨2, ![1024, 1024]⟩
abbrev S1 : Shape := ⟨1, ![1]⟩
abbrev S8x1x1024 : Shape := ⟨3, ![8, 1, 1024]⟩
abbrev S8x144x1024 : Shape := ⟨3, ![8, 144, 1024]⟩
abbrev S1024x128 : Shape := ⟨2, ![1024, 128]⟩
abbrev S128x1024 : Shape := ⟨2, ![128, 1024]⟩
abbrev S16x1024 : Shape := ⟨2, ![16, 1024]⟩
abbrev S144x1024 : Shape := ⟨2, ![144, 1024]⟩
abbrev S1x1x1024 : Shape := ⟨3, ![1, 1, 1024]⟩
abbrev S1x1024 : Shape := ⟨2, ![1, 1024]⟩
abbrev S1024 : Shape := ⟨1, ![1024]⟩
abbrev S1x144x1024 : Shape := ⟨3, ![1, 144, 1024]⟩

abbrev nBuf : Space → Nat
  | .hbm => 5
  | .vmem => 12
  | .smem => 2
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x16384, .bf16⟩
  | .hbm, ⟨3, _⟩ => ⟨S16384x16384, .bf16⟩
  | .hbm, ⟨4, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S8x1x1024, .f32⟩
  | .local _ .vmem, ⟨11, _⟩ => ⟨S8x144x1024, .f32⟩
  | .local _ .smem, ⟨0, _⟩ => ⟨S136, .i32⟩
  | .local _ .smem, ⟨1, _⟩ => ⟨S136, .i32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_1 : BitVec 32 := 0#32
  let c8_i32 : BitVec 32 := 8#32
  let v7 : BitVec 32 := Scalar.addi c0_i32_1 c8_i32
  let c1_i32 : BitVec 32 := 1#32
  ⟨c0_i32_1, v7, c1_i32⟩
def k0_mult1 (k0_t1 : Fin k0_t1_loop.trips) : BitVec 32 :=
  let c0_i32_1 : BitVec 32 := 0#32
  let c1_i32 : BitVec 32 := 1#32
  let arg10 : BitVec 32 := Scf.iv c0_i32_1 c1_i32 k0_t1
  let c128_i32 : BitVec 32 := 128#32
  let v11 : BitVec 32 := Scalar.muli arg10 c128_i32
  v11
def k0_off2 (k0_t1 : Fin k0_t1_loop.trips) : Fin 2 → Nat :=
  let c0 : Index := 0#32
  let c0_i32_1 : BitVec 32 := 0#32
  let c1_i32 : BitVec 32 := 1#32
  let arg10 : BitVec 32 := Scf.iv c0_i32_1 c1_i32 k0_t1
  let c128_i32 : BitVec 32 := 128#32
  let v11 : BitVec 32 := Scalar.muli arg10 c128_i32
  let v12 : BitVec 32 := v11
  let v13 : Index := Scalar.indexCast v12
  ![0, v13.toNat]
def k0_off3 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let c128_i32 : BitVec 32 := 128#32
  let v11 : BitVec 32 := Scalar.muli arg10 c128_i32
  let v12 : BitVec 32 := v11
  let v23 : Index := Scalar.indexCast v12
  let c0_9 : Index := 0#32
  ![v23.toNat, 0]
def k0_off4 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v27 : Index := Scalar.indexCast arg10
  let c0_11 : Index := 0#32
  let c0_12 : Index := 0#32
  ![v27.toNat, 0, 0]
def k0_off5 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let v39 : Index := Scalar.indexCast arg10
  let c0_14 : Index := 0#32
  let c0_15 : Index := 0#32
  ![v39.toNat, 0, 0]
@[reducible] def k0_t2_loop : Scf.Loop 32 :=
  let c0_i32_4 : BitVec 32 := 0#32
  let c8_i32_5 : BitVec 32 := 8#32
  let v11 : BitVec 32 := Scalar.addi c0_i32_4 c8_i32_5
  let c1_i32_6 : BitVec 32 := 1#32
  ⟨c0_i32_4, v11, c1_i32_6⟩
def k0_off6 (k0_t2 : Fin k0_t2_loop.trips) : Fin 3 → Nat :=
  let c0_i32_4 : BitVec 32 := 0#32
  let c1_i32_6 : BitVec 32 := 1#32
  let arg10 : BitVec 32 := Scf.iv c0_i32_4 c1_i32_6 k0_t2
  let v12 : Index := Scalar.indexCast arg10
  let c0 : Index := 0#32
  let c0_8 : Index := 0#32
  ![v12.toNat, 0, 0]
def k0_mult2 (k0_t2 : Fin k0_t2_loop.trips) : BitVec 32 :=
  let c0_i32_4 : BitVec 32 := 0#32
  let c1_i32_6 : BitVec 32 := 1#32
  let arg10 : BitVec 32 := Scf.iv c0_i32_4 c1_i32_6 k0_t2
  let c128_i32 : BitVec 32 := 128#32
  let v21 : BitVec 32 := Scalar.muli arg10 c128_i32
  v21
def k0_off7 (k0_t2 : Fin k0_t2_loop.trips) : Fin 2 → Nat :=
  let c0_9 : Index := 0#32
  let c0_i32_4 : BitVec 32 := 0#32
  let c1_i32_6 : BitVec 32 := 1#32
  let arg10 : BitVec 32 := Scf.iv c0_i32_4 c1_i32_6 k0_t2
  let c128_i32 : BitVec 32 := 128#32
  let v21 : BitVec 32 := Scalar.muli arg10 c128_i32
  let v22 : BitVec 32 := v21
  let v23 : Index := Scalar.indexCast v22
  ![0, v23.toNat]
def k0_cond2 (v1 : BitVec 32) (v3 : BitVec 32) : BitVec 1 :=
  let v8 : BitVec 1 := Scalar.cmpi .eq v3 v1
  let v9 : BitVec 32 := Scalar.extui v8
  let c0_i32_3 : BitVec 32 := 0#32
  let v10 : BitVec 1 := Scalar.cmpi .ne v9 c0_i32_3
  v10

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S136) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S136) ![v0.toNat] S1.size (k0_off1_inb i)) numel1_S1
  let c0_i32 : BitVec 32 := 0#32
  let c0_i32_0 : BitVec 32 := 0#32
  ![c0_i32.toNat, v1.toNat]

def cc0_transform_3 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S136) ![v0.toNat] S1.size (k0_off1_inb i)) numel1_S1
  let v2 : Index := Scalar.indexCast arg0
  let v3 : BitVec 32 := pf.at 0 (Rect.unit (s := S136) ![v2.toNat] S1.size (k0_off1_inb i)) numel1_S1
  let c0_i32 : BitVec 32 := 0#32
  ![v1.toNat, v3.toNat]

def cc0_transform_4 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DsIdeal.lean ====
variable {F : FTy → Type} [FloatOps F] [Named F]
def κ : String → Option EReal := fun
  | "mask" => some ⊥
  | _ => none
-- ==== DsRefIdeal.lean ====
abbrev S136 : Shape := ⟨1, ![136]⟩
abbrev S16384x1024 : Shape := ⟨2, ![16384, 1024]⟩
abbrev S1024x16384 : Shape := ⟨2, ![1024, 16384]⟩
abbrev S16384x16384 : Shape := ⟨2, ![16384, 16384]⟩
abbrev S16384x8x128 : Shape := ⟨3, ![16384, 8, 128]⟩
abbrev S8x16384x16384 : Shape := ⟨3, ![8, 16384, 16384]⟩
abbrev S_ : Shape := ⟨0, ![]⟩
abbrev S8x16384 : Shape := ⟨2, ![8, 16384]⟩
abbrev S8x16384x1 : Shape := ⟨3, ![8, 16384, 1]⟩
abbrev S8x128x16384 : Shape := ⟨3, ![8, 128, 16384]⟩

abbrev nBuf : Space → Nat
  | .hbm => 41
  | .vmem => 0
  | .smem => 0
  | _ => 0

abbrev bufTy : (tb : Table) → Fin (tcTables nBuf tb) → BufTy
  | .hbm, ⟨0, _⟩ => ⟨S136, .i32⟩
  | .hbm, ⟨1, _⟩ => ⟨S136, .i32⟩
  | .hbm, ⟨2, _⟩ => ⟨S16384x1024, .bf16⟩
  | .hbm, ⟨3, _⟩ => ⟨S16384x1024, .bf16⟩
  | .hbm, ⟨4, _⟩ => ⟨S1024x16384, .bf16⟩
  | .hbm, ⟨5, _⟩ => ⟨S16384x16384, .bf16⟩
  | .hbm, ⟨6, _⟩ => ⟨S16384x1024, .f32⟩
  | .hbm, ⟨7, _⟩ => ⟨S16384x8x128, .f32⟩
  | .hbm, ⟨8, _⟩ => ⟨S16384x1024, .f32⟩
  | .hbm, ⟨9, _⟩ => ⟨S16384x8x128, .f32⟩
  | .hbm, ⟨10, _⟩ => ⟨S1024x16384, .f32⟩
  | .hbm, ⟨11, _⟩ => ⟨S16384x1024, .f32⟩
  | .hbm, ⟨12, _⟩ => ⟨S16384x8x128, .f32⟩
  | .hbm, ⟨13, _⟩ => ⟨S8x16384x16384, .f32⟩
  | .hbm, ⟨14, _⟩ => ⟨S16384x16384, .f32⟩
  | .hbm, ⟨15, _⟩ => ⟨S16384x16384, .f32⟩
  | .hbm, ⟨16, _⟩ => ⟨S_, .f32⟩
  | .hbm, ⟨17, _⟩ => ⟨S16384x16384, .f32⟩
  | .hbm, ⟨18, _⟩ => ⟨S16384x16384, .i1⟩
  | .hbm, ⟨19, _⟩ => ⟨S_, .f32⟩
  | .hbm, ⟨20, _⟩ => ⟨S_, .f32⟩
  | .hbm, ⟨21, _⟩ => ⟨S8x16384x16384, .i1⟩
  | .hbm, ⟨22, _⟩ => ⟨S8x16384x16384, .f32⟩
  | .hbm, ⟨23, _⟩ => ⟨S8x16384x16384, .f32⟩
  | .hbm, ⟨24, _⟩ => ⟨S_, .f32⟩
  | .hbm, ⟨25, _⟩ => ⟨S8x16384, .f32⟩
  | .hbm, ⟨26, _⟩ => ⟨S8x16384x1, .f32⟩
  | .hbm, ⟨27, _⟩ => ⟨S8x16384x16384, .f32⟩
  | .hbm, ⟨28, _⟩ => ⟨S8x16384x16384, .f32⟩
  | .hbm, ⟨29, _⟩ => ⟨S_, .f32⟩
  | .hbm, ⟨30, _⟩ => ⟨S8x16384x16384, .f32⟩
  | .hbm, ⟨31, _⟩ => ⟨S8x16384x16384, .f32⟩
  | .hbm, ⟨32, _⟩ => ⟨S_, .f32⟩
  | .hbm, ⟨33, _⟩ => ⟨S8x16384, .f32⟩
  | .hbm, ⟨34, _⟩ => ⟨S8x16384x1, .f32⟩
  | .hbm, ⟨35, _⟩ => ⟨S8x16384x16384, .f32⟩
  | .hbm, ⟨36, _⟩ => ⟨S8x16384x16384, .f32⟩
  | .hbm, ⟨37, _⟩ => ⟨S8x128x16384, .f32⟩
  | .hbm, ⟨38, _⟩ => ⟨S16384x8x128, .f32⟩
  | .hbm, ⟨39, _⟩ => ⟨S16384x1024, .f32⟩
  | .hbm, ⟨40, _⟩ => ⟨S16384x1024, .bf16⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Expert.lean ====
abbrev S16384x4096 : Shape := ⟨2, ![16384, 4096]⟩
abbrev S8x128x16384 : Shape := ⟨3, ![8, 128, 16384]⟩
abbrev S512x4096 : Shape := ⟨2, ![512, 4096]⟩
abbrev S8x128x512 : Shape := ⟨3, ![8, 128, 512]⟩
abbrev S512x512 : Shape := ⟨2, ![512, 512]⟩
abbrev S1x128x512 : Shape := ⟨3, ![1, 128, 512]⟩
abbrev S128x512 : Shape := ⟨2, ![128, 512]⟩
abbrev S1x1x512 : Shape := ⟨3, ![1, 1, 512]⟩
abbrev S1x512 : Shape := ⟨2, ![1, 512]⟩

abbrev nBuf : Space → Nat
  | .hbm => 9
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .f32⟩
  | .hbm, ⟨2, _⟩ => ⟨S16384x4096, .f32⟩
  | .hbm, ⟨3, _⟩ => ⟨S8x128x16384, .f32⟩
  | .hbm, ⟨4, _⟩ => ⟨S8x128x16384, .f32⟩
  | .hbm, ⟨5, _⟩ => ⟨S8x128x16384, .f32⟩
  | .hbm, ⟨6, _⟩ => ⟨S16384x4096, .bf16⟩
  | .hbm, ⟨7, _⟩ => ⟨S16384x4096, .bf16⟩
  | .hbm, ⟨8, _⟩ => ⟨S16384x4096, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .bf16⟩
  | .local _ .vmem, ⟨5, _⟩ => ⟨S8x128x512, .f32⟩
  | .local _ .vmem, ⟨6, _⟩ => ⟨S8x128x512, .f32⟩
  | .local _ .vmem, ⟨7, _⟩ => ⟨S8x128x512, .f32⟩
  | .local _ .vmem, ⟨8, _⟩ => ⟨S512x4096, .f32⟩
  | .local _ .vmem, ⟨9, _⟩ => ⟨S512x4096, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![32, 32], ![false, false]⟩

def k0_off1 (i : grid0.Coords) (c0_i32_8 : BitVec 32) : Fin 3 → Nat :=
  let c0_12 : Index := 0#32
  let arg1 : BitVec 32 := BitVec.ofNat 32 (i 1).val
  let c4_i32 : BitVec 32 := 4#32
  let v20 : BitVec 32 := Scalar.muli arg1 c4_i32
  let v21 : BitVec 32 := Scalar.addi v20 c0_i32_8
  let v24 : Index := Scalar.indexCast v21
  let c0_13 : Index := 0#32
  ![0, v24.toNat, 0]
def k0_off2 (i : grid0.Coords) (c0_i32_8 : BitVec 32) : Fin 3 → Nat :=
  let c1_19 : Index := 1#32
  let arg1 : BitVec 32 := BitVec.ofNat 32 (i 1).val
  let c4_i32 : BitVec 32 := 4#32
  let v20 : BitVec 32 := Scalar.muli arg1 c4_i32
  let v21 : BitVec 32 := Scalar.addi v20 c0_i32_8
  let v38 : Index := Scalar.indexCast v21
  let c0_20 : Index := 0#32
  ![1, v38.toNat, 0]
def k0_off3 (i : grid0.Coords) (c0_i32_8 : BitVec 32) : Fin 3 → Nat :=
  let c2_26 : Index := 2#32
  let arg1 : BitVec 32 := BitVec.ofNat 32 (i 1).val
  let c4_i32 : BitVec 32 := 4#32
  let v20 : BitVec 32 := Scalar.muli arg1 c4_i32
  let v21 : BitVec 32 := Scalar.addi v20 c0_i32_8
  let v53 : Index := Scalar.indexCast v21
  let c0_27 : Index := 0#32
  ![2, v53.toNat, 0]
def k0_off4 (i : grid0.Coords) (c0_i32_8 : BitVec 32) : Fin 3 → Nat :=
  let c3_33 : Index := 3#32
  let arg1 : BitVec 32 := BitVec.ofNat 32 (i 1).val
  let c4_i32 : BitVec 32 := 4#32
  let v20 : BitVec 32 := Scalar.muli arg1 c4_i32
  let v21 : BitVec 32 := Scalar.addi v20 c0_i32_8
  let v68 : Index := Scalar.indexCast v21
  let c0_34 : Index := 0#32
  ![3, v68.toNat, 0]
def k0_off5 (i : grid0.Coords) (c0_i32_8 : BitVec 32) : Fin 3 → Nat :=
  let c4_40 : Index := 4#32
  let arg1 : BitVec 32 := BitVec.ofNat 32 (i 1).val
  let c4_i32 : BitVec 32 := 4#32
  let v20 : BitVec 32 := Scalar.muli arg1 c4_i32
  let v21 : BitVec 32 := Scalar.addi v20 c0_i32_8
  let v83 : Index := Scalar.indexCast v21
  let c0_41 : Index := 0#32
  ![4, v83.toNat, 0]
def k0_off6 (i : grid0.Coords) (c0_i32_8 : BitVec 32) : Fin 3 → Nat :=
  let c5_47 : Index := 5#32
  let arg1 : BitVec 32 := BitVec.ofNat 32 (i 1).val
  let c4_i32 : BitVec 32 := 4#32
  let v20 : BitVec 32 := Scalar.muli arg1 c4_i32
  let v21 : BitVec 32 := Scalar.addi v20 c0_i32_8
  let v98 : Index := Scalar.indexCast v21
  let c0_48 : Index := 0#32
  ![5, v98.toNat, 0]
def k0_off7 (i : grid0.Coords) (c0_i32_8 : BitVec 32) : Fin 3 → Nat :=
  let c6_54 : Index := 6#32
  let arg1 : BitVec 32 := BitVec.ofNat 32 (i 1).val
  let c4_i32 : BitVec 32 := 4#32
  let v20 : BitVec 32 := Scalar.muli arg1 c4_i32
  let v21 : BitVec 32 := Scalar.addi v20 c0_i32_8
  let v113 : Index := Scalar.indexCast v21
  let c0_55 : Index := 0#32
  ![6, v113.toNat, 0]
def k0_off8 (i : grid0.Coords) (c0_i32_8 : BitVec 32) : Fin 3 → Nat :=
  let c7_61 : Index := 7#32
  let arg1 : BitVec 32 := BitVec.ofNat 32 (i 1).val
  let c4_i32 : BitVec 32 := 4#32
  let v20 : BitVec 32 := Scalar.muli arg1 c4_i32
  let v21 : BitVec 32 := Scalar.addi v20 c0_i32_8
  let v128 : Index := Scalar.indexCast v21
  let c0_62 : Index := 0#32
  ![7, v128.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S8x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S8x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ExpertRefIdeal.lean ====
abbrev S16384x4096 : Shape := ⟨2, ![16384, 4096]⟩
abbrev S8x128x16384 : Shape := ⟨3, ![8, 128, 16384]⟩
abbrev S16384x16384 : Shape := ⟨2, ![16384, 16384]⟩
abbrev S_ : Shape := ⟨0, ![]⟩
abbrev S8x1x128x16384 : Shape := ⟨4, ![8, 1, 128, 16384]⟩
abbrev S8x128x1x16384 : Shape := ⟨4, ![8, 128, 1, 16384]⟩
abbrev S8x128x128x16384 : Shape := ⟨4, ![8, 128, 128, 16384]⟩
abbrev S128x128x16384 : Shape := ⟨3, ![128, 128, 16384]⟩

abbrev nBuf : Space → Nat
  | .hbm => 45
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .f32⟩
  | .hbm, ⟨2, _⟩ => ⟨S16384x4096, .f32⟩
  | .hbm, ⟨3, _⟩ => ⟨S8x128x16384, .f32⟩
  | .hbm, ⟨4, _⟩ => ⟨S8x128x16384, .f32⟩
  | .hbm, ⟨5, _⟩ => ⟨S8x128x16384, .f32⟩
  | .hbm, ⟨6, _⟩ => ⟨S16384x4096, .f32⟩
  | .hbm, ⟨7, _⟩ => ⟨S16384x16384, .f32⟩
  | .hbm, ⟨8, _⟩ => ⟨S16384x16384, .f32⟩
  | .hbm, ⟨9, _⟩ => ⟨S16384x16384, .f32⟩
  | .hbm, ⟨10, _⟩ => ⟨S_, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S_, .f32⟩
  | .hbm, ⟨15, _⟩ => ⟨S16384x16384, .f32⟩
  | .hbm, ⟨16, _⟩ => ⟨S16384x16384, .f32⟩
  | .hbm, ⟨17, _⟩ => ⟨S16384x16384, .f32⟩
  | .hbm, ⟨18, _⟩ => ⟨S_, .f32⟩
  | .hbm, ⟨19, _⟩ => ⟨S16384x16384, .f32⟩
  | .hbm, ⟨20, _⟩ => ⟨S16384x16384, .f32⟩
  | .hbm, ⟨21, _⟩ => ⟨S_, .f32⟩
  | .hbm, ⟨22, _⟩ => ⟨S16384x16384, .f32⟩
  | .hbm, ⟨23, _⟩ => ⟨S16384x16384, .f32⟩
  | .hbm, ⟨24, _⟩ => ⟨S16384x16384, .f32⟩
  | .hbm, ⟨25, _⟩ => ⟨S8x1x128x16384, .f32⟩
  | .hbm, ⟨26, _⟩ => ⟨S8x128x1x16384, .f32⟩
  | .hbm, ⟨27, _⟩ => ⟨S8x128x128x16384, .f32⟩
  | .hbm, ⟨28, _⟩ => ⟨S8x128x128x16384, .f32⟩
  | .hbm, ⟨29, _⟩ => ⟨S8x128x128x16384, .i1⟩
  | .hbm, ⟨30, _⟩ => ⟨S8x128x1x16384, .f32⟩
  | .hbm, ⟨31, _⟩ => ⟨S8x1x128x16384, .f32⟩
  | .hbm, ⟨32, _⟩ => ⟨S8x128x128x16384, .f32⟩
  | .hbm, ⟨33, _⟩ => ⟨S8x128x128x16384, .f32⟩
  | .hbm, ⟨34, _⟩ => ⟨S8x128x128x16384, .f32⟩
  | .hbm, ⟨35, _⟩ => ⟨S_, .f32⟩
  | .hbm, ⟨36, _⟩ => ⟨S_, .f32⟩
  | .hbm, ⟨37, _⟩ => ⟨S8x128x128x16384, .f32⟩
  | .hbm, ⟨38, _⟩ => ⟨S8x128x128x16384, .f32⟩
  | .hbm, ⟨39, _⟩ => ⟨S_, .f32⟩
  | .hbm, ⟨40, _⟩ => ⟨S128x128x16384, .f32⟩
  | .hbm, ⟨41, _⟩ => ⟨S16384x16384, .f32⟩
  | .hbm, ⟨42, _⟩ => ⟨S16384x16384, .f32⟩
  | .hbm, ⟨43, _⟩ => ⟨S16384x16384, .f32⟩
  | .hbm, ⟨44, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== In.lean ====
abbrev S16384x4096 : Shape := ⟨2, ![16384, 4096]⟩
abbrev S4096x16512 : Shape := ⟨2, ![4096, 16512]⟩
abbrev S4096x1024 : Shape := ⟨2, ![4096, 1024]⟩
abbrev S4096x6144 : Shape := ⟨2, ![4096, 6144]⟩
abbrev S4096x2048 : Shape := ⟨2, ![4096, 2048]⟩
abbrev S4096x16 : Shape := ⟨2, ![4096, 16]⟩
abbrev S4096x64 : Shape := ⟨2, ![4096, 64]⟩
abbrev S4096x32 : Shape := ⟨2, ![4096, 32]⟩
abbrev S4096x16384 : Shape := ⟨2, ![4096, 16384]⟩
abbrev S4096x128 : Shape := ⟨2, ![4096, 128]⟩
abbrev S16384x16384 : Shape := ⟨2, ![16384, 16384]⟩
abbrev S512x4096 : Shape := ⟨2, ![512, 4096]⟩
abbrev S512x1024 : Shape := ⟨2, ![512, 1024]⟩

abbrev nBuf : Space → Nat
  | .hbm => 20
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x16512, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x6144, .f32⟩
  | .hbm, ⟨6, _⟩ => ⟨S4096x2048, .f32⟩
  | .hbm, ⟨7, _⟩ => ⟨S4096x16, .f32⟩
  | .hbm, ⟨8, _⟩ => ⟨S4096x16, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x2048, .f32⟩
  | .hbm, ⟨13, _⟩ => ⟨S4096x64, .f32⟩
  | .hbm, ⟨14, _⟩ => ⟨S4096x32, .f32⟩
  | .hbm, ⟨15, _⟩ => ⟨S4096x16384, .f32⟩
  | .hbm, ⟨16, _⟩ => ⟨S4096x16384, .bf16⟩
  | .hbm, ⟨17, _⟩ => ⟨S4096x128, .f32⟩
  | .hbm, ⟨18, _⟩ => ⟨S4096x128, .bf16⟩
  | .hbm, ⟨19, _⟩ => ⟨S16384x16384, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRefIdeal.lean ====
abbrev S16384x4096 : Shape := ⟨2, ![16384, 4096]⟩
abbrev S4096x16512 : Shape := ⟨2, ![4096, 16512]⟩
abbrev S16384x16512 : Shape := ⟨2, ![16384, 16512]⟩
abbrev S16384x1024 : Shape := ⟨2, ![16384, 1024]⟩
abbrev S16384x6144 : Shape := ⟨2, ![16384, 6144]⟩
abbrev S16384x2048 : Shape := ⟨2, ![16384, 2048]⟩
abbrev S16384x16 : Shape := ⟨2, ![16384, 16]⟩
abbrev S16384x64 : Shape := ⟨2, ![16384, 64]⟩
abbrev S16384x32 : Shape := ⟨2, ![16384, 32]⟩
abbrev S16384x16384 : Shape := ⟨2, ![16384, 16384]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x16512, .f32⟩
  | .hbm, ⟨2, _⟩ => ⟨S16384x4096, .f32⟩
  | .hbm, ⟨3, _⟩ => ⟨S16384x16512, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x6144, .f32⟩
  | .hbm, ⟨8, _⟩ => ⟨S16384x2048, .f32⟩
  | .hbm, ⟨9, _⟩ => ⟨S16384x16, .f32⟩
  | .hbm, ⟨10, _⟩ => ⟨S16384x16, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x2048, .f32⟩
  | .hbm, ⟨15, _⟩ => ⟨S16384x64, .f32⟩
  | .hbm, ⟨16, _⟩ => ⟨S16384x32, .f32⟩
  | .hbm, ⟨17, _⟩ => ⟨S16384x16384, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== Out.lean ====
abbrev S16384x4096 : Shape := ⟨2, ![16384, 4096]⟩
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S4096x4096, .bf16⟩
  | .hbm, ⟨4, _⟩ => ⟨S16384x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutRefIdeal.lean ====
abbrev S16384x4096 : Shape := ⟨2, ![16384, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x4096, .f32⟩
  | .hbm, ⟨3, _⟩ => ⟨S16384x4096, .f32⟩
  | .hbm, ⟨4, _⟩ => ⟨S16384x4096, .f32⟩
  | .hbm, ⟨5, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Pq.lean ====
abbrev S16384x4096 : Shape := ⟨2, ![16384, 4096]⟩
abbrev S4096x2048 : Shape := ⟨2, ![4096, 2048]⟩
abbrev S16384x2048 : Shape := ⟨2, ![16384, 2048]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S4096x2048, .bf16⟩
  | .hbm, ⟨3, _⟩ => ⟨S16384x2048, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PqRefIdeal.lean ====
abbrev S16384x4096 : Shape := ⟨2, ![16384, 4096]⟩
abbrev S4096x2048 : Shape := ⟨2, ![4096, 2048]⟩
abbrev S16384x2048 : Shape := ⟨2, ![16384, 2048]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x4096, .f32⟩
  | .hbm, ⟨3, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Ple.lean ====
abbrev S16384x4096 : Shape := ⟨2, ![16384, 4096]⟩
abbrev S4096x4096 : Shape := ⟨2, ![4096, 4096]⟩
abbrev S16384x256 : Shape := ⟨2, ![16384, 256]⟩
abbrev S256x4096 : Shape := ⟨2, ![256, 4096]⟩
abbrev S512x4096 : Shape := ⟨2, ![512, 4096]⟩
abbrev S4096x1024 : Shape := ⟨2, ![4096, 1024]⟩
abbrev S512x256 : Shape := ⟨2, ![512, 256]⟩
abbrev S256x1024 : Shape := ⟨2, ![256, 1024]⟩
abbrev S512x1024 : Shape := ⟨2, ![512, 1024]⟩

abbrev nBuf : Space → Nat
  | .hbm => 9
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x256, .f32⟩
  | .hbm, ⟨3, _⟩ => ⟨S256x4096, .f32⟩
  | .hbm, ⟨4, _⟩ => ⟨S16384x4096, .f32⟩
  | .hbm, ⟨5, _⟩ => ⟨S4096x4096, .bf16⟩
  | .hbm, ⟨6, _⟩ => ⟨S16384x256, .bf16⟩
  | .hbm, ⟨7, _⟩ => ⟨S256x4096, .bf16⟩
  | .hbm, ⟨8, _⟩ => ⟨S16384x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x256, .bf16⟩
  | .local _ .vmem, ⟨5, _⟩ => ⟨S512x256, .bf16⟩
  | .local _ .vmem, ⟨6, _⟩ => ⟨S256x1024, .bf16⟩
  | .local _ .vmem, ⟨7, _⟩ => ⟨S256x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PleRefIdeal.lean ====
abbrev S16384x4096 : Shape := ⟨2, ![16384, 4096]⟩
abbrev S4096x4096 : Shape := ⟨2, ![4096, 4096]⟩
abbrev S16384x256 : Shape := ⟨2, ![16384, 256]⟩
abbrev S256x4096 : Shape := ⟨2, ![256, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .f32⟩
  | .hbm, ⟨2, _⟩ => ⟨S16384x256, .f32⟩
  | .hbm, ⟨3, _⟩ => ⟨S256x4096, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== Norm.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Sum.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S1x4096, .f32⟩
  | .hbm, ⟨4, _⟩ => ⟨S16384x4096, .f32⟩
  | .hbm, ⟨5, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .bf16⟩
  | .local _ .vmem, ⟨8, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SumRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S16384x4096, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S1x4096, .f32⟩
  | .hbm, ⟨18, _⟩ => ⟨S16384x4096, .f32⟩
  | .hbm, ⟨19, _⟩ => ⟨S16384x4096, .f32⟩
  | .hbm, ⟨20, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.DaSlots.lean ====
/- What one grid point of the attention kernel leaves in each (head, map) slot of its two scratch buffers. -/
module

public import proofs.«01_k».proof.Proof.Gen.DaIdeal.Flash.Runs
public import Idealize.ShloMosaic.Lib.VecWindow
public import Idealize.ShloMosaic.Lib.WritesUnit
public import Idealize.ShloMosaic.Lib.Pipeline.ValueKit.Geometry
public import Idealize.ShloMosaic.Lib.Pointwise

@[expose] public section

set_option maxRecDepth 16384

noncomputable section

open Idealize.ShloMosaic Idealize.ShloMosaic.TcCoe Idealize.SL.Sem
open Cert.DaIdeal Cert.DaIdeal.Gen

namespace Cert.DaIdeal.Slots

/-- Read a slot the newest piece wrote. -/
theorem hit {Val : EltTy → Type} [∀ e, Nonempty (Val e)] {κ : Kind} {sp : Space} {A B : ℕ} {e : EltTy}
    (v : View sig κ sp (⟨3, ![16, A, B]⟩ : Shape) e) (f : v.ty.Contents Val) (s : Fin 16) (n : ℕ)
    (inb : ∀ a, (![n, 0, 0] : Fin 3 → ℕ) a + (⟨3, ![1, A, B]⟩ : Shape).size a ≤ (⟨3, ![16, A, B]⟩ : Shape).size a)
    (w : (⟨3, ![1, A, B]⟩ : Shape).Idx → Val e) (L) (a : Fin A) (b : Fin B) (h : s.val = n) :
    v.read Val (v.writes Val f ((⟨Rect.unit (s := (⟨3, ![16, A, B]⟩ : Shape)) ![n, 0, 0] (⟨3, ![1, A, B]⟩ : Shape).size inb, w⟩ : View.Piece Val _ e) :: L)) (ix3 s a b)
      = w (ix3 0 a b) :=
  View.read_writes_cons_unit_of_mem v f inb w L (ix3 s a b) (ix3 0 a b) rfl fun x => by
    fin_cases x
    · exact h
    · exact (Nat.zero_add _).symm
    · exact (Nat.zero_add _).symm

/-- Read a slot the newest piece left alone. -/
theorem miss {Val : EltTy → Type} [∀ e, Nonempty (Val e)] {κ : Kind} {sp : Space} {A B : ℕ} {e : EltTy}
    (v : View sig κ sp (⟨3, ![16, A, B]⟩ : Shape) e) (f : v.ty.Contents Val) (s : Fin 16) (n : ℕ)
    (inb : ∀ a, (![n, 0, 0] : Fin 3 → ℕ) a + (⟨3, ![1, A, B]⟩ : Shape).size a ≤ (⟨3, ![16, A, B]⟩ : Shape).size a)
    (w : (⟨3, ![1, A, B]⟩ : Shape).Idx → Val e) (L) (a : Fin A) (b : Fin B) (h : s.val ≠ n) :
    v.read Val (v.writes Val f ((⟨Rect.unit (s := (⟨3, ![16, A, B]⟩ : Shape)) ![n, 0, 0] (⟨3, ![1, A, B]⟩ : Shape).size inb, w⟩ : View.Piece Val _ e) :: L)) (ix3 s a b)
      = v.read Val (v.writes Val f L) (ix3 s a b) :=
  View.read_writes_cons_unit_of_not_mem v f inb w L (ix3 s a b) rfl 0 (by
    show s.val < n ∨ n + 1 ≤ s.val
    omega)

/-- The lane number along the 128 lanes of a head. -/
abbrev lanes : IVec S1x128 32 := iota Kind.tc S1x128 32 [1] iota_S1x128_d1_w32

/-- The new running maxima of a slot whose scores of the block are `S`. -/
def maxNew (S : FVec Ideal S1024x1024 .f32) (m : Vec Ideal S1x1x1024 .f32) : FVec Ideal S1x1024 .f32 :=
  maximumf (shapeCast S1x1024 m shapeCasts_S1x1x1024_S1x1024)
    (shapeCast S1x1024 (multiReduction .maximumf [0] S1024 S 0xFF800000#32 reduces_S1024x1024_S1024 (.inl rfl) rfl) shapeCasts_S1024_S1x1024)

def payM (S : FVec Ideal S1024x1024 .f32) (m : Vec Ideal S1x1x1024 .f32) : Vec Ideal S1x1x1024 .f32 :=
  shapeCast S1x1x1024 (maxNew S m) shapeCasts_S1x1024_S1x1x1024

/-- The new running sums of that slot, the values' rows and the rows of ones in `v1`. -/
def payA (S : FVec Ideal S1024x1024 .f32) (v1 : FVec Ideal S144x1024 .bf16) (m : Vec Ideal S1x1x1024 .f32) (a : Vec Ideal S1x144x1024 .f32) :
    Vec Ideal S1x144x1024 .f32 :=
  shapeCast S1x144x1024
    (addf (mulf (broadcastTo S144x1024 (exp2 (subf (shapeCast S1x1024 m shapeCasts_S1x1x1024_S1x1024) (maxNew S m))) broadcasts_S1x1024_S144x1024)
        (shapeCast S144x1024 a shapeCasts_S1x144x1024_S144x1024))
      (matmul dot_S144x1024_S1024x1024_S144x1024_1_0_0_1_n_n none v1
        (truncf .bf16 (exp2 (subf S (broadcastTo S1024x1024 (maxNew S m) broadcasts_S1x1024_S1024x1024))) bitsLt_bf16_f32)
        (constant S144x1024 .f32 0x00000000#32)))
    shapeCasts_S144x1024_S1x144x1024

/-- The block's scores of one map of a head: the full block, and the block on the diagonal. -/
def scoreU (p : Fin 2) (q k : Vec Ideal S1024x128 .bf16) : FVec Ideal S1024x1024 .f32 :=
  if p = 0 then k0_pay9 lanes q k else k0_pay16 lanes q k
def scoreD (p : Fin 2) (q k : Vec Ideal S1024x128 .bf16) : FVec Ideal S1024x1024 .f32 :=
  if p = 0 then k0_pay21 lanes q k else k0_pay28 lanes q k

/-- The head and the map of a slot. -/
abbrev hd (s : Fin 16) : Fin 8 := ⟨s.val / 2, by omega⟩
abbrev mp (s : Fin 16) : Fin 2 := ⟨s.val % 2, by omega⟩

/-- The columns of one head of a block of queries or keys, and its rows of a block of values, as the body loads them. -/
abbrev cols (h : Fin 8) (v : Memref sig .tc .vmem S1024x1024 .bf16) (x : S1024x1024.Idx → Elt Ideal .bf16) : Vec Ideal S1024x128 .bf16 :=
  View.readAt (Elt Ideal) v.view (Rect.unit (s := S1024x1024) ![0, h.val * 128] S1024x128.size (by
    intro a; fin_cases a
    · exact Nat.le_refl _
    · show h.val * 128 + 128 ≤ 1024; omega)).toLoadRect (v.view.rep x)
abbrev rows (h : Fin 8) (v : Memref sig .tc .vmem S1024x1024 .bf16) (x : S1024x1024.Idx → Elt Ideal .bf16) : Vec Ideal S128x1024 .bf16 :=
  View.readAt (Elt Ideal) v.view (Rect.unit (s := S1024x1024) ![h.val * 128, 0] S128x1024.size (by
    intro a; fin_cases a
    · show h.val * 128 + 128 ≤ 1024; omega
    · exact Nat.le_refl _)).toLoadRect (v.view.rep x)

/-- One slot lies in its buffer. -/
theorem slot_inb {A B : ℕ} (n : ℕ) (h : n < 16) :
    ∀ a, (![n, 0, 0] : Fin 3 → ℕ) a + (⟨3, ![1, A, B]⟩ : Shape).size a ≤ (⟨3, ![16, A, B]⟩ : Shape).size a := by
  intro a
  fin_cases a
  · exact h
  · exact (Nat.zero_add _).le
  · exact (Nat.zero_add _).le

/-- The first `n` slots written in order, newest first, after the pieces `L`. -/
def upTo {Val : EltTy → Type} {A B : ℕ} {e : EltTy} (w : Fin 16 → (⟨3, ![1, A, B]⟩ : Shape).Idx → Val e) (L : List (View.Piece Val (⟨3, ![16, A, B]⟩ : Shape) e)) :
    (n : ℕ) → n ≤ 16 → List (View.Piece Val (⟨3, ![16, A, B]⟩ : Shape) e)
  | 0, _ => L
  | n + 1, h => ⟨Rect.unit (s := (⟨3, ![16, A, B]⟩ : Shape)) ![n, 0, 0] (⟨3, ![1, A, B]⟩ : Shape).size (slot_inb n h), w ⟨n, h⟩⟩ :: upTo w L n (Nat.le_of_succ_le h)

theorem read_upTo_of_lt {Val : EltTy → Type} [∀ e, Nonempty (Val e)] {κ : Kind} {sp : Space} {A B : ℕ} {e : EltTy}
    (v : View sig κ sp (⟨3, ![16, A, B]⟩ : Shape) e) (f : v.ty.Contents Val) (w : Fin 16 → (⟨3, ![1, A, B]⟩ : Shape).Idx → Val e) (L)
    (n : ℕ) (h : n ≤ 16) (s : Fin 16) (hs : s.val < n) (a : Fin A) (b : Fin B) :
    v.read Val (v.writes Val f (upTo w L n h)) (ix3 s a b) = w s (ix3 0 a b) := by
  induction n with
  | zero => exact absurd hs (Nat.not_lt_zero _)
  | succ n ih =>
    rcases Nat.lt_or_ge s.val n with hl | hg
    · exact (miss v f s n _ _ _ a b (by omega)).trans (ih _ hl)
    · have e : s.val = n := by omega
      subst e
      exact hit v f s s.val _ _ _ a b rfl

theorem read_upTo_of_ge {Val : EltTy → Type} [∀ e, Nonempty (Val e)] {κ : Kind} {sp : Space} {A B : ℕ} {e : EltTy}
    (v : View sig κ sp (⟨3, ![16, A, B]⟩ : Shape) e) (f : v.ty.Contents Val) (w : Fin 16 → (⟨3, ![1, A, B]⟩ : Shape).Idx → Val e) (L)
    (n : ℕ) (h : n ≤ 16) (s : Fin 16) (hs : n ≤ s.val) (a : Fin A) (b : Fin B) :
    v.read Val (v.writes Val f (upTo w L n h)) (ix3 s a b) = v.read Val (v.writes Val f L) (ix3 s a b) := by
  induction n with
  | zero => rfl
  | succ n ih => exact (miss v f s n _ _ _ a b (by omega)).trans (ih _ (by omega))

/-- A load of one slot. -/
theorem slot_load {Val : EltTy → Type} [∀ e, Nonempty (Val e)] {κ : Kind} {sp : Space} {A B : ℕ} {e : EltTy}
    (v : View sig κ sp (⟨3, ![16, A, B]⟩ : Shape) e) (f : v.ty.Contents Val) (s : Fin 16) (inb) (a : Fin A) (b : Fin B) :
    View.readAt Val v (Rect.unit (s := (⟨3, ![16, A, B]⟩ : Shape)) ![s.val, 0, 0] (⟨3, ![1, A, B]⟩ : Shape).size inb).toLoadRect f (ix3 0 a b)
      = v.read Val f (ix3 s a b) := by
  rw [View.readAt_unit v f inb rfl inb]
  refine congrArg (v.read Val f) (funext fun x => Fin.ext ((ValueKit.rect_emb_unit_val _ _ _ _ _).trans ?_))
  fin_cases x
  · exact (Nat.add_zero _)
  · exact (Nat.zero_add _)
  · exact (Nat.zero_add _)

/-- One slot of the first scratch, and of the second, as loads. -/
abbrev mAt (c : Dev nD) (f : Buf (Elt Ideal) ((c : Thread nD τ).loc cc0_scratch0)) (s : Fin 16) : Vec Ideal S1x1x1024 .f32 :=
  View.readAt (Elt Ideal) scM0_0.view (Rect.unit (s := S16x1x1024) ![s.val, 0, 0] S1x1x1024.size (slot_inb s.val s.isLt)).toLoadRect f
abbrev aAt (c : Dev nD) (f : Buf (Elt Ideal) ((c : Thread nD τ).loc cc0_scratch1)) (s : Fin 16) : Vec Ideal S1x144x1024 .f32 :=
  View.readAt (Elt Ideal) scM0_1.view (Rect.unit (s := S16x144x1024) ![s.val, 0, 0] S1x144x1024.size (slot_inb s.val s.isLt)).toLoadRect f

section
open kernelRun0_D
set_option maxHeartbeats 1000000
variable (c : Dev nD) (a3 a4 a5 : Memref sig .tc .vmem S1024x1024 .bf16) (x0 x1 x2 : S1024x1024.Idx → Elt Ideal .bf16)
  (f0 : Buf (Elt Ideal) ((c : Thread nD τ).loc cc0_scratch0)) (f1 : Buf (Elt Ideal) ((c : Thread nD τ).loc cc0_scratch1))

abbrev wM_D (s : Fin 16) : S1x1x1024.Idx → Elt Ideal .f32 :=
  payM (scoreU (mp s) (cols (hd s) a3 x0) (cols (hd s) a4 x1)) (mAt c f0 s)
abbrev wA_D (s : Fin 16) : S1x144x1024.Idx → Elt Ideal .f32 :=
  payA (scoreU (mp s) (cols (hd s) a3 x0) (cols (hd s) a4 x1)) (k0_pay8 (rows (hd s) a5 x2)) (mAt c f0 s) (aAt c f1 s)

theorem listM_D : sl.HS0_16 c a3 a4 x0 x1 f0 = upTo (wM_D c a3 a4 x0 x1 f0) [] 16 le_rfl := by
  unfold sl.HS0_16
  rfl
theorem listA_D : sl.HS1_16 c a3 a4 a5 x0 x1 x2 f0 f1 = upTo (wA_D c a3 a4 a5 x0 x1 x2 f0 f1) [] 16 le_rfl := by
  unfold sl.HS1_16
  rfl
theorem slotM_D (i h3 h4 h5 a6 h6 a7 h7 a8 h8 T0 T1 x3 x4 c0 c1 c2) (s : Fin 16) (y : Fin 1024) :
    scM0_0.view.read (Elt Ideal) (kernelRun0_D c i a3 h3 a4 h4 a5 h5 a6 h6 a7 h7 a8 h8 T0 T1 x0 x1 x2 x3 x4 f0 f1 c0 c1 c2).1 (ix3 s 0 y)
      = wM_D c a3 a4 x0 x1 f0 s (ix3 0 0 y) := by
  unfold kernelRun0_D
  dsimp only
  rw [listM_D]
  exact read_upTo_of_lt _ _ _ _ _ _ _ s.isLt _ _
theorem slotA_D (i h3 h4 h5 a6 h6 a7 h7 a8 h8 T0 T1 x3 x4 c0 c1 c2) (s : Fin 16) (e : Fin 144) (y : Fin 1024) :
    scM0_1.view.read (Elt Ideal) (kernelRun0_D c i a3 h3 a4 h4 a5 h5 a6 h6 a7 h7 a8 h8 T0 T1 x0 x1 x2 x3 x4 f0 f1 c0 c1 c2).2.1 (ix3 s e y)
      = wA_D c a3 a4 a5 x0 x1 x2 f0 f1 s (ix3 0 e y) := by
  unfold kernelRun0_D
  dsimp only
  rw [listA_D]
  exact read_upTo_of_lt _ _ _ _ _ _ _ s.isLt _ _
end

-- C
section
open kernelRun0_C
set_option maxHeartbeats 1000000
variable (c : Dev nD) (a3 a4 a5 : Memref sig .tc .vmem S1024x1024 .bf16) (x0 x1 x2 : S1024x1024.Idx → Elt Ideal .bf16)
  (f0 : Buf (Elt Ideal) ((c : Thread nD τ).loc cc0_scratch0)) (f1 : Buf (Elt Ideal) ((c : Thread nD τ).loc cc0_scratch1))

abbrev wM_C (s : Fin 16) : S1x1x1024.Idx → Elt Ideal .f32 :=
  payM (scoreD (mp s) (cols (hd s) a3 x0) (cols (hd s) a4 x1)) (mAt c f0 s)
abbrev wA_C (s : Fin 16) : S1x144x1024.Idx → Elt Ideal .f32 :=
  payA (scoreD (mp s) (cols (hd s) a3 x0) (cols (hd s) a4 x1)) (k0_pay8 (rows (hd s) a5 x2)) (mAt c f0 s) (aAt c f1 s)

theorem listM_C : sl.HS0_16 c a3 a4 x0 x1 f0 = upTo (wM_C c a3 a4 x0 x1 f0) [] 16 le_rfl := by
  unfold sl.HS0_16
  rfl
theorem listA_C : sl.HS1_16 c a3 a4 a5 x0 x1 x2 f0 f1 = upTo (wA_C c a3 a4 a5 x0 x1 x2 f0 f1) [] 16 le_rfl := by
  unfold sl.HS1_16
  rfl
theorem slotM_C (i h3 h4 h5 a6 h6 a7 h7 a8 h8 T0 T1 x3 x4 c0 c1 c2) (s : Fin 16) (y : Fin 1024) :
    scM0_0.view.read (Elt Ideal) (kernelRun0_C c i a3 h3 a4 h4 a5 h5 a6 h6 a7 h7 a8 h8 T0 T1 x0 x1 x2 x3 x4 f0 f1 c0 c1 c2).2.1 (ix3 s 0 y)
      = wM_C c a3 a4 x0 x1 f0 s (ix3 0 0 y) := by
  unfold kernelRun0_C
  dsimp only
  rw [listM_C]
  exact read_upTo_of_lt _ _ _ _ _ _ _ s.isLt _ _
theorem slotA_C (i h3 h4 h5 a6 h6 a7 h7 a8 h8 T0 T1 x3 x4 c0 c1 c2) (s : Fin 16) (e : Fin 144) (y : Fin 1024) :
    scM0_1.view.read (Elt Ideal) (kernelRun0_C c i a3 h3 a4 h4 a5 h5 a6 h6 a7 h7 a8 h8 T0 T1 x0 x1 x2 x3 x4 f0 f1 c0 c1 c2).2.2.1 (ix3 s e y)
      = wA_C c a3 a4 a5 x0 x1 x2 f0 f1 s (ix3 0 e y) := by
  unfold kernelRun0_C
  dsimp only
  rw [listA_C]
  exact read_upTo_of_lt _ _ _ _ _ _ _ s.isLt _ _
end

/-- What a slot holds before its first block. -/
def mNew : Vec Ideal S1x1x1024 .f32 := fun _ => (Named.named κ "mask" 0xF149F2CA#32 : Ideal .f32)
def aNew : Vec Ideal S1x144x1024 .f32 := fun _ => (Scalar.ofBits .f32 0x00000000#32 : Ideal .f32)
abbrev initM : List (View.Piece (Elt Ideal) S16x1x1024 .f32) := [⟨Rect.unit (s := S16x1x1024) ![0, 0, 0] S16x1x1024.size inb_S16x1x1024_S16x1x1024_0_0_0, k0_pay1 (F := Ideal)⟩]
abbrev initA : List (View.Piece (Elt Ideal) S16x144x1024 .f32) := [⟨Rect.unit (s := S16x144x1024) ![0, 0, 0] S16x144x1024.size inb_S16x144x1024_S16x144x1024_0_0_0, k0_pay2 (F := Ideal)⟩]

theorem fresh {Val : EltTy → Type} [∀ e, Nonempty (Val e)] {κ : Kind} {sp : Space} {A B : ℕ} {e : EltTy}
    (v : View sig κ sp (⟨3, ![16, A, B]⟩ : Shape) e) (w : Fin 16 → (⟨3, ![1, A, B]⟩ : Shape).Idx → Val e)
    (p : (⟨3, ![16, A, B]⟩ : Shape).Idx → Val e) (z : Val e) (hp : ∀ i, p i = z) (inb0) (k : ℕ) (hk : k ≤ 16) (s : Fin 16) (h : k ≤ s.val) (inb) :
    v.readCov (upTo w [⟨Rect.unit (s := (⟨3, ![16, A, B]⟩ : Shape)) ![0, 0, 0] (⟨3, ![16, A, B]⟩ : Shape).size inb0, p⟩] k hk)
      (Rect.unit (s := (⟨3, ![16, A, B]⟩ : Shape)) ![s.val, 0, 0] (⟨3, ![1, A, B]⟩ : Shape).size inb).toLoadRect = fun _ => z := by
  funext y
  obtain ⟨a, b, rfl⟩ : ∃ (a : Fin A) (b : Fin B), y = ix3 (0 : Fin 1) a b := ⟨y 1, y 2, by
    funext x
    fin_cases x
    · exact Subsingleton.elim (α := Fin 1) _ _
    · rfl
    · rfl⟩
  refine (slot_load v _ s inb a b).trans ((read_upTo_of_ge _ _ _ _ _ _ _ h _ _).trans ((?_ : _ = p (ix3 s a b)).trans (hp _)))
  exact View.read_writes_cons_unit_of_mem v v.junk inb0 p [] (ix3 s a b) (ix3 s a b) rfl (fun x => by
    fin_cases x <;> exact (Nat.zero_add _).symm)
theorem freshM (w) (k : ℕ) (hk : k ≤ 16) (s : Fin 16) (h : k ≤ s.val) (inb) :
    scM0_0.view.readCov (Val := Elt Ideal) (upTo w initM k hk) (Rect.unit (s := S16x1x1024) ![s.val, 0, 0] S1x1x1024.size inb).toLoadRect = mNew :=
  fresh scM0_0.view w (k0_pay1 (F := Ideal)) _ (fun _ => rfl) _ k hk s h inb
theorem freshA (w) (k : ℕ) (hk : k ≤ 16) (s : Fin 16) (h : k ≤ s.val) (inb) :
    scM0_1.view.readCov (Val := Elt Ideal) (upTo w initA k hk) (Rect.unit (s := S16x144x1024) ![s.val, 0, 0] S1x144x1024.size inb).toLoadRect = aNew :=
  fresh scM0_1.view w (k0_pay2 (F := Ideal)) _ (fun _ => rfl) _ k hk s h inb

section
open kernelRun0_B
set_option maxHeartbeats 1000000
variable (a3 a4 a5 : Memref sig .tc .vmem S1024x1024 .bf16) (x0 x1 x2 : S1024x1024.Idx → Elt Ideal .bf16)

abbrev wM_B (s : Fin 16) : S1x1x1024.Idx → Elt Ideal .f32 :=
  payM (scoreU (mp s) (cols (hd s) a3 x0) (cols (hd s) a4 x1)) mNew
abbrev wA_B (s : Fin 16) : S1x144x1024.Idx → Elt Ideal .f32 :=
  payA (scoreU (mp s) (cols (hd s) a3 x0) (cols (hd s) a4 x1)) (k0_pay8 (rows (hd s) a5 x2)) mNew aNew

include a3 a4 a5 x0 x1 x2
theorem listM_B_0 : kernelRun0_B.sl.HS0_1 = upTo (wM_B a3 a4 x0 x1) initM 0 (Nat.zero_le _) := by
  unfold kernelRun0_B.sl.HS0_1
  rfl
theorem listA_B_0 : kernelRun0_B.sl.HS1_1 = upTo (wA_B a3 a4 a5 x0 x1 x2) initA 0 (Nat.zero_le _) := by
  unfold kernelRun0_B.sl.HS1_1
  rfl
theorem loadM_B_0 : kernelRun0_B.sl.v39 = mNew := by
  unfold kernelRun0_B.sl.v39
  rw [listM_B_0 a3 a4 a5 x0 x1 x2]
  exact freshM _ 0 _ ⟨0, by decide⟩ (Nat.le_refl _) _
theorem listM_B_1 : kernelRun0_B.sl.HS0_2 a3 a4 x0 x1 = upTo (wM_B a3 a4 x0 x1) initM 1 (by decide) := by
  have e : kernelRun0_B.sl.v64 a3 a4 x0 x1 = wM_B a3 a4 x0 x1 ⟨0, by decide⟩ := by
    unfold wM_B
    rw [← loadM_B_0 a3 a4 a5 x0 x1 x2]
    rfl
  unfold kernelRun0_B.sl.HS0_2
  rw [e, listM_B_0 a3 a4 a5 x0 x1 x2]
  rfl
theorem loadA_B_0 : kernelRun0_B.sl.v51 = aNew := by
  unfold kernelRun0_B.sl.v51
  rw [listA_B_0 a3 a4 a5 x0 x1 x2]
  exact freshA _ 0 _ ⟨0, by decide⟩ (Nat.le_refl _) _
theorem listA_B_1 : kernelRun0_B.sl.HS1_2 a3 a4 a5 x0 x1 x2 = upTo (wA_B a3 a4 a5 x0 x1 x2) initA 1 (by decide) := by
  have e : kernelRun0_B.sl.v60 a3 a4 a5 x0 x1 x2 = wA_B a3 a4 a5 x0 x1 x2 ⟨0, by decide⟩ := by
    unfold wA_B
    rw [← loadM_B_0 a3 a4 a5 x0 x1 x2, ← loadA_B_0 a3 a4 a5 x0 x1 x2]
    rfl
  unfold kernelRun0_B.sl.HS1_2
  rw [e, listA_B_0 a3 a4 a5 x0 x1 x2]
  rfl
theorem loadM_B_1 : kernelRun0_B.sl.v79 a3 a4 x0 x1 = mNew := by
  unfold kernelRun0_B.sl.v79
  rw [listM_B_1 a3 a4 a5 x0 x1 x2]
  exact freshM _ 1 _ ⟨1, by decide⟩ (Nat.le_refl _) _
theorem listM_B_2 : kernelRun0_B.sl.HS0_3 a3 a4 x0 x1 = upTo (wM_B a3 a4 x0 x1) initM 2 (by decide) := by
  have e : k0_pay4 (kernelRun0_B.sl.v83 a3 a4 x0 x1) = wM_B a3 a4 x0 x1 ⟨1, by decide⟩ := by
    unfold wM_B
    rw [← loadM_B_1 a3 a4 a5 x0 x1 x2]
    rfl
  unfold kernelRun0_B.sl.HS0_3
  rw [e, listM_B_1 a3 a4 a5 x0 x1 x2]
  rfl
theorem loadA_B_1 : kernelRun0_B.sl.v91 a3 a4 a5 x0 x1 x2 = aNew := by
  unfold kernelRun0_B.sl.v91
  rw [listA_B_1 a3 a4 a5 x0 x1 x2]
  exact freshA _ 1 _ ⟨1, by decide⟩ (Nat.le_refl _) _
theorem listA_B_2 : kernelRun0_B.sl.HS1_3 a3 a4 a5 x0 x1 x2 = upTo (wA_B a3 a4 a5 x0 x1 x2) initA 2 (by decide) := by
  have e : k0_pay3 (kernelRun0_B.sl.v96 a3 a4 a5 x0 x1 x2) = wA_B a3 a4 a5 x0 x1 x2 ⟨1, by decide⟩ := by
    unfold wA_B
    rw [← loadM_B_1 a3 a4 a5 x0 x1 x2, ← loadA_B_1 a3 a4 a5 x0 x1 x2]
    rfl
  unfold kernelRun0_B.sl.HS1_3
  rw [e, listA_B_1 a3 a4 a5 x0 x1 x2]
  rfl
theorem loadM_B_2 : kernelRun0_B.sl.v39_1 a3 a4 x0 x1 = mNew := by
  unfold kernelRun0_B.sl.v39_1
  rw [listM_B_2 a3 a4 a5 x0 x1 x2]
  exact freshM _ 2 _ ⟨2, by decide⟩ (Nat.le_refl _) _
theorem listM_B_3 : kernelRun0_B.sl.HS0_4 a3 a4 x0 x1 = upTo (wM_B a3 a4 x0 x1) initM 3 (by decide) := by
  have e : kernelRun0_B.sl.v64_1 a3 a4 x0 x1 = wM_B a3 a4 x0 x1 ⟨2, by decide⟩ := by
    unfold wM_B
    rw [← loadM_B_2 a3 a4 a5 x0 x1 x2]
    rfl
  unfold kernelRun0_B.sl.HS0_4
  rw [e, listM_B_2 a3 a4 a5 x0 x1 x2]
  rfl
theorem loadA_B_2 : kernelRun0_B.sl.v51_1 a3 a4 a5 x0 x1 x2 = aNew := by
  unfold kernelRun0_B.sl.v51_1
  rw [listA_B_2 a3 a4 a5 x0 x1 x2]
  exact freshA _ 2 _ ⟨2, by decide⟩ (Nat.le_refl _) _
theorem listA_B_3 : kernelRun0_B.sl.HS1_4 a3 a4 a5 x0 x1 x2 = upTo (wA_B a3 a4 a5 x0 x1 x2) initA 3 (by decide) := by
  have e : kernelRun0_B.sl.v60_1 a3 a4 a5 x0 x1 x2 = wA_B a3 a4 a5 x0 x1 x2 ⟨2, by decide⟩ := by
    unfold wA_B
    rw [← loadM_B_2 a3 a4 a5 x0 x1 x2, ← loadA_B_2 a3 a4 a5 x0 x1 x2]
    rfl
  unfold kernelRun0_B.sl.HS1_4
  rw [e, listA_B_2 a3 a4 a5 x0 x1 x2]
  rfl
theorem loadM_B_3 : kernelRun0_B.sl.v79_1 a3 a4 x0 x1 = mNew := by
  unfold kernelRun0_B.sl.v79_1
  rw [listM_B_3 a3 a4 a5 x0 x1 x2]
  exact freshM _ 3 _ ⟨3, by decide⟩ (Nat.le_refl _) _
theorem listM_B_4 : kernelRun0_B.sl.HS0_5 a3 a4 x0 x1 = upTo (wM_B a3 a4 x0 x1) initM 4 (by decide) := by
  have e : k0_pay4 (kernelRun0_B.sl.v83_1 a3 a4 x0 x1) = wM_B a3 a4 x0 x1 ⟨3, by decide⟩ := by
    unfold wM_B
    rw [← loadM_B_3 a3 a4 a5 x0 x1 x2]
    rfl
  unfold kernelRun0_B.sl.HS0_5
  rw [e, listM_B_3 a3 a4 a5 x0 x1 x2]
  rfl
theorem loadA_B_3 : kernelRun0_B.sl.v91_1 a3 a4 a5 x0 x1 x2 = aNew := by
  unfold kernelRun0_B.sl.v91_1
  rw [listA_B_3 a3 a4 a5 x0 x1 x2]
  exact freshA _ 3 _ ⟨3, by decide⟩ (Nat.le_refl _) _
theorem listA_B_4 : kernelRun0_B.sl.HS1_5 a3 a4 a5 x0 x1 x2 = upTo (wA_B a3 a4 a5 x0 x1 x2) initA 4 (by decide) := by
  have e : k0_pay3 (kernelRun0_B.sl.v96_1 a3 a4 a5 x0 x1 x2) = wA_B a3 a4 a5 x0 x1 x2 ⟨3, by decide⟩ := by
    unfold wA_B
    rw [← loadM_B_3 a3 a4 a5 x0 x1 x2, ← loadA_B_3 a3 a4 a5 x0 x1 x2]
    rfl
  unfold kernelRun0_B.sl.HS1_5
  rw [e, listA_B_3 a3 a4 a5 x0 x1 x2]
  rfl
theorem loadM_B_4 : kernelRun0_B.sl.v39_2 a3 a4 x0 x1 = mNew := by
  unfold kernelRun0_B.sl.v39_2
  rw [listM_B_4 a3 a4 a5 x0 x1 x2]
  exact freshM _ 4 _ ⟨4, by decide⟩ (Nat.le_refl _) _
theorem listM_B_5 : kernelRun0_B.sl.HS0_6 a3 a4 x0 x1 = upTo (wM_B a3 a4 x0 x1) initM 5 (by decide) := by
  have e : kernelRun0_B.sl.v64_2 a3 a4 x0 x1 = wM_B a3 a4 x0 x1 ⟨4, by decide⟩ := by
    unfold wM_B
    rw [← loadM_B_4 a3 a4 a5 x0 x1 x2]
    rfl
  unfold kernelRun0_B.sl.HS0_6
  rw [e, listM_B_4 a3 a4 a5 x0 x1 x2]
  rfl
theorem loadA_B_4 : kernelRun0_B.sl.v51_2 a3 a4 a5 x0 x1 x2 = aNew := by
  unfold kernelRun0_B.sl.v51_2
  rw [listA_B_4 a3 a4 a5 x0 x1 x2]
  exact freshA _ 4 _ ⟨4, by decide⟩ (Nat.le_refl _) _
theorem listA_B_5 : kernelRun0_B.sl.HS1_6 a3 a4 a5 x0 x1 x2 = upTo (wA_B a3 a4 a5 x0 x1 x2) initA 5 (by decide) := by
  have e : kernelRun0_B.sl.v60_2 a3 a4 a5 x0 x1 x2 = wA_B a3 a4 a5 x0 x1 x2 ⟨4, by decide⟩ := by
    unfold wA_B
    rw [← loadM_B_4 a3 a4 a5 x0 x1 x2, ← loadA_B_4 a3 a4 a5 x0 x1 x2]
    rfl
  unfold kernelRun0_B.sl.HS1_6
  rw [e, listA_B_4 a3 a4 a5 x0 x1 x2]
  rfl
theorem loadM_B_5 : kernelRun0_B.sl.v79_2 a3 a4 x0 x1 = mNew := by
  unfold kernelRun0_B.sl.v79_2
  rw [listM_B_5 a3 a4 a5 x0 x1 x2]
  exact freshM _ 5 _ ⟨5, by decide⟩ (Nat.le_refl _) _
theorem listM_B_6 : kernelRun0_B.sl.HS0_7 a3 a4 x0 x1 = upTo (wM_B a3 a4 x0 x1) initM 6 (by decide) := by
  have e : k0_pay4 (kernelRun0_B.sl.v83_2 a3 a4 x0 x1) = wM_B a3 a4 x0 x1 ⟨5, by decide⟩ := by
    unfold wM_B
    rw [← loadM_B_5 a3 a4 a5 x0 x1 x2]
    rfl
  unfold kernelRun0_B.sl.HS0_7
  rw [e, listM_B_5 a3 a4 a5 x0 x1 x2]
  rfl
theorem loadA_B_5 : kernelRun0_B.sl.v91_2 a3 a4 a5 x0 x1 x2 = aNew := by
  unfold kernelRun0_B.sl.v91_2
  rw [listA_B_5 a3 a4 a5 x0 x1 x2]
  exact freshA _ 5 _ ⟨5, by decide⟩ (Nat.le_refl _) _
theorem listA_B_6 : kernelRun0_B.sl.HS1_7 a3 a4 a5 x0 x1 x2 = upTo (wA_B a3 a4 a5 x0 x1 x2) initA 6 (by decide) := by
  have e : k0_pay3 (kernelRun0_B.sl.v96_2 a3 a4 a5 x0 x1 x2) = wA_B a3 a4 a5 x0 x1 x2 ⟨5, by decide⟩ := by
    unfold wA_B
    rw [← loadM_B_5 a3 a4 a5 x0 x1 x2, ← loadA_B_5 a3 a4 a5 x0 x1 x2]
    rfl
  unfold kernelRun0_B.sl.HS1_7
  rw [e, listA_B_5 a3 a4 a5 x0 x1 x2]
  rfl
theorem loadM_B_6 : kernelRun0_B.sl.v39_3 a3 a4 x0 x1 = mNew := by
  unfold kernelRun0_B.sl.v39_3
  rw [listM_B_6 a3 a4 a5 x0 x1 x2]
  exact freshM _ 6 _ ⟨6, by decide⟩ (Nat.le_refl _) _
theorem listM_B_7 : kernelRun0_B.sl.HS0_8 a3 a4 x0 x1 = upTo (wM_B a3 a4 x0 x1) initM 7 (by decide) := by
  have e : kernelRun0_B.sl.v64_3 a3 a4 x0 x1 = wM_B a3 a4 x0 x1 ⟨6, by decide⟩ := by
    unfold wM_B
    rw [← loadM_B_6 a3 a4 a5 x0 x1 x2]
    rfl
  unfold kernelRun0_B.sl.HS0_8
  rw [e, listM_B_6 a3 a4 a5 x0 x1 x2]
  rfl
theorem loadA_B_6 : kernelRun0_B.sl.v51_3 a3 a4 a5 x0 x1 x2 = aNew := by
  unfold kernelRun0_B.sl.v51_3
  rw [listA_B_6 a3 a4 a5 x0 x1 x2]
  exact freshA _ 6 _ ⟨6, by decide⟩ (Nat.le_refl _) _
theorem listA_B_7 : kernelRun0_B.sl.HS1_8 a3 a4 a5 x0 x1 x2 = upTo (wA_B a3 a4 a5 x0 x1 x2) initA 7 (by decide) := by
  have e : kernelRun0_B.sl.v60_3 a3 a4 a5 x0 x1 x2 = wA_B a3 a4 a5 x0 x1 x2 ⟨6, by decide⟩ := by
    unfold wA_B
    rw [← loadM_B_6 a3 a4 a5 x0 x1 x2, ← loadA_B_6 a3 a4 a5 x0 x1 x2]
    rfl
  unfold kernelRun0_B.sl.HS1_8
  rw [e, listA_B_6 a3 a4 a5 x0 x1 x2]
  rfl
theorem loadM_B_7 : kernelRun0_B.sl.v79_3 a3 a4 x0 x1 = mNew := by
  unfold kernelRun0_B.sl.v79_3
  rw [listM_B_7 a3 a4 a5 x0 x1 x2]
  exact freshM _ 7 _ ⟨7, by decide⟩ (Nat.le_refl _) _
theorem listM_B_8 : kernelRun0_B.sl.HS0_9 a3 a4 x0 x1 = upTo (wM_B a3 a4 x0 x1) initM 8 (by decide) := by
  have e : k0_pay4 (kernelRun0_B.sl.v83_3 a3 a4 x0 x1) = wM_B a3 a4 x0 x1 ⟨7, by decide⟩ := by
    unfold wM_B
    rw [← loadM_B_7 a3 a4 a5 x0 x1 x2]
    rfl
  unfold kernelRun0_B.sl.HS0_9
  rw [e, listM_B_7 a3 a4 a5 x0 x1 x2]
  rfl
theorem loadA_B_7 : kernelRun0_B.sl.v91_3 a3 a4 a5 x0 x1 x2 = aNew := by
  unfold kernelRun0_B.sl.v91_3
  rw [listA_B_7 a3 a4 a5 x0 x1 x2]
  exact freshA _ 7 _ ⟨7, by decide⟩ (Nat.le_refl _) _
theorem listA_B_8 : kernelRun0_B.sl.HS1_9 a3 a4 a5 x0 x1 x2 = upTo (wA_B a3 a4 a5 x0 x1 x2) initA 8 (by decide) := by
  have e : k0_pay3 (kernelRun0_B.sl.v96_3 a3 a4 a5 x0 x1 x2) = wA_B a3 a4 a5 x0 x1 x2 ⟨7, by decide⟩ := by
    unfold wA_B
    rw [← loadM_B_7 a3 a4 a5 x0 x1 x2, ← loadA_B_7 a3 a4 a5 x0 x1 x2]
    rfl
  unfold kernelRun0_B.sl.HS1_9
  rw [e, listA_B_7 a3 a4 a5 x0 x1 x2]
  rfl
theorem loadM_B_8 : kernelRun0_B.sl.v39_4 a3 a4 x0 x1 = mNew := by
  unfold kernelRun0_B.sl.v39_4
  rw [listM_B_8 a3 a4 a5 x0 x1 x2]
  exact freshM _ 8 _ ⟨8, by decide⟩ (Nat.le_refl _) _
theorem listM_B_9 : kernelRun0_B.sl.HS0_10 a3 a4 x0 x1 = upTo (wM_B a3 a4 x0 x1) initM 9 (by decide) := by
  have e : kernelRun0_B.sl.v64_4 a3 a4 x0 x1 = wM_B a3 a4 x0 x1 ⟨8, by decide⟩ := by
    unfold wM_B
    rw [← loadM_B_8 a3 a4 a5 x0 x1 x2]
    rfl
  unfold kernelRun0_B.sl.HS0_10
  rw [e, listM_B_8 a3 a4 a5 x0 x1 x2]
  rfl
theorem loadA_B_8 : kernelRun0_B.sl.v51_4 a3 a4 a5 x0 x1 x2 = aNew := by
  unfold kernelRun0_B.sl.v51_4
  rw [listA_B_8 a3 a4 a5 x0 x1 x2]
  exact freshA _ 8 _ ⟨8, by decide⟩ (Nat.le_refl _) _
theorem listA_B_9 : kernelRun0_B.sl.HS1_10 a3 a4 a5 x0 x1 x2 = upTo (wA_B a3 a4 a5 x0 x1 x2) initA 9 (by decide) := by
  have e : kernelRun0_B.sl.v60_4 a3 a4 a5 x0 x1 x2 = wA_B a3 a4 a5 x0 x1 x2 ⟨8, by decide⟩ := by
    unfold wA_B
    rw [← loadM_B_8 a3 a4 a5 x0 x1 x2, ← loadA_B_8 a3 a4 a5 x0 x1 x2]
    rfl
  unfold kernelRun0_B.sl.HS1_10
  rw [e, listA_B_8 a3 a4 a5 x0 x1 x2]
  rfl
theorem loadM_B_9 : kernelRun0_B.sl.v79_4 a3 a4 x0 x1 = mNew := by
  unfold kernelRun0_B.sl.v79_4
  rw [listM_B_9 a3 a4 a5 x0 x1 x2]
  exact freshM _ 9 _ ⟨9, by decide⟩ (Nat.le_refl _) _
theorem listM_B_10 : kernelRun0_B.sl.HS0_11 a3 a4 x0 x1 = upTo (wM_B a3 a4 x0 x1) initM 10 (by decide) := by
  have e : k0_pay4 (kernelRun0_B.sl.v83_4 a3 a4 x0 x1) = wM_B a3 a4 x0 x1 ⟨9, by decide⟩ := by
    unfold wM_B
    rw [← loadM_B_9 a3 a4 a5 x0 x1 x2]
    rfl
  unfold kernelRun0_B.sl.HS0_11
  rw [e, listM_B_9 a3 a4 a5 x0 x1 x2]
  rfl
theorem loadA_B_9 : kernelRun0_B.sl.v91_4 a3 a4 a5 x0 x1 x2 = aNew := by
  unfold kernelRun0_B.sl.v91_4
  rw [listA_B_9 a3 a4 a5 x0 x1 x2]
  exact freshA _ 9 _ ⟨9, by decide⟩ (Nat.le_refl _) _
theorem listA_B_10 : kernelRun0_B.sl.HS1_11 a3 a4 a5 x0 x1 x2 = upTo (wA_B a3 a4 a5 x0 x1 x2) initA 10 (by decide) := by
  have e : k0_pay3 (kernelRun0_B.sl.v96_4 a3 a4 a5 x0 x1 x2) = wA_B a3 a4 a5 x0 x1 x2 ⟨9, by decide⟩ := by
    unfold wA_B
    rw [← loadM_B_9 a3 a4 a5 x0 x1 x2, ← loadA_B_9 a3 a4 a5 x0 x1 x2]
    rfl
  unfold kernelRun0_B.sl.HS1_11
  rw [e, listA_B_9 a3 a4 a5 x0 x1 x2]
  rfl
theorem loadM_B_10 : kernelRun0_B.sl.v39_5 a3 a4 x0 x1 = mNew := by
  unfold kernelRun0_B.sl.v39_5
  rw [listM_B_10 a3 a4 a5 x0 x1 x2]
  exact freshM _ 10 _ ⟨10, by decide⟩ (Nat.le_refl _) _
theorem listM_B_11 : kernelRun0_B.sl.HS0_12 a3 a4 x0 x1 = upTo (wM_B a3 a4 x0 x1) initM 11 (by decide) := by
  have e : kernelRun0_B.sl.v64_5 a3 a4 x0 x1 = wM_B a3 a4 x0 x1 ⟨10, by decide⟩ := by
    unfold wM_B
    rw [← loadM_B_10 a3 a4 a5 x0 x1 x2]
    rfl
  unfold kernelRun0_B.sl.HS0_12
  rw [e, listM_B_10 a3 a4 a5 x0 x1 x2]
  rfl
theorem loadA_B_10 : kernelRun0_B.sl.v51_5 a3 a4 a5 x0 x1 x2 = aNew := by
  unfold kernelRun0_B.sl.v51_5
  rw [listA_B_10 a3 a4 a5 x0 x1 x2]
  exact freshA _ 10 _ ⟨10, by decide⟩ (Nat.le_refl _) _
theorem listA_B_11 : kernelRun0_B.sl.HS1_12 a3 a4 a5 x0 x1 x2 = upTo (wA_B a3 a4 a5 x0 x1 x2) initA 11 (by decide) := by
  have e : kernelRun0_B.sl.v60_5 a3 a4 a5 x0 x1 x2 = wA_B a3 a4 a5 x0 x1 x2 ⟨10, by decide⟩ := by
    unfold wA_B
    rw [← loadM_B_10 a3 a4 a5 x0 x1 x2, ← loadA_B_10 a3 a4 a5 x0 x1 x2]
    rfl
  unfold kernelRun0_B.sl.HS1_12
  rw [e, listA_B_10 a3 a4 a5 x0 x1 x2]
  rfl
theorem loadM_B_11 : kernelRun0_B.sl.v79_5 a3 a4 x0 x1 = mNew := by
  unfold kernelRun0_B.sl.v79_5
  rw [listM_B_11 a3 a4 a5 x0 x1 x2]
  exact freshM _ 11 _ ⟨11, by decide⟩ (Nat.le_refl _) _
theorem listM_B_12 : kernelRun0_B.sl.HS0_13 a3 a4 x0 x1 = upTo (wM_B a3 a4 x0 x1) initM 12 (by decide) := by
  have e : k0_pay4 (kernelRun0_B.sl.v83_5 a3 a4 x0 x1) = wM_B a3 a4 x0 x1 ⟨11, by decide⟩ := by
    unfold wM_B
    rw [← loadM_B_11 a3 a4 a5 x0 x1 x2]
    rfl
  unfold kernelRun0_B.sl.HS0_13
  rw [e, listM_B_11 a3 a4 a5 x0 x1 x2]
  rfl
theorem loadA_B_11 : kernelRun0_B.sl.v91_5 a3 a4 a5 x0 x1 x2 = aNew := by
  unfold kernelRun0_B.sl.v91_5
  rw [listA_B_11 a3 a4 a5 x0 x1 x2]
  exact freshA _ 11 _ ⟨11, by decide⟩ (Nat.le_refl _) _
theorem listA_B_12 : kernelRun0_B.sl.HS1_13 a3 a4 a5 x0 x1 x2 = upTo (wA_B a3 a4 a5 x0 x1 x2) initA 12 (by decide) := by
  have e : k0_pay3 (kernelRun0_B.sl.v96_5 a3 a4 a5 x0 x1 x2) = wA_B a3 a4 a5 x0 x1 x2 ⟨11, by decide⟩ := by
    unfold wA_B
    rw [← loadM_B_11 a3 a4 a5 x0 x1 x2, ← loadA_B_11 a3 a4 a5 x0 x1 x2]
    rfl
  unfold kernelRun0_B.sl.HS1_13
  rw [e, listA_B_11 a3 a4 a5 x0 x1 x2]
  rfl
theorem loadM_B_12 : kernelRun0_B.sl.v39_6 a3 a4 x0 x1 = mNew := by
  unfold kernelRun0_B.sl.v39_6
  rw [listM_B_12 a3 a4 a5 x0 x1 x2]
  exact freshM _ 12 _ ⟨12, by decide⟩ (Nat.le_refl _) _
theorem listM_B_13 : kernelRun0_B.sl.HS0_14 a3 a4 x0 x1 = upTo (wM_B a3 a4 x0 x1) initM 13 (by decide) := by
  have e : kernelRun0_B.sl.v64_6 a3 a4 x0 x1 = wM_B a3 a4 x0 x1 ⟨12, by decide⟩ := by
    unfold wM_B
    rw [← loadM_B_12 a3 a4 a5 x0 x1 x2]
    rfl
  unfold kernelRun0_B.sl.HS0_14
  rw [e, listM_B_12 a3 a4 a5 x0 x1 x2]
  rfl
theorem loadA_B_12 : kernelRun0_B.sl.v51_6 a3 a4 a5 x0 x1 x2 = aNew := by
  unfold kernelRun0_B.sl.v51_6
  rw [listA_B_12 a3 a4 a5 x0 x1 x2]
  exact freshA _ 12 _ ⟨12, by decide⟩ (Nat.le_refl _) _
theorem listA_B_13 : kernelRun0_B.sl.HS1_14 a3 a4 a5 x0 x1 x2 = upTo (wA_B a3 a4 a5 x0 x1 x2) initA 13 (by decide) := by
  have e : kernelRun0_B.sl.v60_6 a3 a4 a5 x0 x1 x2 = wA_B a3 a4 a5 x0 x1 x2 ⟨12, by decide⟩ := by
    unfold wA_B
    rw [← loadM_B_12 a3 a4 a5 x0 x1 x2, ← loadA_B_12 a3 a4 a5 x0 x1 x2]
    rfl
  unfold kernelRun0_B.sl.HS1_14
  rw [e, listA_B_12 a3 a4 a5 x0 x1 x2]
  rfl
theorem loadM_B_13 : kernelRun0_B.sl.v79_6 a3 a4 x0 x1 = mNew := by
  unfold kernelRun0_B.sl.v79_6
  rw [listM_B_13 a3 a4 a5 x0 x1 x2]
  exact freshM _ 13 _ ⟨13, by decide⟩ (Nat.le_refl _) _
theorem listM_B_14 : kernelRun0_B.sl.HS0_15 a3 a4 x0 x1 = upTo (wM_B a3 a4 x0 x1) initM 14 (by decide) := by
  have e : k0_pay4 (kernelRun0_B.sl.v83_6 a3 a4 x0 x1) = wM_B a3 a4 x0 x1 ⟨13, by decide⟩ := by
    unfold wM_B
    rw [← loadM_B_13 a3 a4 a5 x0 x1 x2]
    rfl
  unfold kernelRun0_B.sl.HS0_15
  rw [e, listM_B_13 a3 a4 a5 x0 x1 x2]
  rfl
theorem loadA_B_13 : kernelRun0_B.sl.v91_6 a3 a4 a5 x0 x1 x2 = aNew := by
  unfold kernelRun0_B.sl.v91_6
  rw [listA_B_13 a3 a4 a5 x0 x1 x2]
  exact freshA _ 13 _ ⟨13, by decide⟩ (Nat.le_refl _) _
theorem listA_B_14 : kernelRun0_B.sl.HS1_15 a3 a4 a5 x0 x1 x2 = upTo (wA_B a3 a4 a5 x0 x1 x2) initA 14 (by decide) := by
  have e : k0_pay3 (kernelRun0_B.sl.v96_6 a3 a4 a5 x0 x1 x2) = wA_B a3 a4 a5 x0 x1 x2 ⟨13, by decide⟩ := by
    unfold wA_B
    rw [← loadM_B_13 a3 a4 a5 x0 x1 x2, ← loadA_B_13 a3 a4 a5 x0 x1 x2]
    rfl
  unfold kernelRun0_B.sl.HS1_15
  rw [e, listA_B_13 a3 a4 a5 x0 x1 x2]
  rfl
theorem loadM_B_14 : kernelRun0_B.sl.v39_7 a3 a4 x0 x1 = mNew := by
  unfold kernelRun0_B.sl.v39_7
  rw [listM_B_14 a3 a4 a5 x0 x1 x2]
  exact freshM _ 14 _ ⟨14, by decide⟩ (Nat.le_refl _) _
theorem listM_B_15 : kernelRun0_B.sl.HS0_16 a3 a4 x0 x1 = upTo (wM_B a3 a4 x0 x1) initM 15 (by decide) := by
  have e : kernelRun0_B.sl.v64_7 a3 a4 x0 x1 = wM_B a3 a4 x0 x1 ⟨14, by decide⟩ := by
    unfold wM_B
    rw [← loadM_B_14 a3 a4 a5 x0 x1 x2]
    rfl
  unfold kernelRun0_B.sl.HS0_16
  rw [e, listM_B_14 a3 a4 a5 x0 x1 x2]
  rfl
theorem loadA_B_14 : kernelRun0_B.sl.v51_7 a3 a4 a5 x0 x1 x2 = aNew := by
  unfold kernelRun0_B.sl.v51_7
  rw [listA_B_14 a3 a4 a5 x0 x1 x2]
  exact freshA _ 14 _ ⟨14, by decide⟩ (Nat.le_refl _) _
theorem listA_B_15 : kernelRun0_B.sl.HS1_16 a3 a4 a5 x0 x1 x2 = upTo (wA_B a3 a4 a5 x0 x1 x2) initA 15 (by decide) := by
  have e : kernelRun0_B.sl.v60_7 a3 a4 a5 x0 x1 x2 = wA_B a3 a4 a5 x0 x1 x2 ⟨14, by decide⟩ := by
    unfold wA_B
    rw [← loadM_B_14 a3 a4 a5 x0 x1 x2, ← loadA_B_14 a3 a4 a5 x0 x1 x2]
    rfl
  unfold kernelRun0_B.sl.HS1_16
  rw [e, listA_B_14 a3 a4 a5 x0 x1 x2]
  rfl
theorem loadM_B_15 : kernelRun0_B.sl.v79_7 a3 a4 x0 x1 = mNew := by
  unfold kernelRun0_B.sl.v79_7
  rw [listM_B_15 a3 a4 a5 x0 x1 x2]
  exact freshM _ 15 _ ⟨15, by decide⟩ (Nat.le_refl _) _
theorem listM_B_16 : kernelRun0_B.sl.HS0_17 a3 a4 x0 x1 = upTo (wM_B a3 a4 x0 x1) initM 16 (by decide) := by
  have e : k0_pay4 (kernelRun0_B.sl.v83_7 a3 a4 x0 x1) = wM_B a3 a4 x0 x1 ⟨15, by decide⟩ := by
    unfold wM_B
    rw [← loadM_B_15 a3 a4 a5 x0 x1 x2]
    rfl
  unfold kernelRun0_B.sl.HS0_17
  rw [e, listM_B_15 a3 a4 a5 x0 x1 x2]
  rfl
theorem loadA_B_15 : kernelRun0_B.sl.v91_7 a3 a4 a5 x0 x1 x2 = aNew := by
  unfold kernelRun0_B.sl.v91_7
  rw [listA_B_15 a3 a4 a5 x0 x1 x2]
  exact freshA _ 15 _ ⟨15, by decide⟩ (Nat.le_refl _) _
theorem listA_B_16 : kernelRun0_B.sl.HS1_17 a3 a4 a5 x0 x1 x2 = upTo (wA_B a3 a4 a5 x0 x1 x2) initA 16 (by decide) := by
  have e : k0_pay3 (kernelRun0_B.sl.v96_7 a3 a4 a5 x0 x1 x2) = wA_B a3 a4 a5 x0 x1 x2 ⟨15, by decide⟩ := by
    unfold wA_B
    rw [← loadM_B_15 a3 a4 a5 x0 x1 x2, ← loadA_B_15 a3 a4 a5 x0 x1 x2]
    rfl
  unfold kernelRun0_B.sl.HS1_17
  rw [e, listA_B_15 a3 a4 a5 x0 x1 x2]
  rfl
theorem slotM_B (c : Dev nD) (i h3 h4 h5 a6 h6 a7 h7 a8 h8 T0 T1 x3 x4 c0 c1 c2) (s : Fin 16) (y : Fin 1024) :
    scM0_0.view.read (Elt Ideal) (kernelRun0_B c i a3 h3 a4 h4 a5 h5 a6 h6 a7 h7 a8 h8 T0 T1 x0 x1 x2 x3 x4 c0 c1 c2).1 (ix3 s 0 y)
      = wM_B a3 a4 x0 x1 s (ix3 0 0 y) := by
  unfold kernelRun0_B
  dsimp only
  rw [listM_B_16 a3 a4 a5 x0 x1 x2]
  exact read_upTo_of_lt _ _ _ _ _ _ _ s.isLt _ _
theorem slotA_B (c : Dev nD) (i h3 h4 h5 a6 h6 a7 h7 a8 h8 T0 T1 x3 x4 c0 c1 c2) (s : Fin 16) (e : Fin 144) (y : Fin 1024) :
    scM0_1.view.read (Elt Ideal) (kernelRun0_B c i a3 h3 a4 h4 a5 h5 a6 h6 a7 h7 a8 h8 T0 T1 x0 x1 x2 x3 x4 c0 c1 c2).2.1 (ix3 s e y)
      = wA_B a3 a4 a5 x0 x1 x2 s (ix3 0 e y) := by
  unfold kernelRun0_B
  dsimp only
  rw [listA_B_16]
  exact read_upTo_of_lt _ _ _ _ _ _ _ s.isLt _ _
end

section
open kernelRun0_A
set_option maxHeartbeats 1000000
variable (a3 a4 a5 : Memref sig .tc .vmem S1024x1024 .bf16) (x0 x1 x2 : S1024x1024.Idx → Elt Ideal .bf16)

abbrev wM_A (s : Fin 16) : S1x1x1024.Idx → Elt Ideal .f32 :=
  payM (scoreD (mp s) (cols (hd s) a3 x0) (cols (hd s) a4 x1)) mNew
abbrev wA_A (s : Fin 16) : S1x144x1024.Idx → Elt Ideal .f32 :=
  payA (scoreD (mp s) (cols (hd s) a3 x0) (cols (hd s) a4 x1)) (k0_pay8 (rows (hd s) a5 x2)) mNew aNew

include a3 a4 a5 x0 x1 x2
theorem listM_A_0 : kernelRun0_A.sl.HS0_1 = upTo (wM_A a3 a4 x0 x1) initM 0 (Nat.zero_le _) := by
  unfold kernelRun0_A.sl.HS0_1
  rfl
theorem listA_A_0 : kernelRun0_A.sl.HS1_1 = upTo (wA_A a3 a4 a5 x0 x1 x2) initA 0 (Nat.zero_le _) := by
  unfold kernelRun0_A.sl.HS1_1
  rfl
theorem loadM_A_0 : kernelRun0_A.sl.v67 = mNew := by
  unfold kernelRun0_A.sl.v67
  rw [listM_A_0 a3 a4 a5 x0 x1 x2]
  exact freshM _ 0 _ ⟨0, by decide⟩ (Nat.le_refl _) _
theorem listM_A_1 : kernelRun0_A.sl.HS0_2 a3 a4 x0 x1 = upTo (wM_A a3 a4 x0 x1) initM 1 (by decide) := by
  have e : k0_pay27 (kernelRun0_A.sl.r_3 a3 a4 x0 x1) = wM_A a3 a4 x0 x1 ⟨0, by decide⟩ := by
    unfold wM_A
    rw [← loadM_A_0 a3 a4 a5 x0 x1 x2]
    rfl
  unfold kernelRun0_A.sl.HS0_2
  rw [e, listM_A_0 a3 a4 a5 x0 x1 x2]
  rfl
theorem loadA_A_0 : kernelRun0_A.sl.v79 = aNew := by
  unfold kernelRun0_A.sl.v79
  rw [listA_A_0 a3 a4 a5 x0 x1 x2]
  exact freshA _ 0 _ ⟨0, by decide⟩ (Nat.le_refl _) _
theorem listA_A_1 : kernelRun0_A.sl.HS1_2 a3 a4 a5 x0 x1 x2 = upTo (wA_A a3 a4 a5 x0 x1 x2) initA 1 (by decide) := by
  have e : k0_pay26 (kernelRun0_A.sl.r_2 a5 x2) (kernelRun0_A.sl.r_4 a3 a4 x0 x1) (kernelRun0_A.sl.r_5 a3 a4 x0 x1) kernelRun0_A.sl.v79 = wA_A a3 a4 a5 x0 x1 x2 ⟨0, by decide⟩ := by
    unfold wA_A
    rw [← loadM_A_0 a3 a4 a5 x0 x1 x2, ← loadA_A_0 a3 a4 a5 x0 x1 x2]
    rfl
  unfold kernelRun0_A.sl.HS1_2
  rw [e, listA_A_0 a3 a4 a5 x0 x1 x2]
  rfl
theorem loadM_A_1 : kernelRun0_A.sl.v112 a3 a4 x0 x1 = mNew := by
  unfold kernelRun0_A.sl.v112
  rw [listM_A_1 a3 a4 a5 x0 x1 x2]
  exact freshM _ 1 _ ⟨1, by decide⟩ (Nat.le_refl _) _
theorem listM_A_2 : kernelRun0_A.sl.HS0_3 a3 a4 x0 x1 = upTo (wM_A a3 a4 x0 x1) initM 2 (by decide) := by
  have e : k0_pay6 (kernelRun0_A.sl.r_7 a3 a4 x0 x1) = wM_A a3 a4 x0 x1 ⟨1, by decide⟩ := by
    unfold wM_A
    rw [← loadM_A_1 a3 a4 a5 x0 x1 x2]
    rfl
  unfold kernelRun0_A.sl.HS0_3
  rw [e, listM_A_1 a3 a4 a5 x0 x1 x2]
  rfl
theorem loadA_A_1 : kernelRun0_A.sl.v124 a3 a4 a5 x0 x1 x2 = aNew := by
  unfold kernelRun0_A.sl.v124
  rw [listA_A_1 a3 a4 a5 x0 x1 x2]
  exact freshA _ 1 _ ⟨1, by decide⟩ (Nat.le_refl _) _
theorem listA_A_2 : kernelRun0_A.sl.HS1_3 a3 a4 a5 x0 x1 x2 = upTo (wA_A a3 a4 a5 x0 x1 x2) initA 2 (by decide) := by
  have e : k0_pay5 (kernelRun0_A.sl.r_2 a5 x2) (kernelRun0_A.sl.r_6 a3 a4 x0 x1) (kernelRun0_A.sl.r_7 a3 a4 x0 x1) (kernelRun0_A.sl.r_8 a3 a4 x0 x1) (kernelRun0_A.sl.v124 a3 a4 a5 x0 x1 x2) = wA_A a3 a4 a5 x0 x1 x2 ⟨1, by decide⟩ := by
    unfold wA_A
    rw [← loadM_A_1 a3 a4 a5 x0 x1 x2, ← loadA_A_1 a3 a4 a5 x0 x1 x2]
    rfl
  unfold kernelRun0_A.sl.HS1_3
  rw [e, listA_A_1 a3 a4 a5 x0 x1 x2]
  rfl
theorem loadM_A_2 : kernelRun0_A.sl.v67_1 a3 a4 x0 x1 = mNew := by
  unfold kernelRun0_A.sl.v67_1
  rw [listM_A_2 a3 a4 a5 x0 x1 x2]
  exact freshM _ 2 _ ⟨2, by decide⟩ (Nat.le_refl _) _
theorem listM_A_3 : kernelRun0_A.sl.HS0_4 a3 a4 x0 x1 = upTo (wM_A a3 a4 x0 x1) initM 3 (by decide) := by
  have e : k0_pay27 (kernelRun0_A.sl.r_10 a3 a4 x0 x1) = wM_A a3 a4 x0 x1 ⟨2, by decide⟩ := by
    unfold wM_A
    rw [← loadM_A_2 a3 a4 a5 x0 x1 x2]
    rfl
  unfold kernelRun0_A.sl.HS0_4
  rw [e, listM_A_2 a3 a4 a5 x0 x1 x2]
  rfl
theorem loadA_A_2 : kernelRun0_A.sl.v79_1 a3 a4 a5 x0 x1 x2 = aNew := by
  unfold kernelRun0_A.sl.v79_1
  rw [listA_A_2 a3 a4 a5 x0 x1 x2]
  exact freshA _ 2 _ ⟨2, by decide⟩ (Nat.le_refl _) _
theorem listA_A_3 : kernelRun0_A.sl.HS1_4 a3 a4 a5 x0 x1 x2 = upTo (wA_A a3 a4 a5 x0 x1 x2) initA 3 (by decide) := by
  have e : k0_pay26 (kernelRun0_A.sl.r_9 a5 x2) (kernelRun0_A.sl.r_11 a3 a4 x0 x1) (kernelRun0_A.sl.r_12 a3 a4 x0 x1) (kernelRun0_A.sl.v79_1 a3 a4 a5 x0 x1 x2) = wA_A a3 a4 a5 x0 x1 x2 ⟨2, by decide⟩ := by
    unfold wA_A
    rw [← loadM_A_2 a3 a4 a5 x0 x1 x2, ← loadA_A_2 a3 a4 a5 x0 x1 x2]
    rfl
  unfold kernelRun0_A.sl.HS1_4
  rw [e, listA_A_2 a3 a4 a5 x0 x1 x2]
  rfl
theorem loadM_A_3 : kernelRun0_A.sl.v112_1 a3 a4 x0 x1 = mNew := by
  unfold kernelRun0_A.sl.v112_1
  rw [listM_A_3 a3 a4 a5 x0 x1 x2]
  exact freshM _ 3 _ ⟨3, by decide⟩ (Nat.le_refl _) _
theorem listM_A_4 : kernelRun0_A.sl.HS0_5 a3 a4 x0 x1 = upTo (wM_A a3 a4 x0 x1) initM 4 (by decide) := by
  have e : k0_pay6 (kernelRun0_A.sl.r_14 a3 a4 x0 x1) = wM_A a3 a4 x0 x1 ⟨3, by decide⟩ := by
    unfold wM_A
    rw [← loadM_A_3 a3 a4 a5 x0 x1 x2]
    rfl
  unfold kernelRun0_A.sl.HS0_5
  rw [e, listM_A_3 a3 a4 a5 x0 x1 x2]
  rfl
theorem loadA_A_3 : kernelRun0_A.sl.v124_1 a3 a4 a5 x0 x1 x2 = aNew := by
  unfold kernelRun0_A.sl.v124_1
  rw [listA_A_3 a3 a4 a5 x0 x1 x2]
  exact freshA _ 3 _ ⟨3, by decide⟩ (Nat.le_refl _) _
theorem listA_A_4 : kernelRun0_A.sl.HS1_5 a3 a4 a5 x0 x1 x2 = upTo (wA_A a3 a4 a5 x0 x1 x2) initA 4 (by decide) := by
  have e : k0_pay5 (kernelRun0_A.sl.r_9 a5 x2) (kernelRun0_A.sl.r_13 a3 a4 x0 x1) (kernelRun0_A.sl.r_14 a3 a4 x0 x1) (kernelRun0_A.sl.r_15 a3 a4 x0 x1) (kernelRun0_A.sl.v124_1 a3 a4 a5 x0 x1 x2) = wA_A a3 a4 a5 x0 x1 x2 ⟨3, by decide⟩ := by
    unfold wA_A
    rw [← loadM_A_3 a3 a4 a5 x0 x1 x2, ← loadA_A_3 a3 a4 a5 x0 x1 x2]
    rfl
  unfold kernelRun0_A.sl.HS1_5
  rw [e, listA_A_3 a3 a4 a5 x0 x1 x2]
  rfl
theorem loadM_A_4 : kernelRun0_A.sl.v67_2 a3 a4 x0 x1 = mNew := by
  unfold kernelRun0_A.sl.v67_2
  rw [listM_A_4 a3 a4 a5 x0 x1 x2]
  exact freshM _ 4 _ ⟨4, by decide⟩ (Nat.le_refl _) _
theorem listM_A_5 : kernelRun0_A.sl.HS0_6 a3 a4 x0 x1 = upTo (wM_A a3 a4 x0 x1) initM 5 (by decide) := by
  have e : k0_pay27 (kernelRun0_A.sl.r_17 a3 a4 x0 x1) = wM_A a3 a4 x0 x1 ⟨4, by decide⟩ := by
    unfold wM_A
    rw [← loadM_A_4 a3 a4 a5 x0 x1 x2]
    rfl
  unfold kernelRun0_A.sl.HS0_6
  rw [e, listM_A_4 a3 a4 a5 x0 x1 x2]
  rfl
theorem loadA_A_4 : kernelRun0_A.sl.v79_2 a3 a4 a5 x0 x1 x2 = aNew := by
  unfold kernelRun0_A.sl.v79_2
  rw [listA_A_4 a3 a4 a5 x0 x1 x2]
  exact freshA _ 4 _ ⟨4, by decide⟩ (Nat.le_refl _) _
theorem listA_A_5 : kernelRun0_A.sl.HS1_6 a3 a4 a5 x0 x1 x2 = upTo (wA_A a3 a4 a5 x0 x1 x2) initA 5 (by decide) := by
  have e : k0_pay26 (kernelRun0_A.sl.r_16 a5 x2) (kernelRun0_A.sl.r_18 a3 a4 x0 x1) (kernelRun0_A.sl.r_19 a3 a4 x0 x1) (kernelRun0_A.sl.v79_2 a3 a4 a5 x0 x1 x2) = wA_A a3 a4 a5 x0 x1 x2 ⟨4, by decide⟩ := by
    unfold wA_A
    rw [← loadM_A_4 a3 a4 a5 x0 x1 x2, ← loadA_A_4 a3 a4 a5 x0 x1 x2]
    rfl
  unfold kernelRun0_A.sl.HS1_6
  rw [e, listA_A_4 a3 a4 a5 x0 x1 x2]
  rfl
theorem loadM_A_5 : kernelRun0_A.sl.v112_2 a3 a4 x0 x1 = mNew := by
  unfold kernelRun0_A.sl.v112_2
  rw [listM_A_5 a3 a4 a5 x0 x1 x2]
  exact freshM _ 5 _ ⟨5, by decide⟩ (Nat.le_refl _) _
theorem listM_A_6 : kernelRun0_A.sl.HS0_7 a3 a4 x0 x1 = upTo (wM_A a3 a4 x0 x1) initM 6 (by decide) := by
  have e : k0_pay6 (kernelRun0_A.sl.r_21 a3 a4 x0 x1) = wM_A a3 a4 x0 x1 ⟨5, by decide⟩ := by
    unfold wM_A
    rw [← loadM_A_5 a3 a4 a5 x0 x1 x2]
    rfl
  unfold kernelRun0_A.sl.HS0_7
  rw [e, listM_A_5 a3 a4 a5 x0 x1 x2]
  rfl
theorem loadA_A_5 : kernelRun0_A.sl.v124_2 a3 a4 a5 x0 x1 x2 = aNew := by
  unfold kernelRun0_A.sl.v124_2
  rw [listA_A_5 a3 a4 a5 x0 x1 x2]
  exact freshA _ 5 _ ⟨5, by decide⟩ (Nat.le_refl _) _
theorem listA_A_6 : kernelRun0_A.sl.HS1_7 a3 a4 a5 x0 x1 x2 = upTo (wA_A a3 a4 a5 x0 x1 x2) initA 6 (by decide) := by
  have e : k0_pay5 (kernelRun0_A.sl.r_16 a5 x2) (kernelRun0_A.sl.r_20 a3 a4 x0 x1) (kernelRun0_A.sl.r_21 a3 a4 x0 x1) (kernelRun0_A.sl.r_22 a3 a4 x0 x1) (kernelRun0_A.sl.v124_2 a3 a4 a5 x0 x1 x2) = wA_A a3 a4 a5 x0 x1 x2 ⟨5, by decide⟩ := by
    unfold wA_A
    rw [← loadM_A_5 a3 a4 a5 x0 x1 x2, ← loadA_A_5 a3 a4 a5 x0 x1 x2]
    rfl
  unfold kernelRun0_A.sl.HS1_7
  rw [e, listA_A_5 a3 a4 a5 x0 x1 x2]
  rfl
theorem loadM_A_6 : kernelRun0_A.sl.v67_3 a3 a4 x0 x1 = mNew := by
  unfold kernelRun0_A.sl.v67_3
  rw [listM_A_6 a3 a4 a5 x0 x1 x2]
  exact freshM _ 6 _ ⟨6, by decide⟩ (Nat.le_refl _) _
theorem listM_A_7 : kernelRun0_A.sl.HS0_8 a3 a4 x0 x1 = upTo (wM_A a3 a4 x0 x1) initM 7 (by decide) := by
  have e : k0_pay27 (kernelRun0_A.sl.r_24 a3 a4 x0 x1) = wM_A a3 a4 x0 x1 ⟨6, by decide⟩ := by
    unfold wM_A
    rw [← loadM_A_6 a3 a4 a5 x0 x1 x2]
    rfl
  unfold kernelRun0_A.sl.HS0_8
  rw [e, listM_A_6 a3 a4 a5 x0 x1 x2]
  rfl
theorem loadA_A_6 : kernelRun0_A.sl.v79_3 a3 a4 a5 x0 x1 x2 = aNew := by
  unfold kernelRun0_A.sl.v79_3
  rw [listA_A_6 a3 a4 a5 x0 x1 x2]
  exact freshA _ 6 _ ⟨6, by decide⟩ (Nat.le_refl _) _
theorem listA_A_7 : kernelRun0_A.sl.HS1_8 a3 a4 a5 x0 x1 x2 = upTo (wA_A a3 a4 a5 x0 x1 x2) initA 7 (by decide) := by
  have e : k0_pay26 (kernelRun0_A.sl.r_23 a5 x2) (kernelRun0_A.sl.r_25 a3 a4 x0 x1) (kernelRun0_A.sl.r_26 a3 a4 x0 x1) (kernelRun0_A.sl.v79_3 a3 a4 a5 x0 x1 x2) = wA_A a3 a4 a5 x0 x1 x2 ⟨6, by decide⟩ := by
    unfold wA_A
    rw [← loadM_A_6 a3 a4 a5 x0 x1 x2, ← loadA_A_6 a3 a4 a5 x0 x1 x2]
    rfl
  unfold kernelRun0_A.sl.HS1_8
  rw [e, listA_A_6 a3 a4 a5 x0 x1 x2]
  rfl
theorem loadM_A_7 : kernelRun0_A.sl.v112_3 a3 a4 x0 x1 = mNew := by
  unfold kernelRun0_A.sl.v112_3
  rw [listM_A_7 a3 a4 a5 x0 x1 x2]
  exact freshM _ 7 _ ⟨7, by decide⟩ (Nat.le_refl _) _
theorem listM_A_8 : kernelRun0_A.sl.HS0_9 a3 a4 x0 x1 = upTo (wM_A a3 a4 x0 x1) initM 8 (by decide) := by
  have e : k0_pay6 (kernelRun0_A.sl.r_28 a3 a4 x0 x1) = wM_A a3 a4 x0 x1 ⟨7, by decide⟩ := by
    unfold wM_A
    rw [← loadM_A_7 a3 a4 a5 x0 x1 x2]
    rfl
  unfold kernelRun0_A.sl.HS0_9
  rw [e, listM_A_7 a3 a4 a5 x0 x1 x2]
  rfl
theorem loadA_A_7 : kernelRun0_A.sl.v124_3 a3 a4 a5 x0 x1 x2 = aNew := by
  unfold kernelRun0_A.sl.v124_3
  rw [listA_A_7 a3 a4 a5 x0 x1 x2]
  exact freshA _ 7 _ ⟨7, by decide⟩ (Nat.le_refl _) _
theorem listA_A_8 : kernelRun0_A.sl.HS1_9 a3 a4 a5 x0 x1 x2 = upTo (wA_A a3 a4 a5 x0 x1 x2) initA 8 (by decide) := by
  have e : k0_pay5 (kernelRun0_A.sl.r_23 a5 x2) (kernelRun0_A.sl.r_27 a3 a4 x0 x1) (kernelRun0_A.sl.r_28 a3 a4 x0 x1) (kernelRun0_A.sl.r_29 a3 a4 x0 x1) (kernelRun0_A.sl.v124_3 a3 a4 a5 x0 x1 x2) = wA_A a3 a4 a5 x0 x1 x2 ⟨7, by decide⟩ := by
    unfold wA_A
    rw [← loadM_A_7 a3 a4 a5 x0 x1 x2, ← loadA_A_7 a3 a4 a5 x0 x1 x2]
    rfl
  unfold kernelRun0_A.sl.HS1_9
  rw [e, listA_A_7 a3 a4 a5 x0 x1 x2]
  rfl
theorem loadM_A_8 : kernelRun0_A.sl.v67_4 a3 a4 x0 x1 = mNew := by
  unfold kernelRun0_A.sl.v67_4
  rw [listM_A_8 a3 a4 a5 x0 x1 x2]
  exact freshM _ 8 _ ⟨8, by decide⟩ (Nat.le_refl _) _
theorem listM_A_9 : kernelRun0_A.sl.HS0_10 a3 a4 x0 x1 = upTo (wM_A a3 a4 x0 x1) initM 9 (by decide) := by
  have e : k0_pay27 (kernelRun0_A.sl.r_31 a3 a4 x0 x1) = wM_A a3 a4 x0 x1 ⟨8, by decide⟩ := by
    unfold wM_A
    rw [← loadM_A_8 a3 a4 a5 x0 x1 x2]
    rfl
  unfold kernelRun0_A.sl.HS0_10
  rw [e, listM_A_8 a3 a4 a5 x0 x1 x2]
  rfl
theorem loadA_A_8 : kernelRun0_A.sl.v79_4 a3 a4 a5 x0 x1 x2 = aNew := by
  unfold kernelRun0_A.sl.v79_4
  rw [listA_A_8 a3 a4 a5 x0 x1 x2]
  exact freshA _ 8 _ ⟨8, by decide⟩ (Nat.le_refl _) _
theorem listA_A_9 : kernelRun0_A.sl.HS1_10 a3 a4 a5 x0 x1 x2 = upTo (wA_A a3 a4 a5 x0 x1 x2) initA 9 (by decide) := by
  have e : k0_pay26 (kernelRun0_A.sl.r_30 a5 x2) (kernelRun0_A.sl.r_32 a3 a4 x0 x1) (kernelRun0_A.sl.r_33 a3 a4 x0 x1) (kernelRun0_A.sl.v79_4 a3 a4 a5 x0 x1 x2) = wA_A a3 a4 a5 x0 x1 x2 ⟨8, by decide⟩ := by
    unfold wA_A
    rw [← loadM_A_8 a3 a4 a5 x0 x1 x2, ← loadA_A_8 a3 a4 a5 x0 x1 x2]
    rfl
  unfold kernelRun0_A.sl.HS1_10
  rw [e, listA_A_8 a3 a4 a5 x0 x1 x2]
  rfl
theorem loadM_A_9 : kernelRun0_A.sl.v112_4 a3 a4 x0 x1 = mNew := by
  unfold kernelRun0_A.sl.v112_4
  rw [listM_A_9 a3 a4 a5 x0 x1 x2]
  exact freshM _ 9 _ ⟨9, by decide⟩ (Nat.le_refl _) _
theorem listM_A_10 : kernelRun0_A.sl.HS0_11 a3 a4 x0 x1 = upTo (wM_A a3 a4 x0 x1) initM 10 (by decide) := by
  have e : k0_pay6 (kernelRun0_A.sl.r_35 a3 a4 x0 x1) = wM_A a3 a4 x0 x1 ⟨9, by decide⟩ := by
    unfold wM_A
    rw [← loadM_A_9 a3 a4 a5 x0 x1 x2]
    rfl
  unfold kernelRun0_A.sl.HS0_11
  rw [e, listM_A_9 a3 a4 a5 x0 x1 x2]
  rfl
theorem loadA_A_9 : kernelRun0_A.sl.v124_4 a3 a4 a5 x0 x1 x2 = aNew := by
  unfold kernelRun0_A.sl.v124_4
  rw [listA_A_9 a3 a4 a5 x0 x1 x2]
  exact freshA _ 9 _ ⟨9, by decide⟩ (Nat.le_refl _) _
theorem listA_A_10 : kernelRun0_A.sl.HS1_11 a3 a4 a5 x0 x1 x2 = upTo (wA_A a3 a4 a5 x0 x1 x2) initA 10 (by decide) := by
  have e : k0_pay5 (kernelRun0_A.sl.r_30 a5 x2) (kernelRun0_A.sl.r_34 a3 a4 x0 x1) (kernelRun0_A.sl.r_35 a3 a4 x0 x1) (kernelRun0_A.sl.r_36 a3 a4 x0 x1) (kernelRun0_A.sl.v124_4 a3 a4 a5 x0 x1 x2) = wA_A a3 a4 a5 x0 x1 x2 ⟨9, by decide⟩ := by
    unfold wA_A
    rw [← loadM_A_9 a3 a4 a5 x0 x1 x2, ← loadA_A_9 a3 a4 a5 x0 x1 x2]
    rfl
  unfold kernelRun0_A.sl.HS1_11
  rw [e, listA_A_9 a3 a4 a5 x0 x1 x2]
  rfl
theorem loadM_A_10 : kernelRun0_A.sl.v67_5 a3 a4 x0 x1 = mNew := by
  unfold kernelRun0_A.sl.v67_5
  rw [listM_A_10 a3 a4 a5 x0 x1 x2]
  exact freshM _ 10 _ ⟨10, by decide⟩ (Nat.le_refl _) _
theorem listM_A_11 : kernelRun0_A.sl.HS0_12 a3 a4 x0 x1 = upTo (wM_A a3 a4 x0 x1) initM 11 (by decide) := by
  have e : k0_pay27 (kernelRun0_A.sl.r_38 a3 a4 x0 x1) = wM_A a3 a4 x0 x1 ⟨10, by decide⟩ := by
    unfold wM_A
    rw [← loadM_A_10 a3 a4 a5 x0 x1 x2]
    rfl
  unfold kernelRun0_A.sl.HS0_12
  rw [e, listM_A_10 a3 a4 a5 x0 x1 x2]
  rfl
theorem loadA_A_10 : kernelRun0_A.sl.v79_5 a3 a4 a5 x0 x1 x2 = aNew := by
  unfold kernelRun0_A.sl.v79_5
  rw [listA_A_10 a3 a4 a5 x0 x1 x2]
  exact freshA _ 10 _ ⟨10, by decide⟩ (Nat.le_refl _) _
theorem listA_A_11 : kernelRun0_A.sl.HS1_12 a3 a4 a5 x0 x1 x2 = upTo (wA_A a3 a4 a5 x0 x1 x2) initA 11 (by decide) := by
  have e : k0_pay26 (kernelRun0_A.sl.r_37 a5 x2) (kernelRun0_A.sl.r_39 a3 a4 x0 x1) (kernelRun0_A.sl.r_40 a3 a4 x0 x1) (kernelRun0_A.sl.v79_5 a3 a4 a5 x0 x1 x2) = wA_A a3 a4 a5 x0 x1 x2 ⟨10, by decide⟩ := by
    unfold wA_A
    rw [← loadM_A_10 a3 a4 a5 x0 x1 x2, ← loadA_A_10 a3 a4 a5 x0 x1 x2]
    rfl
  unfold kernelRun0_A.sl.HS1_12
  rw [e, listA_A_10 a3 a4 a5 x0 x1 x2]
  rfl
theorem loadM_A_11 : kernelRun0_A.sl.v112_5 a3 a4 x0 x1 = mNew := by
  unfold kernelRun0_A.sl.v112_5
  rw [listM_A_11 a3 a4 a5 x0 x1 x2]
  exact freshM _ 11 _ ⟨11, by decide⟩ (Nat.le_refl _) _
theorem listM_A_12 : kernelRun0_A.sl.HS0_13 a3 a4 x0 x1 = upTo (wM_A a3 a4 x0 x1) initM 12 (by decide) := by
  have e : k0_pay6 (kernelRun0_A.sl.r_42 a3 a4 x0 x1) = wM_A a3 a4 x0 x1 ⟨11, by decide⟩ := by
    unfold wM_A
    rw [← loadM_A_11 a3 a4 a5 x0 x1 x2]
    rfl
  unfold kernelRun0_A.sl.HS0_13
  rw [e, listM_A_11 a3 a4 a5 x0 x1 x2]
  rfl
theorem loadA_A_11 : kernelRun0_A.sl.v124_5 a3 a4 a5 x0 x1 x2 = aNew := by
  unfold kernelRun0_A.sl.v124_5
  rw [listA_A_11 a3 a4 a5 x0 x1 x2]
  exact freshA _ 11 _ ⟨11, by decide⟩ (Nat.le_refl _) _
theorem listA_A_12 : kernelRun0_A.sl.HS1_13 a3 a4 a5 x0 x1 x2 = upTo (wA_A a3 a4 a5 x0 x1 x2) initA 12 (by decide) := by
  have e : k0_pay5 (kernelRun0_A.sl.r_37 a5 x2) (kernelRun0_A.sl.r_41 a3 a4 x0 x1) (kernelRun0_A.sl.r_42 a3 a4 x0 x1) (kernelRun0_A.sl.r_43 a3 a4 x0 x1) (kernelRun0_A.sl.v124_5 a3 a4 a5 x0 x1 x2) = wA_A a3 a4 a5 x0 x1 x2 ⟨11, by decide⟩ := by
    unfold wA_A
    rw [← loadM_A_11 a3 a4 a5 x0 x1 x2, ← loadA_A_11 a3 a4 a5 x0 x1 x2]
    rfl
  unfold kernelRun0_A.sl.HS1_13
  rw [e, listA_A_11 a3 a4 a5 x0 x1 x2]
  rfl
theorem loadM_A_12 : kernelRun0_A.sl.v67_6 a3 a4 x0 x1 = mNew := by
  unfold kernelRun0_A.sl.v67_6
  rw [listM_A_12 a3 a4 a5 x0 x1 x2]
  exact freshM _ 12 _ ⟨12, by decide⟩ (Nat.le_refl _) _
theorem listM_A_13 : kernelRun0_A.sl.HS0_14 a3 a4 x0 x1 = upTo (wM_A a3 a4 x0 x1) initM 13 (by decide) := by
  have e : k0_pay27 (kernelRun0_A.sl.r_45 a3 a4 x0 x1) = wM_A a3 a4 x0 x1 ⟨12, by decide⟩ := by
    unfold wM_A
    rw [← loadM_A_12 a3 a4 a5 x0 x1 x2]
    rfl
  unfold kernelRun0_A.sl.HS0_14
  rw [e, listM_A_12 a3 a4 a5 x0 x1 x2]
  rfl
theorem loadA_A_12 : kernelRun0_A.sl.v79_6 a3 a4 a5 x0 x1 x2 = aNew := by
  unfold kernelRun0_A.sl.v79_6
  rw [listA_A_12 a3 a4 a5 x0 x1 x2]
  exact freshA _ 12 _ ⟨12, by decide⟩ (Nat.le_refl _) _
theorem listA_A_13 : kernelRun0_A.sl.HS1_14 a3 a4 a5 x0 x1 x2 = upTo (wA_A a3 a4 a5 x0 x1 x2) initA 13 (by decide) := by
  have e : k0_pay26 (kernelRun0_A.sl.r_44 a5 x2) (kernelRun0_A.sl.r_46 a3 a4 x0 x1) (kernelRun0_A.sl.r_47 a3 a4 x0 x1) (kernelRun0_A.sl.v79_6 a3 a4 a5 x0 x1 x2) = wA_A a3 a4 a5 x0 x1 x2 ⟨12, by decide⟩ := by
    unfold wA_A
    rw [← loadM_A_12 a3 a4 a5 x0 x1 x2, ← loadA_A_12 a3 a4 a5 x0 x1 x2]
    rfl
  unfold kernelRun0_A.sl.HS1_14
  rw [e, listA_A_12 a3 a4 a5 x0 x1 x2]
  rfl
theorem loadM_A_13 : kernelRun0_A.sl.v112_6 a3 a4 x0 x1 = mNew := by
  unfold kernelRun0_A.sl.v112_6
  rw [listM_A_13 a3 a4 a5 x0 x1 x2]
  exact freshM _ 13 _ ⟨13, by decide⟩ (Nat.le_refl _) _
theorem listM_A_14 : kernelRun0_A.sl.HS0_15 a3 a4 x0 x1 = upTo (wM_A a3 a4 x0 x1) initM 14 (by decide) := by
  have e : k0_pay6 (kernelRun0_A.sl.r_49 a3 a4 x0 x1) = wM_A a3 a4 x0 x1 ⟨13, by decide⟩ := by
    unfold wM_A
    rw [← loadM_A_13 a3 a4 a5 x0 x1 x2]
    rfl
  unfold kernelRun0_A.sl.HS0_15
  rw [e, listM_A_13 a3 a4 a5 x0 x1 x2]
  rfl
theorem loadA_A_13 : kernelRun0_A.sl.v124_6 a3 a4 a5 x0 x1 x2 = aNew := by
  unfold kernelRun0_A.sl.v124_6
  rw [listA_A_13 a3 a4 a5 x0 x1 x2]
  exact freshA _ 13 _ ⟨13, by decide⟩ (Nat.le_refl _) _
theorem listA_A_14 : kernelRun0_A.sl.HS1_15 a3 a4 a5 x0 x1 x2 = upTo (wA_A a3 a4 a5 x0 x1 x2) initA 14 (by decide) := by
  have e : k0_pay5 (kernelRun0_A.sl.r_44 a5 x2) (kernelRun0_A.sl.r_48 a3 a4 x0 x1) (kernelRun0_A.sl.r_49 a3 a4 x0 x1) (kernelRun0_A.sl.r_50 a3 a4 x0 x1) (kernelRun0_A.sl.v124_6 a3 a4 a5 x0 x1 x2) = wA_A a3 a4 a5 x0 x1 x2 ⟨13, by decide⟩ := by
    unfold wA_A
    rw [← loadM_A_13 a3 a4 a5 x0 x1 x2, ← loadA_A_13 a3 a4 a5 x0 x1 x2]
    rfl
  unfold kernelRun0_A.sl.HS1_15
  rw [e, listA_A_13 a3 a4 a5 x0 x1 x2]
  rfl
theorem loadM_A_14 : kernelRun0_A.sl.v67_7 a3 a4 x0 x1 = mNew := by
  unfold kernelRun0_A.sl.v67_7
  rw [listM_A_14 a3 a4 a5 x0 x1 x2]
  exact freshM _ 14 _ ⟨14, by decide⟩ (Nat.le_refl _) _
theorem listM_A_15 : kernelRun0_A.sl.HS0_16 a3 a4 x0 x1 = upTo (wM_A a3 a4 x0 x1) initM 15 (by decide) := by
  have e : k0_pay27 (kernelRun0_A.sl.r_52 a3 a4 x0 x1) = wM_A a3 a4 x0 x1 ⟨14, by decide⟩ := by
    unfold wM_A
    rw [← loadM_A_14 a3 a4 a5 x0 x1 x2]
    rfl
  unfold kernelRun0_A.sl.HS0_16
  rw [e, listM_A_14 a3 a4 a5 x0 x1 x2]
  rfl
theorem loadA_A_14 : kernelRun0_A.sl.v79_7 a3 a4 a5 x0 x1 x2 = aNew := by
  unfold kernelRun0_A.sl.v79_7
  rw [listA_A_14 a3 a4 a5 x0 x1 x2]
  exact freshA _ 14 _ ⟨14, by decide⟩ (Nat.le_refl _) _
theorem listA_A_15 : kernelRun0_A.sl.HS1_16 a3 a4 a5 x0 x1 x2 = upTo (wA_A a3 a4 a5 x0 x1 x2) initA 15 (by decide) := by
  have e : k0_pay26 (kernelRun0_A.sl.r_51 a5 x2) (kernelRun0_A.sl.r_53 a3 a4 x0 x1) (kernelRun0_A.sl.r_54 a3 a4 x0 x1) (kernelRun0_A.sl.v79_7 a3 a4 a5 x0 x1 x2) = wA_A a3 a4 a5 x0 x1 x2 ⟨14, by decide⟩ := by
    unfold wA_A
    rw [← loadM_A_14 a3 a4 a5 x0 x1 x2, ← loadA_A_14 a3 a4 a5 x0 x1 x2]
    rfl
  unfold kernelRun0_A.sl.HS1_16
  rw [e, listA_A_14 a3 a4 a5 x0 x1 x2]
  rfl
theorem loadM_A_15 : kernelRun0_A.sl.v112_7 a3 a4 x0 x1 = mNew := by
  unfold kernelRun0_A.sl.v112_7
  rw [listM_A_15 a3 a4 a5 x0 x1 x2]
  exact freshM _ 15 _ ⟨15, by decide⟩ (Nat.le_refl _) _
theorem listM_A_16 : kernelRun0_A.sl.HS0_17 a3 a4 x0 x1 = upTo (wM_A a3 a4 x0 x1) initM 16 (by decide) := by
  have e : k0_pay6 (kernelRun0_A.sl.r_56 a3 a4 x0 x1) = wM_A a3 a4 x0 x1 ⟨15, by decide⟩ := by
    unfold wM_A
    rw [← loadM_A_15 a3 a4 a5 x0 x1 x2]
    rfl
  unfold kernelRun0_A.sl.HS0_17
  rw [e, listM_A_15 a3 a4 a5 x0 x1 x2]
  rfl
theorem loadA_A_15 : kernelRun0_A.sl.v124_7 a3 a4 a5 x0 x1 x2 = aNew := by
  unfold kernelRun0_A.sl.v124_7
  rw [listA_A_15 a3 a4 a5 x0 x1 x2]
  exact freshA _ 15 _ ⟨15, by decide⟩ (Nat.le_refl _) _
theorem listA_A_16 : kernelRun0_A.sl.HS1_17 a3 a4 a5 x0 x1 x2 = upTo (wA_A a3 a4 a5 x0 x1 x2) initA 16 (by decide) := by
  have e : k0_pay5 (kernelRun0_A.sl.r_51 a5 x2) (kernelRun0_A.sl.r_55 a3 a4 x0 x1) (kernelRun0_A.sl.r_56 a3 a4 x0 x1) (kernelRun0_A.sl.r_57 a3 a4 x0 x1) (kernelRun0_A.sl.v124_7 a3 a4 a5 x0 x1 x2) = wA_A a3 a4 a5 x0 x1 x2 ⟨15, by decide⟩ := by
    unfold wA_A
    rw [← loadM_A_15 a3 a4 a5 x0 x1 x2, ← loadA_A_15 a3 a4 a5 x0 x1 x2]
    rfl
  unfold kernelRun0_A.sl.HS1_17
  rw [e, listA_A_15 a3 a4 a5 x0 x1 x2]
  rfl
theorem slotM_A (c : Dev nD) (i h3 h4 h5 a6 h6 a7 h7 a8 h8 T0 T1 x3 x4 c0 c1 c2) (s : Fin 16) (y : Fin 1024) :
    scM0_0.view.read (Elt Ideal) (kernelRun0_A c i a3 h3 a4 h4 a5 h5 a6 h6 a7 h7 a8 h8 T0 T1 x0 x1 x2 x3 x4 c0 c1 c2).2.1 (ix3 s 0 y)
      = wM_A a3 a4 x0 x1 s (ix3 0 0 y) := by
  unfold kernelRun0_A
  dsimp only
  rw [listM_A_16 a3 a4 a5 x0 x1 x2]
  exact read_upTo_of_lt _ _ _ _ _ _ _ s.isLt _ _
theorem slotA_A (c : Dev nD) (i h3 h4 h5 a6 h6 a7 h7 a8 h8 T0 T1 x3 x4 c0 c1 c2) (s : Fin 16) (e : Fin 144) (y : Fin 1024) :
    scM0_1.view.read (Elt Ideal) (kernelRun0_A c i a3 h3 a4 h4 a5 h5 a6 h6 a7 h7 a8 h8 T0 T1 x0 x1 x2 x3 x4 c0 c1 c2).2.2.1 (ix3 s e y)
      = wA_A a3 a4 a5 x0 x1 x2 s (ix3 0 e y) := by
  unfold kernelRun0_A
  dsimp only
  rw [listA_A_16]
  exact read_upTo_of_lt _ _ _ _ _ _ _ s.isLt _ _
end

end Cert.DaIdeal.Slots
-- ==== Proof.DaMath.lean ====
/- The running softmax over the extended reals: one block's update keeps the invariant, and the quotient of two running
   sums is the softmax-weighted sum. -/
module

public import Idealize.ShloMosaic.PureOps.Ideal
public import Idealize.ShloMosaic.PureOps.Ideal.Laws

@[expose] public section

noncomputable section

open Idealize.ShloMosaic Finset

namespace Cert.DaMath

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

theorem neg_inf : Ideal.ofBits .f32 0xFF800000#32 = ⊥ := by simp [Ideal.ofBits, Ideal.ieee]
theorem two : Ideal.ofBits .f32 0x40000000#32 = ((2 : ℝ) : EReal) := by
  simp [Ideal.ofBits, Ideal.ieee, -EReal.coe_mul]; norm_num

theorem lam_init : Ideal.ofBits .f32 0x3E4CCCCD#32 = ((13421773 * (2 ^ 26)⁻¹ : ℝ) : EReal) := by
  simp [Ideal.ofBits, Ideal.ieee, -EReal.coe_mul]
  try norm_num

/-- The unnormalised weight of key `k` for query `r`, its score measured from `M`. -/
def wt (r : ℕ) (σ : ℕ → ℝ) (M : ℝ) (k : ℕ) : ℝ := if k ≤ r then (2 : ℝ) ^ (σ k - M) else 0

theorem wt_shift (r : ℕ) (σ : ℕ → ℝ) (M M' : ℝ) (k : ℕ) : (2 : ℝ) ^ (M - M') * wt r σ M k = wt r σ M' k := by
  unfold wt
  split
  · rw [← Real.rpow_add (by norm_num)]; congr 1; ring
  · exact mul_zero _

theorem wt_nonneg (r : ℕ) (σ : ℕ → ℝ) (M : ℝ) (k : ℕ) : 0 ≤ wt r σ M k := by
  unfold wt
  split
  · exact (Real.rpow_pos_of_pos (by norm_num) _).le
  · exact le_refl _

theorem exp2_sub (r : ℕ) (σ : ℕ → ℝ) (M : ℝ) (k : ℕ) (S : EReal) (hS : S = if k ≤ r then ((σ k : ℝ) : EReal) else ⊥) :
    Ideal.exp2 (S - (M : EReal)) = (wt r σ M k : EReal) := by
  subst hS
  unfold wt
  split
  · rw [← EReal.coe_sub, Ideal.exp2_coe]; rfl
  · rw [EReal.bot_sub, Ideal.exp2_bot]; rfl

/-- The maximum of scores of which one is a real number and none is `⊤` is a real number. -/
theorem fold_real {ι : Type} (s : Finset ι) (S : ι → EReal) (m : EReal) (hm : m ≠ ⊤) (hS : ∀ i ∈ s, S i ≠ ⊤)
    (hx : m ≠ ⊥ ∨ ∃ i ∈ s, S i ≠ ⊥) : ∃ M : ℝ, max m (s.fold max ⊥ S) = (M : EReal) := by
  have h1 : max m (s.fold max ⊥ S) ≠ ⊤ := by
    refine (max_lt (lt_top_iff_ne_top.mpr hm) ?_).ne
    exact (fold_max_lt _).mpr ⟨bot_lt_top, fun i hi => lt_top_iff_ne_top.mpr (hS i hi)⟩
  have h2 : max m (s.fold max ⊥ S) ≠ ⊥ := by
    rcases hx with h | ⟨i, hi, h⟩
    · exact (lt_of_lt_of_le (bot_lt_iff_ne_bot.mpr h) (le_max_left _ _)).ne'
    · exact (lt_of_lt_of_le (bot_lt_iff_ne_bot.mpr h) (le_trans ((le_fold_max _).mpr (Or.inr ⟨i, hi, le_rfl⟩)) (le_max_right _ _))).ne'
  exact ⟨_, (EReal.coe_toReal h1 h2).symm⟩

/-- A slot after the first `n` keys: the running maximum is some real number, the running sums are measured from it. -/
def Inv (r : ℕ) (σ : ℕ → ℝ) (V : Fin 144 → ℕ → ℝ) (n : ℕ) (m : EReal) (a : Fin 144 → EReal) : Prop :=
  ∃ M : ℝ, m = (M : EReal) ∧ ∀ e, a e = ((∑ k ∈ range n, V e k * wt r σ M k : ℝ) : EReal)

/-- A slot before its first block. -/
def Fresh (n : ℕ) (m : EReal) (a : Fin 144 → EReal) : Prop := n = 0 ∧ m = ⊥ ∧ ∀ e, a e = 0

theorem step (r : ℕ) (σ : ℕ → ℝ) (V : Fin 144 → ℕ → ℝ) (n : ℕ) (m : EReal) (a : Fin 144 → EReal) (S : Fin 1024 → EReal)
    (W : Fin 144 → Fin 1024 → EReal) (hn : n ≤ r)
    (hS : ∀ x : Fin 1024, S x = if n + x.val ≤ r then ((σ (n + x.val) : ℝ) : EReal) else ⊥)
    (hW : ∀ e (x : Fin 1024), W e x = ((V e (n + x.val) : ℝ) : EReal)) (h : Fresh n m a ∨ Inv r σ V n m a) :
    Inv r σ V (n + 1024) (max m (univ.fold max ⊥ S)) (fun e => Ideal.exp2 (m - max m (univ.fold max ⊥ S)) * a e
      + ∑ x, W e x * Ideal.exp2 (S x - max m (univ.fold max ⊥ S))) := by
  have hS0 : S 0 ≠ ⊥ := by
    rw [hS 0, if_pos (by simpa using hn)]; exact EReal.coe_ne_bot _
  have hmt : m ≠ ⊤ := by
    rcases h with ⟨_, h, _⟩ | ⟨M, h, _⟩
    · rw [h]; exact bot_ne_top
    · rw [h]; exact EReal.coe_ne_top _
  obtain ⟨M', hM⟩ := fold_real univ S m hmt (fun i _ => by rw [hS i]; split; exacts [EReal.coe_ne_top _, bot_ne_top])
    (Or.inr ⟨0, mem_univ _, hS0⟩)
  refine ⟨M', hM, fun e => ?_⟩
  rw [hM]
  have h2 : ∑ x, W e x * Ideal.exp2 (S x - (M' : EReal)) = ((∑ x ∈ range 1024, V e (n + x) * wt r σ M' (n + x) : ℝ) : EReal) := by
    rw [sum_range (fun x => V e (n + x) * wt r σ M' (n + x)), coe_sum]
    exact sum_congr rfl fun x _ => by rw [hW, exp2_sub r σ M' _ _ (hS x), EReal.coe_mul]
  have h1 : Ideal.exp2 (m - (M' : EReal)) * a e = ((∑ k ∈ range n, V e k * wt r σ M' k : ℝ) : EReal) := by
    rcases h with ⟨h0, hm, ha⟩ | ⟨M, hm, ha⟩
    · rw [ha, mul_zero, h0]; simp
    · rw [ha, hm, ← EReal.coe_sub, Ideal.exp2_coe, ← EReal.coe_mul, mul_sum]
      refine congrArg _ (sum_congr rfl fun k _ => ?_)
      rw [← wt_shift r σ M M' k]
      show (2 : ℝ) ^ (M - M') * _ = _
      ring
  refine (congrArg₂ _ h1 h2).trans ?_
  rw [← EReal.coe_add, sum_range_add]

/-- The masked keys beyond a query's own weigh nothing. -/
theorem sum_tail (r : ℕ) (σ : ℕ → ℝ) (V : ℕ → ℝ) (M : ℝ) (n N : ℕ) (hr : r < n) (hN : n ≤ N) :
    ∑ k ∈ range n, V k * wt r σ M k = ∑ k ∈ range N, V k * wt r σ M k := by
  refine sum_subset (range_mono hN) fun k _ hk => ?_
  have : ¬ k ≤ r := by
    intro h; exact hk (mem_range.mpr (lt_of_le_of_lt h hr))
  rw [wt, if_neg this, mul_zero]

theorem sum_pos (r : ℕ) (σ : ℕ → ℝ) (M : ℝ) (N : ℕ) (hN : r < N) : 0 < ∑ k ∈ range N, wt r σ M k := by
  refine Finset.sum_pos' (fun k _ => wt_nonneg r σ M k) ⟨r, mem_range.mpr hN, ?_⟩
  rw [wt, if_pos le_rfl]
  exact Real.rpow_pos_of_pos (by norm_num) _

theorem div_coe (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

/-- One map's softmax weight, its scores measured from their maximum, is the quotient measured from any `M`. -/
theorem soft (r : ℕ) (σ : ℕ → ℝ) (M : ℝ) (N : ℕ) (hN : r < N) (S : Fin N → EReal)
    (hS : ∀ k : Fin N, S k = if k.val ≤ r then ((σ k.val : ℝ) : EReal) else ⊥) (k : Fin N) :
    Ideal.div (Ideal.pow ((2 : ℝ) : EReal) (S k - univ.fold max ⊥ S)) (∑ j, Ideal.pow ((2 : ℝ) : EReal) (S j - univ.fold max ⊥ S))
      = ((wt r σ M k.val / ∑ j ∈ range N, wt r σ M j : ℝ) : EReal) := by
  obtain ⟨M', hM⟩ := fold_real univ S ⊥ bot_ne_top (fun i _ => by rw [hS i]; split; exacts [EReal.coe_ne_top _, bot_ne_top])
    (Or.inr ⟨⟨r, hN⟩, mem_univ _, by rw [hS, if_pos le_rfl]; exact EReal.coe_ne_bot _⟩)
  rw [max_eq_right bot_le] at hM
  rw [hM]
  have hp : ∀ j : Fin N, Ideal.pow ((2 : ℝ) : EReal) (S j - (M' : EReal)) = (wt r σ M' j.val : EReal) := by
    intro j
    rw [hS]
    unfold wt
    split
    · rw [← EReal.coe_sub, Ideal.pow_coe_coe]; rfl
    · rw [EReal.bot_sub, Ideal.pow_coe_bot, if_neg (by norm_num), if_pos (by norm_num)]; rfl
  have hs : ∑ j, Ideal.pow ((2 : ℝ) : EReal) (S j - (M' : EReal)) = ((∑ j ∈ range N, wt r σ M' j : ℝ) : EReal) := by
    rw [sum_range (fun j => wt r σ M' j), coe_sum]
    exact sum_congr rfl fun j _ => hp j
  rw [hs, hp, div_coe _ _ (sum_pos r σ M' N hN).ne']
  have h2 : (2 : ℝ) ^ (M - M') ≠ 0 := (Real.rpow_pos_of_pos (by norm_num) _).ne'
  congr 1
  rw [← wt_shift r σ M M', ← sum_congr rfl fun j _ => wt_shift r σ M M' j, ← mul_sum, mul_div_mul_left _ _ h2]

/-- The difference of two maps' quotients of running sums is the sum of the values under the difference of their
    softmax weights. -/
theorem combine (r : ℕ) (σ0 σ1 : ℕ → ℝ) (V : ℕ → ℝ) (M0 M1 lam : ℝ) (N : ℕ) (hN : r < N) (S0 S1 : Fin N → EReal)
    (h0 : ∀ k : Fin N, S0 k = if k.val ≤ r then ((σ0 k.val : ℝ) : EReal) else ⊥)
    (h1 : ∀ k : Fin N, S1 k = if k.val ≤ r then ((σ1 k.val : ℝ) : EReal) else ⊥) (v : Fin N → EReal) (hv : ∀ k, v k = ((V k.val : ℝ) : EReal)) :
    Ideal.div ((∑ k ∈ range N, V k * wt r σ0 M0 k : ℝ) : EReal) ((∑ k ∈ range N, wt r σ0 M0 k : ℝ) : EReal)
        - (lam : EReal) * Ideal.div ((∑ k ∈ range N, V k * wt r σ1 M1 k : ℝ) : EReal) ((∑ k ∈ range N, wt r σ1 M1 k : ℝ) : EReal)
      = ∑ k, v k * (Ideal.div (Ideal.pow ((2 : ℝ) : EReal) (S0 k - univ.fold max ⊥ S0)) (∑ j, Ideal.pow ((2 : ℝ) : EReal) (S0 j - univ.fold max ⊥ S0))
          - (lam : EReal) * Ideal.div (Ideal.pow ((2 : ℝ) : EReal) (S1 k - univ.fold max ⊥ S1)) (∑ j, Ideal.pow ((2 : ℝ) : EReal) (S1 j - univ.fold max ⊥ S1))) := by
  rw [div_coe _ _ (sum_pos r σ0 M0 N hN).ne', div_coe _ _ (sum_pos r σ1 M1 N hN).ne', ← EReal.coe_mul, ← EReal.coe_sub]
  have hk : ∀ k : Fin N, v k * (Ideal.div (Ideal.pow ((2 : ℝ) : EReal) (S0 k - univ.fold max ⊥ S0)) (∑ j, Ideal.pow ((2 : ℝ) : EReal) (S0 j - univ.fold max ⊥ S0))
          - (lam : EReal) * Ideal.div (Ideal.pow ((2 : ℝ) : EReal) (S1 k - univ.fold max ⊥ S1)) (∑ j, Ideal.pow ((2 : ℝ) : EReal) (S1 j - univ.fold max ⊥ S1)))
      = ((V k.val * (wt r σ0 M0 k.val / (∑ j ∈ range N, wt r σ0 M0 j) - lam * (wt r σ1 M1 k.val / ∑ j ∈ range N, wt r σ1 M1 j)) : ℝ) : EReal) := by
    intro k
    rw [soft r σ0 M0 N hN S0 h0, soft r σ1 M1 N hN S1 h1, hv, ← EReal.coe_mul, ← EReal.coe_sub, ← EReal.coe_mul]
  rw [sum_congr rfl fun k _ => hk k, ← coe_sum,
    ← sum_range (fun k => V k * (wt r σ0 M0 k / (∑ j ∈ range N, wt r σ0 M0 j) - lam * (wt r σ1 M1 k / ∑ j ∈ range N, wt r σ1 M1 j)))]
  congr 1
  rw [sum_div, sum_div, mul_sum, ← sum_sub_distrib]
  exact sum_congr rfl fun k _ => by ring

end Cert.DaMath
-- ==== Proof.DaScore.lean ====
/- The kernel's stored words read at an index. -/
module

public import proofs.«01_k».proof.Proof.DaSlots
public import proofs.«01_k».proof.Proof.DaMath
public import Idealize.ShloMosaic.Lib.WordCmp

@[expose] public section

set_option maxRecDepth 16384

noncomputable section

open Idealize.ShloMosaic Idealize.ShloMosaic.TcCoe Idealize.SL.Sem
open Cert.DaIdeal Cert.DaIdeal.Gen

namespace Cert.DaIdeal.Slots

theorem mask_bot : (Named.named κ "mask" 4048155338#32 : Ideal .f32) = ⊥ :=
  IdealRules.named_const.ideal_named_scalar κ "mask" _ _ rfl

/-- The lane test of each map. -/
theorem lane0 : ∀ x : Fin 128, IntOp.xori (IntOp.xori (IntOp.cmpi CmpIPredicate.slt (BitVec.ofNat 32 x.val) 64#32) 1#1) 1#1 = if x.val < 64 then 1#1 else 0#1 := by decide
theorem lane1 : ∀ x : Fin 128, IntOp.xori (IntOp.xori (IntOp.cmpi CmpIPredicate.slt (BitVec.ofNat 32 x.val) 64#32) 0#1) 1#1 = if x.val < 64 then 0#1 else 1#1 := by decide

theorem payM_at (S m) (y : Fin 1024) : payM S m (ix3 0 0 y) = max (m (ix3 0 0 y)) (Finset.univ.fold max ⊥ fun x => S (ix2 x y)) := by
  pointwise [payM, maxNew]
  rw [DaMath.neg_inf]
theorem payA_at (S v1 m a) (e : Fin 144) (y : Fin 1024) : payA S v1 m a (ix3 0 e y)
    = Ideal.exp2 (m (ix3 0 0 y) - max (m (ix3 0 0 y)) (Finset.univ.fold max ⊥ fun x => S (ix2 x y))) * a (ix3 0 e y)
      + ∑ x, v1 (ix2 e x) * Ideal.exp2 (S (ix2 x y) - max (m (ix3 0 0 y)) (Finset.univ.fold max ⊥ fun x => S (ix2 x y))) := by
  pointwise [payA, maxNew]
  rw [DaMath.neg_inf]
  rfl
theorem pay8_at (v) (e : Fin 144) (y : Fin 1024) : k0_pay8 (F := Ideal) v (ix2 e y) = if h : e.val < 128 then v (ix2 ⟨e.val, h⟩ y) else 1 := by
  pointwise [k0_pay8]

/-- The product of one map: half the lanes of a head. -/
def half (p : Fin 2) (q k : Vec Ideal S1024x128 .bf16) (x y : Fin 1024) : EReal :=
  ∑ d : Fin 64, q (ix2 y ⟨p.val * 64 + d.val, by omega⟩) * k (ix2 x ⟨p.val * 64 + d.val, by omega⟩)

theorem half0 (q k : Vec Ideal S1024x128 .bf16) (x y : Fin 1024) :
    (∑ l : Fin 128, Scalar.select (IntOp.xori (IntOp.xori (IntOp.cmpi CmpIPredicate.slt (BitVec.ofNat 32 l.val) 64#32) 1#1) 1#1) ((k (ix2 x l) : EReal) * q (ix2 y l)) 0)
      = half 0 q k x y := by
  simp only [lane0]
  refine (Fin.sum_univ_add (M := EReal) (a := 64) (b := 64) _).trans ?_
  rw [Finset.sum_eq_zero (s := Finset.univ) (f := fun i : Fin 64 => Scalar.select (if (Fin.natAdd 64 i).val < 64 then 1#1 else 0#1) _ _), add_zero]
  · refine Finset.sum_congr rfl fun d _ => ?_
    rw [if_pos (show (Fin.castAdd 64 d).val < 64 from d.isLt)]
    refine (mul_comm _ _).trans (congrArg₂ (· * ·) (congrArg q (congrArg (ix2 y) (Fin.ext ?_))) (congrArg k (congrArg (ix2 x) (Fin.ext ?_)))) <;>
      (show d.val = 0 * 64 + d.val; omega)
  · intro d _
    rw [if_neg (show ¬ (Fin.natAdd 64 d).val < 64 by rw [Fin.val_natAdd]; omega)]
    rfl
theorem half1 (q k : Vec Ideal S1024x128 .bf16) (x y : Fin 1024) :
    (∑ l : Fin 128, Scalar.select (IntOp.xori (IntOp.xori (IntOp.cmpi CmpIPredicate.slt (BitVec.ofNat 32 l.val) 64#32) 0#1) 1#1) ((k (ix2 x l) : EReal) * q (ix2 y l)) 0)
      = half 1 q k x y := by
  simp only [lane1]
  refine (Fin.sum_univ_add (M := EReal) (a := 64) (b := 64) _).trans ?_
  rw [Finset.sum_eq_zero (s := Finset.univ) (f := fun i : Fin 64 => Scalar.select (if (Fin.castAdd 64 i).val < 64 then 0#1 else 1#1) _ _), zero_add]
  · refine Finset.sum_congr rfl fun d _ => ?_
    rw [if_neg (show ¬ (Fin.natAdd 64 d).val < 64 by rw [Fin.val_natAdd]; omega)]
    refine (mul_comm _ _).trans (congrArg₂ (· * ·) (congrArg q (congrArg (ix2 y) (Fin.ext ?_))) (congrArg k (congrArg (ix2 x) (Fin.ext ?_)))) <;>
      (show 64 + d.val = 1 * 64 + d.val; omega)
  · intro d _
    rw [if_pos (show (Fin.castAdd 64 d).val < 64 from d.isLt)]
    rfl

theorem scoreU_at (p : Fin 2) (q k) (x y : Fin 1024) : scoreU p q k (ix2 x y) = half p q k x y := by
  fin_cases p
  · show k0_pay9 (F := Ideal) lanes q k (ix2 x y) = half 0 q k x y
    pointwise [k0_pay9]
    exact half0 q k x y
  · show k0_pay16 (F := Ideal) lanes q k (ix2 x y) = half 1 q k x y
    pointwise [k0_pay16]
    exact half1 q k x y
theorem scoreD_at (p : Fin 2) (q k) (x y : Fin 1024) : scoreD p q k (ix2 x y) = if x.val ≤ y.val then half p q k x y else ⊥ := by
  have key : ∀ (A : EReal), Scalar.select (IntOp.cmpi CmpIPredicate.sle (BitVec.ofNat 32 x.val) (BitVec.ofNat 32 y.val)) A (Named.named κ "mask" 4048155338#32 : Ideal .f32)
      = if x.val ≤ y.val then A else ⊥ := by
    intro A
    rw [WordCmp.cmpi_sle_ofNat (by omega) (by omega), mask_bot]
    by_cases h : x.val ≤ y.val
    · rw [if_pos h, decide_eq_true h]; rfl
    · rw [if_neg h, decide_eq_false h]; rfl
  fin_cases p
  · show k0_pay21 (F := Ideal) lanes q k (ix2 x y) = if x.val ≤ y.val then half 0 q k x y else ⊥
    pointwise [k0_pay21]
    rw [half0 q k x y]
    exact key _
  · show k0_pay28 (F := Ideal) lanes q k (ix2 x y) = if x.val ≤ y.val then half 1 q k x y else ⊥
    pointwise [k0_pay28]
    rw [half1 q k x y]
    exact key _

end Cert.DaIdeal.Slots
-- ==== Proof.DaRef.lean ====
/- The reference attention read at an index. -/
module

public import proofs.«01_k».proof.Proof.Gen.DaRefIdeal.Read
public import proofs.«01_k».proof.Proof.DaMath
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Cert.DaRefIdeal Cert.DaRefIdeal.Read

namespace Cert.DaRefIdeal.Val

/-- The product of query `r` and key `k` under map `p` of head `h`. -/
def dotp (x2 x3 : FVec Ideal S16384x1024 .bf16) (h : Fin 8) (p : Fin 2) (r k : Fin 16384) : EReal :=
  ∑ d : Fin 64, x2 (ix2 r ⟨h.val * 128 + p.val * 64 + d.val, by omega⟩) * x3 (ix2 k ⟨h.val * 128 + p.val * 64 + d.val, by omega⟩)

/-- The score: keys after the query are masked. -/
def score (x2 x3 : FVec Ideal S16384x1024 .bf16) (h : Fin 8) (p : Fin 2) (r k : Fin 16384) : EReal :=
  if k.val ≤ r.val then dotp x2 x3 h p r k else ⊥

theorem s_at (x2 x3) (h : Fin 8) (p : Fin 2) (r k : Fin 16384) : val_main_v30 (F := Ideal) x2 x3 (ix4 h p r k) = score x2 x3 h p r k := by
  pointwise [val_main_v30,val_main_call0_v1,val_main_call0_v2,val_main_v29,val_main_v28,val_main_v27,val_main_v26,val_main_v25,val_main_v24,val_main_v23,val_main_v3,val_main_v2,val_main_v1,val_main_v0]
  rw [WordCmp.cmpi_sle_ofNat (by omega) (by omega)]
  unfold score dotp
  by_cases hk : k.val ≤ r.val
  · rw [if_pos hk, decide_eq_true hk]; rfl
  · rw [if_neg hk, decide_eq_false hk]; exact DaMath.neg_inf

/-- One map's softmax in base two. -/
def soft (S : Fin 16384 → EReal) (k : Fin 16384) : EReal :=
  Ideal.div (Ideal.pow ((2 : ℝ) : EReal) (S k - Finset.univ.fold max ⊥ S)) (∑ j, Ideal.pow ((2 : ℝ) : EReal) (S j - Finset.univ.fold max ⊥ S))

theorem w_at (x2 x3) (h : Fin 8) (p : Fin 2) (r k : Fin 16384) : val_main_v40 (F := Ideal) x2 x3 (ix4 h p r k) = soft (score x2 x3 h p r) k := by
  pointwise [val_main_v40,val_main_v39,val_main_v38,val_main_v37,val_main_v36,val_main_v35,val_main_v34,val_main_v33,val_main_v32,val_main_v31, val_main_cst_5,val_main_cst_4,val_main_cst_3]
  rw [DaMath.neg_inf, DaMath.two]
  simp only [s_at]
  rfl

/-- The factor of the second map. -/
def lam (x5 : FVec Ideal S4x64 .f32) : EReal :=
  Ideal.exp (∑ x, x5 (ix2 0 x) * x5 (ix2 1 x)) - Ideal.exp (∑ x, x5 (ix2 2 x) * x5 (ix2 3 x)) + Ideal.ofBits FTy.f32 1045220557#32

theorem lam_at (x5) : val_main_v22 (F := Ideal) x5 ix0 = lam x5 := by
  pointwise [val_main_v22,val_main_v21,val_main_v20,val_main_v19,val_main_v18,val_main_v17,val_main_v16,val_main_v15,val_main_v14,val_main_v13,val_main_v12,val_main_v11,val_main_v10,val_main_v9,val_main_v8,val_main_v7,val_main_cst,val_main_cst_0,val_main_cst_1]
  rfl

/-- The values under the difference of the two maps' weights. -/
def mix (x2 x3 : FVec Ideal S16384x1024 .bf16) (x4 : FVec Ideal S1024x16384 .bf16) (x5 : FVec Ideal S4x64 .f32)
    (r : Fin 16384) (h : Fin 8) (e : Fin 128) : EReal :=
  ∑ k, x4 (ix2 ⟨h.val * 128 + e.val, by omega⟩ k) * (soft (score x2 x3 h 0 r) k - lam x5 * soft (score x2 x3 h 1 r) k)

theorem v_at (x4) (k : Fin 16384) (h : Fin 8) (e : Fin 128) : val_main_v6 (F := Ideal) x4 (ix3 k h e) = x4 (ix2 ⟨h.val * 128 + e.val, by omega⟩ k) := by
  rw [val_main_v6_apply, val_main_v5_apply]
  show x4 _ = x4 _
  refine congrArg x4 (funext fun a => Fin.ext ?_)
  have := k.isLt; have := h.isLt; have := e.isLt
  match a with
  | ⟨0, _⟩ => show ((k.val * 8 + h.val) * 128 + e.val) % 1024 = h.val * 128 + e.val; omega
  | ⟨1, _⟩ => show ((k.val * 8 + h.val) * 128 + e.val) / 1024 = k.val; omega

theorem w0_at (x2 x3) (h : Fin 8) (r k : Fin 16384) : val_main_v42 (F := Ideal) x2 x3 (ix3 h r k) = soft (score x2 x3 h 0 r) k := by
  rw [val_main_v42_apply, val_main_v41_apply, ← w_at]
  refine congrArg (val_main_v40 (F := Ideal) x2 x3) (funext fun a => Fin.ext ?_)
  have := k.isLt; have := h.isLt; have := r.isLt
  match a with
  | ⟨0, _⟩ => show ((h.val * 16384 + r.val) * 16384 + k.val) / 268435456 = h.val; omega
  | ⟨1, _⟩ => rfl
  | ⟨2, _⟩ => show ((h.val * 16384 + r.val) * 16384 + k.val) / 16384 % 16384 = r.val; omega
  | ⟨3, _⟩ => show ((h.val * 16384 + r.val) * 16384 + k.val) % 16384 = k.val; omega

theorem w1_at (x2 x3) (h : Fin 8) (r k : Fin 16384) : val_main_v44 (F := Ideal) x2 x3 (ix3 h r k) = soft (score x2 x3 h 1 r) k := by
  rw [val_main_v44_apply, val_main_v43_apply, ← w_at]
  refine congrArg (val_main_v40 (F := Ideal) x2 x3) (funext fun a => Fin.ext ?_)
  have := k.isLt; have := h.isLt; have := r.isLt
  match a with
  | ⟨0, _⟩ => show ((h.val * 16384 + r.val) * 16384 + k.val) / 268435456 = h.val; omega
  | ⟨1, _⟩ => rfl
  | ⟨2, _⟩ => show ((h.val * 16384 + r.val) * 16384 + k.val) / 16384 % 16384 = r.val; omega
  | ⟨3, _⟩ => show ((h.val * 16384 + r.val) * 16384 + k.val) % 16384 = k.val; omega

theorem o_at (x2 x3 x4 x5) (r : Fin 16384) (h : Fin 8) (e : Fin 128) : val_main_v49 (F := Ideal) x2 x3 x4 x5 (ix3 r h e) = mix x2 x3 x4 x5 r h e := by
  rw [val_main_v49_apply, val_main_v48_apply]
  unfold mix
  refine Finset.sum_congr rfl fun k _ => congrArg₂ (· * ·) ?_ ?_
  · refine Eq.trans (congrArg (val_main_v6 (F := Ideal) x4) (funext fun a => ?_)) (v_at x4 k h e)
    match a with
    | ⟨0, _⟩ => rfl
    | ⟨1, _⟩ => rfl
    | ⟨2, _⟩ => rfl
  · refine Eq.trans (congrArg (val_main_v47 (F := Ideal) x2 x3 x5) (funext fun a => ?_)) (?_ : val_main_v47 (F := Ideal) x2 x3 x5 (ix3 h r k) = _)
    · match a with
      | ⟨0, _⟩ => rfl
      | ⟨1, _⟩ => rfl
      | ⟨2, _⟩ => rfl
    · rw [val_main_v47_apply, val_main_v46_apply, val_main_v45_apply, w0_at, w1_at, Subsingleton.elim (idx_main_v45 (ix3 h r k)) ix0, lam_at]
      rfl

/-- The output from the eight heads' mixed values: each head's root mean square normalised, scaled by `g` and `0.8`. -/
def fin (o : Fin 128 → EReal) (g : Fin 128 → EReal) (e : Fin 128) : EReal :=
  o e * Ideal.rsqrt (Ideal.div (∑ x, o x * o x) (Ideal.ofBits FTy.f32 1124073472#32) + Ideal.ofBits FTy.f32 897988541#32) * g e
    * Ideal.ofBits FTy.f32 1061997773#32

theorem ref_at (x2 x3 x4 x5 x6) (r : Fin 16384) (n : Fin 1024) : val_main_v67 (F := Ideal) x2 x3 x4 x5 x6 (ix2 r n)
    = fin (mix x2 x3 x4 x5 r ⟨n.val / 128, by omega⟩) (fun e => x6 (ix2 e 0)) ⟨n.val % 128, by omega⟩ := by
  pointwise [val_main_v67,val_main_v66,val_main_v65,val_main_v64,val_main_v63,val_main_v62,val_main_v61,val_main_v60,val_main_v59,val_main_v58,val_main_v57,val_main_v56,val_main_v55,val_main_v54,val_main_v53,val_main_v52,val_main_v51,val_main_v50,val_main_cst_6,val_main_cst_7,val_main_cst_8,val_main_cst_9]
  simp only [o_at]
  rfl

end Cert.DaRefIdeal.Val
-- ==== Proof.DaPoint.lean ====
/- The grid's points, their blocks, and what the slots hold after each. -/
module

public import proofs.«01_k».proof.Proof.Gen.DaIdeal.Flash
public import proofs.«01_k».proof.Proof.DaScore
public import proofs.«01_k».proof.Proof.DaRef
public import Idealize.ShloMosaic.Lib.Pipeline.ValueKit

@[expose] public section

set_option maxRecDepth 16384

noncomputable section

open Idealize.ShloMosaic Idealize.ShloMosaic.TcCoe Idealize.SL.Sem
open Cert.DaIdeal Cert.DaIdeal.Gen

namespace Cert.DaIdeal.Point

/-- The block of queries and the block of keys of a point. -/
def qi (t : Fin 136) : ℕ := (pinT_0 0 (ix1 t)).toNat
def kj (t : Fin 136) : ℕ := (pinT_1 0 (ix1 t)).toNat

theorem tri : ∀ t : Fin 136, kj t ≤ qi t ∧ qi t < 16 := by decide +kernel
theorem tri_zero : ∀ t : Fin 136, t.val = 0 → kj t = 0 := by decide +kernel
theorem tri_prev : ∀ t : Fin 136, kj t ≠ 0 → ∃ h : 0 < t.val, qi ⟨t.val - 1, by omega⟩ = qi t ∧ kj ⟨t.val - 1, by omega⟩ + 1 = kj t := by decide +kernel

abbrev ch0 : Fin 1 := ⟨0, Nat.one_pos⟩

/-- What tells the paths apart at a point. -/
abbrev DecAt (ch : Fin 1) (t : Fin (cfgA ch).N) : Prop := (P0_0 ch t ↔ kj t = 0) ∧ (P0_1 ch t ↔ kj t < qi t)
set_option synthInstance.maxSize 65536 in
instance DecAt.dec (ch : Fin 1) (t : Fin (cfgA ch).N) : Decidable (DecAt ch t) := inferInstanceAs (Decidable ((_ ↔ _) ∧ (_ ↔ _)))
theorem decisions0 : ∀ t : Fin (cfgA ch0).N, DecAt ch0 t := by decide +kernel
theorem decisions : ∀ (ch : Fin 1) (t : Fin (cfgA ch).N), DecAt ch t := fun ch => match ch with
  | ⟨0, _⟩ => decisions0
  | ⟨_ + 1, h⟩ => absurd h (by omega)

abbrev IdxAt (ch : Fin 1) (t : Fin (cfgA ch).N) : Prop :=
  ((pcfg0 (F := Ideal)).win (adm ch) 0).index t = ![qi t, 0] ∧ ((pcfg0 (F := Ideal)).win (adm ch) 1).index t = ![kj t, 0]
    ∧ ((pcfg0 (F := Ideal)).win (adm ch) 2).index t = ![0, kj t] ∧ ((pcfg0 (F := Ideal)).win (adm ch) 3).index t = ![0, 0]
    ∧ ((pcfg0 (F := Ideal)).win (adm ch) 4).index t = ![0, 0] ∧ ((pcfg0 (F := Ideal)).win (adm ch) 5).index t = ![qi t, 0]
theorem idx0 : ∀ t : Fin (cfgA ch0).N, IdxAt ch0 t := by decide +kernel
theorem idx : ∀ (ch : Fin 1) (t : Fin (cfgA ch).N), IdxAt ch t := fun ch => match ch with
  | ⟨0, _⟩ => idx0
  | ⟨_ + 1, h⟩ => absurd h (by omega)

variable (ch : Fin 1) (m : (ℓ : Loc nD τ sig) → Buf (Elt Ideal) ℓ) (ρ : Dev nD → PrngReg) (c : Dev nD)

theorem blk0 (t : Fin (cfgA ch).N) (y l : Fin 1024) : iblk ch m ρ c (0 : Fin 6) t (ix2 y l)
    = m ((c : Thread nD τ).loc main_arg2) (ix2 ⟨qi t * 1024 + y.val, by have := (tri t).2; omega⟩ l) := by
  have ht := idx ch t
  blk_point [iblk, ht]
theorem blk1 (t : Fin (cfgA ch).N) (y l : Fin 1024) : iblk ch m ρ c (1 : Fin 6) t (ix2 y l)
    = m ((c : Thread nD τ).loc main_arg3) (ix2 ⟨kj t * 1024 + y.val, by have := tri t; omega⟩ l) := by
  have ht := idx ch t
  blk_point [iblk, ht]

theorem blk2 (t : Fin (cfgA ch).N) (y l : Fin 1024) : iblk ch m ρ c (2 : Fin 6) t (ix2 y l)
    = m ((c : Thread nD τ).loc main_arg4) (ix2 y ⟨kj t * 1024 + l.val, by have := tri t; omega⟩) := by
  have ht := idx ch t
  blk_point [iblk, ht]
theorem blk3 (t : Fin (cfgA ch).N) (y : Fin 4) (l : Fin 64) : iblk ch m ρ c (3 : Fin 6) t (ix2 y l)
    = m ((c : Thread nD τ).loc main_arg5) (ix2 y l) := by
  have ht := idx ch t
  blk_point [iblk, ht]
theorem blk4 (t : Fin (cfgA ch).N) (y : Fin 128) (l : Fin 1) : iblk ch m ρ c (4 : Fin 6) t (ix2 y l)
    = m ((c : Thread nD τ).loc main_arg6) (ix2 y l) := by
  have ht := idx ch t
  blk_point [iblk, ht]

open Slots DaRefIdeal.Val

theorem cols_inb (h : Fin 8) : ∀ a, (![0, h.val * 128] : Fin 2 → ℕ) a + S1024x128.size a ≤ S1024x1024.size a := by
  intro a
  fin_cases a
  · exact Nat.le_refl _
  · show h.val * 128 + 128 ≤ 1024; omega
theorem rows_inb (h : Fin 8) : ∀ a, (![h.val * 128, 0] : Fin 2 → ℕ) a + S128x1024.size a ≤ S1024x1024.size a := by
  intro a
  fin_cases a
  · show h.val * 128 + 128 ≤ 1024; omega
  · exact Nat.le_refl _
theorem cols_at (h : Fin 8) (v : Memref sig .tc .vmem S1024x1024 .bf16) (x : S1024x1024.Idx → Elt Ideal .bf16) (y : Fin 1024) (l : Fin 128) :
    cols h v x (ix2 y l) = x (ix2 y ⟨h.val * 128 + l.val, by omega⟩) := by
  unfold cols
  rw [View.readAt_rep_unit v.view x _ rfl (cols_inb h)]
  refine congrArg x (funext fun a => Fin.ext ((ValueKit.rect_emb_unit_val _ _ _ _ _).trans ?_))
  fin_cases a
  · exact Nat.zero_add _
  · rfl
theorem rows_at (h : Fin 8) (v : Memref sig .tc .vmem S1024x1024 .bf16) (x : S1024x1024.Idx → Elt Ideal .bf16) (e : Fin 128) (y : Fin 1024) :
    rows h v x (ix2 e y) = x (ix2 ⟨h.val * 128 + e.val, by omega⟩ y) := by
  unfold rows
  rw [View.readAt_rep_unit v.view x _ rfl (rows_inb h)]
  refine congrArg x (funext fun a => Fin.ext ((ValueKit.rect_emb_unit_val _ _ _ _ _).trans ?_))
  fin_cases a
  · rfl
  · exact Nat.zero_add _

/-- The query row of the whole array that row `y` of the point's block is, and a key row. -/
abbrev rowQ (t : Fin 136) (y : Fin 1024) : Fin 16384 := ⟨qi t * 1024 + y.val, by have := (tri t).2; omega⟩
abbrev rowK (t : Fin 136) (y : Fin 1024) : Fin 16384 := ⟨kj t * 1024 + y.val, by have := tri t; omega⟩

theorem half_eq (t : Fin (cfgA ch).N) (h : Fin 8) (p : Fin 2) (x y : Fin 1024) :
    half p (cols h (ms0_0 ch t) (iblk ch m ρ c (0 : Fin 6) t)) (cols h (ms0_1 ch t) (iblk ch m ρ c (1 : Fin 6) t)) x y
      = dotp (m ((c : Thread nD τ).loc main_arg2)) (m ((c : Thread nD τ).loc main_arg3)) h p (rowQ t y) (rowK t x) := by
  unfold half dotp
  refine Finset.sum_congr rfl fun d _ => ?_
  rw [cols_at, cols_at, blk0, blk1]
  exact congrArg₂ (· * ·) (congrArg (m ((c : Thread nD τ).loc main_arg2)) (congrArg (ix2 _) (Fin.ext (Nat.add_assoc _ _ _).symm)))
    (congrArg (m ((c : Thread nD τ).loc main_arg3)) (congrArg (ix2 _) (Fin.ext (Nat.add_assoc _ _ _).symm)))

variable (q k : S16384x1024.Idx → ℝ) (v : S1024x16384.Idx → ℝ)

/-- The real scores and values. -/
def score2 (h : Fin 8) (p : Fin 2) (r : Fin 16384) (n : ℕ) : ℝ :=
  ∑ d : Fin 64, q (ix2 r ⟨h.val * 128 + p.val * 64 + d.val, by omega⟩) * k (ix2 ⟨n % 16384, Nat.mod_lt _ (by decide)⟩ ⟨h.val * 128 + p.val * 64 + d.val, by omega⟩)
def value (h : Fin 8) (e : Fin 144) (n : ℕ) : ℝ :=
  if he : e.val < 128 then v (ix2 ⟨h.val * 128 + e.val, by omega⟩ ⟨n % 16384, Nat.mod_lt _ (by decide)⟩) else 1

theorem dotp_real (Q K : FVec Ideal S16384x1024 .bf16) (hQ : ∀ i, Q i = (q i : EReal)) (hK : ∀ i, K i = (k i : EReal))
    (h : Fin 8) (p : Fin 2) (r n : Fin 16384) : dotp Q K h p r n = (score2 q k h p r n.val : EReal) := by
  have hn : (⟨n.val % 16384, Nat.mod_lt _ (by decide)⟩ : Fin 16384) = n := Fin.ext (Nat.mod_eq_of_lt n.isLt)
  unfold dotp score2
  rw [DaMath.coe_sum]
  refine Finset.sum_congr rfl fun d _ => ?_
  rw [hQ, hK, hn, EReal.coe_mul]

theorem val_real (V : FVec Ideal S1024x16384 .bf16) (hV : ∀ i, V i = (v i : EReal)) (h : Fin 8) (e : Fin 128) (n : Fin 16384) :
    V (ix2 ⟨h.val * 128 + e.val, by omega⟩ n) = (value v h ⟨e.val, by omega⟩ n.val : EReal) := by
  have hn : (⟨n.val % 16384, Nat.mod_lt _ (by decide)⟩ : Fin 16384) = n := Fin.ext (Nat.mod_eq_of_lt n.isLt)
  unfold value
  rw [dif_pos e.isLt, hn, hV]

theorem slot_step (r : ℕ) (σ : ℕ → ℝ) (V : Fin 144 → ℕ → ℝ) (n : ℕ) (S : FVec Ideal S1024x1024 .f32) (v1 : FVec Ideal S144x1024 .bf16)
    (m0 : Vec Ideal S1x1x1024 .f32) (a0 : Vec Ideal S1x144x1024 .f32) (y : Fin 1024) (hn : n ≤ r)
    (hS : ∀ x : Fin 1024, S (ix2 x y) = if n + x.val ≤ r then ((σ (n + x.val) : ℝ) : EReal) else ⊥)
    (hW : ∀ e (x : Fin 1024), v1 (ix2 e x) = ((V e (n + x.val) : ℝ) : EReal))
    (h : DaMath.Fresh n (m0 (ix3 0 0 y)) (fun e => a0 (ix3 0 e y)) ∨ DaMath.Inv r σ V n (m0 (ix3 0 0 y)) (fun e => a0 (ix3 0 e y))) :
    DaMath.Inv r σ V (n + 1024) (payM S m0 (ix3 0 0 y)) (fun e => payA S v1 m0 a0 (ix3 0 e y)) := by
  rw [payM_at, show (fun e => payA S v1 m0 a0 (ix3 0 e y)) = _ from funext fun e => payA_at S v1 m0 a0 e y]
  exact DaMath.step r σ V n _ _ (fun x => S (ix2 x y)) (fun e x => v1 (ix2 e x)) hn hS hW h

/-- What a slot's query row holds after point `t`. -/
def mS (t : Fin (cfgA ch).N) (s : Fin 16) (y : Fin 1024) : EReal := scM0_0.view.read (Elt Ideal) (traj0 ch m ρ c t.val t.isLt).2.1 (ix3 s 0 y)
def aS (t : Fin (cfgA ch).N) (s : Fin 16) (y : Fin 1024) (e : Fin 144) : EReal := scM0_1.view.read (Elt Ideal) (traj0 ch m ρ c t.val t.isLt).2.2 (ix3 s e y)

section
variable (t : Fin (cfgA ch).N) (s : Fin 16) (y : Fin 1024)
abbrev b0 := iblk ch m ρ c (0 : Fin 6) t
abbrev b1 := iblk ch m ρ c (1 : Fin 6) t
abbrev b2 := iblk ch m ρ c (2 : Fin 6) t
theorem mS_A (q0 : P0_0 ch t) (q1 : ¬P0_1 ch t) : mS ch m ρ c t s y = wM_A (ms0_0 ch t) (ms0_1 ch t) (b0 ch m ρ c t) (b1 ch m ρ c t) s (ix3 0 0 y) := by
  unfold mS; rw [traj0_eq, step0_A ch m ρ c t _ q0 q1]
  dsimp only
  exact slotM_A _ _ _ _ _ _ c _ _ _ _ _ _ _ _ _ _ _ _ _ _ _ _ _ s y
theorem aS_A (q0 : P0_0 ch t) (q1 : ¬P0_1 ch t) : aS ch m ρ c t s y = fun e => wA_A (ms0_0 ch t) (ms0_1 ch t) (ms0_2 ch t) (b0 ch m ρ c t) (b1 ch m ρ c t) (b2 ch m ρ c t) s (ix3 0 e y) := by
  funext e; unfold aS; rw [traj0_eq, step0_A ch m ρ c t _ q0 q1]
  dsimp only
  exact slotA_A _ _ _ _ _ _ c _ _ _ _ _ _ _ _ _ _ _ _ _ _ _ _ _ s e y
theorem mS_B (q0 : P0_0 ch t) (q1 : P0_1 ch t) : mS ch m ρ c t s y = wM_B (ms0_0 ch t) (ms0_1 ch t) (b0 ch m ρ c t) (b1 ch m ρ c t) s (ix3 0 0 y) := by
  unfold mS; rw [traj0_eq, step0_B ch m ρ c t _ q0 q1]
  dsimp only
  exact slotM_B _ _ _ _ _ _ c _ _ _ _ _ _ _ _ _ _ _ _ _ _ _ _ _ s y
theorem aS_B (q0 : P0_0 ch t) (q1 : P0_1 ch t) : aS ch m ρ c t s y = fun e => wA_B (ms0_0 ch t) (ms0_1 ch t) (ms0_2 ch t) (b0 ch m ρ c t) (b1 ch m ρ c t) (b2 ch m ρ c t) s (ix3 0 e y) := by
  funext e; unfold aS; rw [traj0_eq, step0_B ch m ρ c t _ q0 q1]
  dsimp only
  exact slotA_B _ _ _ _ _ _ c _ _ _ _ _ _ _ _ _ _ _ _ _ _ _ _ _ s e y
theorem mS_C (q0 : ¬P0_0 ch t) (q1 : ¬P0_1 ch t) : mS ch m ρ c t s y = wM_C c (ms0_0 ch t) (ms0_1 ch t) (b0 ch m ρ c t) (b1 ch m ρ c t) (prev0 ch m ρ c t).2.1 s (ix3 0 0 y) := by
  unfold mS; rw [traj0_eq, step0_C ch m ρ c t _ q0 q1]
  dsimp only
  exact slotM_C c _ _ _ _ _ _ _ _ _ _ _ _ _ _ _ _ _ _ _ _ _ _ _ _ _ s y
theorem aS_C (q0 : ¬P0_0 ch t) (q1 : ¬P0_1 ch t) : aS ch m ρ c t s y = fun e => wA_C c (ms0_0 ch t) (ms0_1 ch t) (ms0_2 ch t) (b0 ch m ρ c t) (b1 ch m ρ c t) (b2 ch m ρ c t) (prev0 ch m ρ c t).2.1 (prev0 ch m ρ c t).2.2 s (ix3 0 e y) := by
  funext e; unfold aS; rw [traj0_eq, step0_C ch m ρ c t _ q0 q1]
  dsimp only
  exact slotA_C c _ _ _ _ _ _ _ _ _ _ _ _ _ _ _ _ _ _ _ _ _ _ _ _ _ s e y
theorem mS_D (q0 : ¬P0_0 ch t) (q1 : P0_1 ch t) : mS ch m ρ c t s y = wM_D c (ms0_0 ch t) (ms0_1 ch t) (b0 ch m ρ c t) (b1 ch m ρ c t) (prev0 ch m ρ c t).2.1 s (ix3 0 0 y) := by
  unfold mS; rw [traj0_eq, step0_D ch m ρ c t _ q0 q1]
  dsimp only
  exact slotM_D c _ _ _ _ _ _ _ _ _ _ _ _ _ _ _ _ _ _ _ _ _ _ _ _ _ s y
theorem aS_D (q0 : ¬P0_0 ch t) (q1 : P0_1 ch t) : aS ch m ρ c t s y = fun e => wA_D c (ms0_0 ch t) (ms0_1 ch t) (ms0_2 ch t) (b0 ch m ρ c t) (b1 ch m ρ c t) (b2 ch m ρ c t) (prev0 ch m ρ c t).2.1 (prev0 ch m ρ c t).2.2 s (ix3 0 e y) := by
  funext e; unfold aS; rw [traj0_eq, step0_D ch m ρ c t _ q0 q1]
  dsimp only
  exact slotA_D c _ _ _ _ _ _ _ _ _ _ _ _ _ _ _ _ _ _ _ _ _ _ _ _ _ s e y
end

section
variable (hq : ∀ i, m ((c : Thread nD τ).loc main_arg2) i = (q i : EReal)) (hk : ∀ i, m ((c : Thread nD τ).loc main_arg3) i = (k i : EReal))
  (hv : ∀ i, m ((c : Thread nD τ).loc main_arg4) i = (v i : EReal)) (t : Fin (cfgA ch).N) (s : Fin 16) (y : Fin 1024)

include hq hk in
theorem half_real (x : Fin 1024) :
    half (mp s) (cols (hd s) (ms0_0 ch t) (b0 ch m ρ c t)) (cols (hd s) (ms0_1 ch t) (b1 ch m ρ c t)) x y
      = (score2 q k (hd s) (mp s) (rowQ t y) (kj t * 1024 + x.val) : EReal) :=
  (half_eq ch m ρ c t (hd s) (mp s) x y).trans (dotp_real q k _ _ hq hk _ _ _ _)

include hq hk in
theorem hS_U (h : kj t < qi t) (x : Fin 1024) :
    scoreU (mp s) (cols (hd s) (ms0_0 ch t) (b0 ch m ρ c t)) (cols (hd s) (ms0_1 ch t) (b1 ch m ρ c t)) (ix2 x y)
      = if kj t * 1024 + x.val ≤ (rowQ t y).val then (score2 q k (hd s) (mp s) (rowQ t y) (kj t * 1024 + x.val) : EReal) else ⊥ := by
  rw [scoreU_at, half_real ch m ρ c q k hq hk t s y x, if_pos]
  show kj t * 1024 + x.val ≤ qi t * 1024 + y.val
  have := x.isLt
  omega
include hq hk in
theorem hS_D (h : kj t = qi t) (x : Fin 1024) :
    scoreD (mp s) (cols (hd s) (ms0_0 ch t) (b0 ch m ρ c t)) (cols (hd s) (ms0_1 ch t) (b1 ch m ρ c t)) (ix2 x y)
      = if kj t * 1024 + x.val ≤ (rowQ t y).val then (score2 q k (hd s) (mp s) (rowQ t y) (kj t * 1024 + x.val) : EReal) else ⊥ := by
  rw [scoreD_at, half_real ch m ρ c q k hq hk t s y x]
  by_cases hx : x.val ≤ y.val
  · rw [if_pos hx, if_pos]
    show kj t * 1024 + x.val ≤ qi t * 1024 + y.val
    omega
  · rw [if_neg hx, if_neg]
    show ¬ kj t * 1024 + x.val ≤ qi t * 1024 + y.val
    omega
include hv in
theorem hW (e : Fin 144) (x : Fin 1024) : k0_pay8 (F := Ideal) (rows (hd s) (ms0_2 ch t) (b2 ch m ρ c t)) (ix2 e x)
    = (value v (hd s) e (kj t * 1024 + x.val) : EReal) := by
  rw [pay8_at]
  by_cases he : e.val < 128
  · rw [dif_pos he, rows_at]
    refine (blk2 ch m ρ c t _ x).trans ?_
    exact val_real v _ hv (hd s) ⟨e.val, he⟩ (rowK t x)
  · rw [dif_neg he, value, dif_neg he]
    rfl

theorem hnew (n : ℕ) (h : n = 0) : DaMath.Fresh n (mNew (ix3 0 0 y)) (fun e => aNew (ix3 0 e y)) := by
  refine ⟨h, mask_bot, fun e => ?_⟩
  exact Ideal.ofBits_zero_f32

theorem inv_move (t t' : Fin 136) (y : Fin 1024) (s : Fin 16) (h1 : qi t' = qi t) (h2 : kj t' + 1 = kj t) (M : EReal) (A : Fin 144 → EReal)
    (h : DaMath.Inv (rowQ t' y).val (score2 q k (hd s) (mp s) (rowQ t' y)) (value v (hd s)) (kj t' * 1024 + 1024) M A) :
    DaMath.Inv (rowQ t y).val (score2 q k (hd s) (mp s) (rowQ t y)) (value v (hd s)) (kj t * 1024) M A := by
  have hr : rowQ t' y = rowQ t y := Fin.ext (by show qi t' * 1024 + y.val = qi t * 1024 + y.val; rw [h1])
  rw [hr, show kj t' * 1024 + 1024 = kj t * 1024 by rw [← h2, Nat.add_mul]] at h
  exact h

include hq hk hv in
/-- After each point every slot holds the running maximum and sums of the keys seen so far. -/
theorem inv : ∀ (n : ℕ) (t : Fin (cfgA ch).N), t.val = n → ∀ s y,
    DaMath.Inv (rowQ t y).val (score2 q k (hd s) (mp s) (rowQ t y)) (value v (hd s)) (kj t * 1024 + 1024) (mS ch m ρ c t s y) (aS ch m ρ c t s y) := by
  intro n
  induction n with
  | zero =>
    intro t ht s y
    have hk0 := tri_zero t ht
    have q0 : P0_0 ch t := ((decisions ch t).1).mpr hk0
    have hle : kj t * 1024 ≤ (rowQ t y).val := by rw [hk0]; exact (Nat.zero_mul _).trans_le (Nat.zero_le _)
    have hf := hnew y (kj t * 1024) (by rw [hk0])
    by_cases q1 : P0_1 ch t
    · rw [mS_B ch m ρ c t s y q0 q1, aS_B ch m ρ c t s y q0 q1]
      exact slot_step _ _ _ _ _ _ _ _ _ hle (hS_U ch m ρ c q k hq hk t s y (((decisions ch t).2).mp q1)) (hW ch m ρ c v hv t s) (.inl hf)
    · rw [mS_A ch m ρ c t s y q0 q1, aS_A ch m ρ c t s y q0 q1]
      exact slot_step _ _ _ _ _ _ _ _ _ hle (hS_D ch m ρ c q k hq hk t s y (le_antisymm (tri t).1 (not_lt.mp (mt ((decisions ch t).2).mpr q1)))) (hW ch m ρ c v hv t s) (.inl hf)
  | succ n ih =>
    intro t ht s y
    have hle : kj t * 1024 ≤ (rowQ t y).val := by
      show kj t * 1024 ≤ qi t * 1024 + y.val
      have := (tri t).1
      omega
    by_cases q0 : P0_0 ch t
    · have hk0 := ((decisions ch t).1).mp q0
      have hf := hnew y (kj t * 1024) (by rw [hk0])
      by_cases q1 : P0_1 ch t
      · rw [mS_B ch m ρ c t s y q0 q1, aS_B ch m ρ c t s y q0 q1]
        exact slot_step _ _ _ _ _ _ _ _ _ hle (hS_U ch m ρ c q k hq hk t s y (((decisions ch t).2).mp q1)) (hW ch m ρ c v hv t s) (.inl hf)
      · rw [mS_A ch m ρ c t s y q0 q1, aS_A ch m ρ c t s y q0 q1]
        exact slot_step _ _ _ _ _ _ _ _ _ hle (hS_D ch m ρ c q k hq hk t s y (le_antisymm (tri t).1 (not_lt.mp (mt ((decisions ch t).2).mpr q1)))) (hW ch m ρ c v hv t s) (.inl hf)
    · obtain ⟨hpos, hqi, hkj⟩ := tri_prev t (mt ((decisions ch t).1).mpr q0)
      have hp : prev0 ch m ρ c t = traj0 ch m ρ c (t.val - 1) (lt_of_le_of_lt (Nat.sub_le _ _) t.isLt) := by
        unfold prev0; rw [dif_neg (by omega)]
      have hi := ih ⟨t.val - 1, lt_of_le_of_lt (Nat.sub_le _ _) t.isLt⟩ (by show (t : Fin 136).val - 1 = n; rw [ht]; rfl) s y
      have hi' : DaMath.Inv (rowQ t y).val (score2 q k (hd s) (mp s) (rowQ t y)) (value v (hd s)) (kj t * 1024)
          (mAt c (prev0 ch m ρ c t).2.1 s (ix3 0 0 y)) (fun e => aAt c (prev0 ch m ρ c t).2.2 s (ix3 0 e y)) := by
        have e1 : mAt c (prev0 ch m ρ c t).2.1 s (ix3 0 0 y) = scM0_0.view.read (Elt Ideal) (prev0 ch m ρ c t).2.1 (ix3 s 0 y) := slot_load _ _ s _ 0 y
        have e2 : (fun e => aAt c (prev0 ch m ρ c t).2.2 s (ix3 0 e y)) = fun e => scM0_1.view.read (Elt Ideal) (prev0 ch m ρ c t).2.2 (ix3 s e y) :=
          funext fun e => slot_load _ _ s _ e y
        rw [e1, e2, hp]
        exact inv_move q k v t _ y s hqi hkj _ _ hi
      by_cases q1 : P0_1 ch t
      · rw [mS_D ch m ρ c t s y q0 q1, aS_D ch m ρ c t s y q0 q1]
        exact slot_step _ _ _ _ _ _ _ _ _ hle (hS_U ch m ρ c q k hq hk t s y (((decisions ch t).2).mp q1)) (hW ch m ρ c v hv t s) (.inr hi')
      · rw [mS_C ch m ρ c t s y q0 q1, aS_C ch m ρ c t s y q0 q1]
        exact slot_step _ _ _ _ _ _ _ _ _ hle (hS_D ch m ρ c q k hq hk t s y (le_antisymm (tri t).1 (not_lt.mp (mt ((decisions ch t).2).mpr q1)))) (hW ch m ρ c v hv t s) (.inr hi')
end

end Cert.DaIdeal.Point
end
-- ==== Proof.DaOut.lean ====
/- What the last point of a block of queries leaves in the output block. -/
module

public import proofs.«01_k».proof.Proof.DaScore

@[expose] public section

set_option maxRecDepth 16384

noncomputable section

open Idealize.ShloMosaic Idealize.ShloMosaic.TcCoe Idealize.SL.Sem
open Cert.DaIdeal Cert.DaIdeal.Gen

namespace Cert.DaIdeal.Slots

/-- The columns of a head lie in the block. -/
theorem col_inb (n : ℕ) (h : n < 8) : ∀ a, (![0, n * 128] : Fin 2 → ℕ) a + S1024x128.size a ≤ S1024x1024.size a := by
  intro a
  fin_cases a
  · exact (Nat.zero_add _).le
  · show n * 128 + 128 ≤ 1024; omega

/-- The columns of the first `n` heads written in order, newest first. -/
def heads (w : Fin 8 → S1024x128.Idx → Elt Ideal .bf16) : (n : ℕ) → n ≤ 8 → List (View.Piece (Elt Ideal) S1024x1024 .bf16)
  | 0, _ => []
  | n + 1, h => ⟨Rect.unit (s := S1024x1024) ![0, n * 128] S1024x128.size (col_inb n h), w ⟨n, h⟩⟩ :: heads w n (Nat.le_of_succ_le h)

theorem read_heads (w : Fin 8 → S1024x128.Idx → Elt Ideal .bf16) (v : View sig .tc .vmem S1024x1024 .bf16) (f : v.ty.Contents (Elt Ideal))
    (n : ℕ) (hn : n ≤ 8) (h : Fin 8) (hh : h.val < n) (y : Fin 1024) (e : Fin 128) :
    v.read (Elt Ideal) (v.writes (Elt Ideal) f (heads w n hn)) (ix2 y ⟨h.val * 128 + e.val, by omega⟩) = w h (ix2 y e) := by
  induction n with
  | zero => exact absurd hh (Nat.not_lt_zero _)
  | succ n ih =>
    rcases Nat.lt_or_ge h.val n with hl | hg
    · refine (View.read_writes_cons_unit_of_not_mem v f (col_inb n hn) (w ⟨n, hn⟩) (heads w n (Nat.le_of_succ_le hn)) _ rfl 1 ?_).trans (ih _ hl)
      show h.val * 128 + e.val < n * 128 ∨ n * 128 + 128 ≤ h.val * 128 + e.val
      have := e.isLt
      omega
    · have he : h = ⟨n, hn⟩ := Fin.ext (by show h.val = n; omega)
      subst he
      refine View.read_writes_cons_unit_of_mem v f (col_inb n hn) (w ⟨n, hn⟩) (heads w n (Nat.le_of_succ_le hn)) _ (ix2 y e) rfl fun x => ?_
      fin_cases x
      · exact (Nat.zero_add _).symm
      · rfl

theorem s_inb (n : ℕ) (h : n < 16) : ∀ a, (![n, 0, 0] : Fin 3 → ℕ) a + S1x144x1024.size a ≤ S16x144x1024.size a := slot_inb n h

/-- One head's columns of the output from the slots' final sums. -/
def wO (a6 : Memref sig .tc .vmem S4x64 .f32) (a7 : Memref sig .tc .vmem S128x1 .f32) (x3 : S4x64.Idx → Elt Ideal .f32) (x4 : S128x1.Idx → Elt Ideal .f32)
    (L : List (View.Piece (Elt Ideal) S16x144x1024 .f32)) (h : Fin 8) : S1024x128.Idx → Elt Ideal .bf16 :=
  k0_pay7 (View.readAt (Elt Ideal) a6.view (Rect.unit (s := S4x64) ![0, 0] S4x64.size inb_S4x64_S4x64_0_0).toLoadRect (a6.view.rep x3))
    (scM0_1.view.readCov (Val := Elt Ideal) L (Rect.unit (s := S16x144x1024) ![2 * h.val, 0, 0] S1x144x1024.size (s_inb _ (by omega))).toLoadRect)
    (scM0_1.view.readCov (Val := Elt Ideal) L (Rect.unit (s := S16x144x1024) ![2 * h.val + 1, 0, 0] S1x144x1024.size (s_inb _ (by omega))).toLoadRect)
    (View.readAt (Elt Ideal) a7.view (Rect.unit (s := S128x1) ![0, 0] S128x1.size inb_S128x1_S128x1_0_0).toLoadRect (a7.view.rep x4))

/-- One head's difference of the two maps' quotients, and its output. -/
def mixK (lam : EReal) (a b : Fin 144 → EReal) (e : Fin 128) : EReal :=
  Ideal.div (a ⟨e.val, by omega⟩) (a 128) - lam * Ideal.div (b ⟨e.val, by omega⟩) (b 128)
def lamK (l : Vec Ideal S4x64 .f32) : EReal :=
  Ideal.exp (∑ x, l (ix2 0 x) * l (ix2 1 x)) - Ideal.exp (∑ x, l (ix2 2 x) * l (ix2 3 x)) + Ideal.ofBits FTy.f32 1045220557#32
def finK (o g : Fin 128 → EReal) (e : Fin 128) : EReal :=
  o e * Ideal.rsqrt (Ideal.div (∑ x, o x * o x) (Ideal.ofBits FTy.f32 1124073472#32) + Ideal.ofBits FTy.f32 897988541#32) * g e
    * Ideal.ofBits FTy.f32 1061997773#32

theorem pay7_at (l a b g) (y : Fin 1024) (e : Fin 128) : k0_pay7 (F := Ideal) l a b g (ix2 y e)
    = finK (mixK (lamK l) (fun e => a (ix3 0 e y)) (fun e => b (ix3 0 e y))) (fun e => g (ix2 e 0)) e := by
  pointwise [k0_pay7]
  simp only [Finset.univ_unique, Finset.sum_singleton]
  rfl

theorem wO_at (a6 a7 x3 x4) (w : Fin 16 → S1x144x1024.Idx → Elt Ideal .f32) (L) (h : Fin 8) (y : Fin 1024) (e : Fin 128) :
    wO a6 a7 x3 x4 (upTo w L 16 le_rfl) h (ix2 y e)
      = finK (mixK (lamK x3) (fun e => w ⟨2 * h.val, by omega⟩ (ix3 0 e y)) (fun e => w ⟨2 * h.val + 1, by omega⟩ (ix3 0 e y))) (fun e => x4 (ix2 e 0)) e := by
  have h6 : View.readAt (Elt Ideal) a6.view (Rect.unit (s := S4x64) ![0, 0] S4x64.size inb_S4x64_S4x64_0_0).toLoadRect (a6.view.rep x3) = x3 := by
    rw [View.readAt_rep_unit a6.view x3 _ rfl inb_S4x64_S4x64_0_0]
    funext i
    refine congrArg x3 (funext fun a => Fin.ext ((ValueKit.rect_emb_unit_val _ _ _ _ _).trans ?_))
    fin_cases a <;> exact Nat.zero_add _
  have h7 : View.readAt (Elt Ideal) a7.view (Rect.unit (s := S128x1) ![0, 0] S128x1.size inb_S128x1_S128x1_0_0).toLoadRect (a7.view.rep x4) = x4 := by
    rw [View.readAt_rep_unit a7.view x4 _ rfl inb_S128x1_S128x1_0_0]
    funext i
    refine congrArg x4 (funext fun a => Fin.ext ((ValueKit.rect_emb_unit_val _ _ _ _ _).trans ?_))
    fin_cases a <;> exact Nat.zero_add _
  have hs : ∀ (s : Fin 16) (inb) (e : Fin 144), scM0_1.view.readCov (Val := Elt Ideal) (upTo w L 16 le_rfl) (Rect.unit (s := S16x144x1024) ![s.val, 0, 0] S1x144x1024.size inb).toLoadRect (ix3 0 e y)
      = w s (ix3 0 e y) := fun s inb e =>
    (slot_load scM0_1.view _ s inb e y).trans (read_upTo_of_lt _ _ _ _ _ _ _ s.isLt _ _)
  unfold wO
  rw [pay7_at, h6, h7]
  refine congrFun (congrArg (fun o => finK o (fun e => x4 (ix2 e 0))) (congrArg₂ (mixK (lamK x3)) (funext fun e => ?_) (funext fun e => ?_))) e
  · exact hs ⟨2 * h.val, by omega⟩ _ e
  · exact hs ⟨2 * h.val + 1, by omega⟩ _ e

section
variable (c : Dev nD) (a3 a4 a5 : Memref sig .tc .vmem S1024x1024 .bf16) (a6 : Memref sig .tc .vmem S4x64 .f32) (a7 : Memref sig .tc .vmem S128x1 .f32)
  (x0 x1 x2 : S1024x1024.Idx → Elt Ideal .bf16) (x3 : S4x64.Idx → Elt Ideal .f32) (x4 : S128x1.Idx → Elt Ideal .f32)
  (f0 : Buf (Elt Ideal) ((c : Thread nD τ).loc cc0_scratch0)) (f1 : Buf (Elt Ideal) ((c : Thread nD τ).loc cc0_scratch1))

theorem listO_C : kernelRun0_C.sl.HO5_8 c a3 a4 a5 a6 a7 x0 x1 x2 x3 x4 f0 f1
    = heads (wO a6 a7 x3 x4 (kernelRun0_C.sl.HS1_16 c a3 a4 a5 x0 x1 x2 f0 f1)) 8 le_rfl := by
  unfold kernelRun0_C.sl.HO5_8
  rfl
theorem listO_A : kernelRun0_A.sl.HO5_8 a3 a4 a5 a6 a7 x0 x1 x2 x3 x4
    = heads (wO a6 a7 x3 x4 (kernelRun0_A.sl.HS1_17 a3 a4 a5 x0 x1 x2)) 8 le_rfl := by
  unfold kernelRun0_A.sl.HO5_8
  rfl
theorem out_C (i h3 h4 h5 h6 h7 a8 h8 T0 T1 c0 c1 c2) (h : Fin 8) (y : Fin 1024) (e : Fin 128) :
    out0_C_5 c i a3 h3 a4 h4 a5 h5 a6 h6 a7 h7 a8 h8 T0 T1 x0 x1 x2 x3 x4 f0 f1 c0 c1 c2 (ix2 y ⟨h.val * 128 + e.val, by omega⟩)
      = finK (mixK (lamK x3) (fun e => wA_C c a3 a4 a5 x0 x1 x2 f0 f1 ⟨2 * h.val, by omega⟩ (ix3 0 e y))
          (fun e => wA_C c a3 a4 a5 x0 x1 x2 f0 f1 ⟨2 * h.val + 1, by omega⟩ (ix3 0 e y))) (fun e => x4 (ix2 e 0)) e := by
  unfold out0_C_5 kernelRun0_C
  dsimp only
  rw [listO_C, listA_C]
  exact (read_heads _ _ _ 8 le_rfl h h.isLt y e).trans (wO_at a6 a7 x3 x4 _ _ h y e)
theorem out_A (i h3 h4 h5 h6 h7 a8 h8 T0 T1 c0 c1 c2) (h : Fin 8) (y : Fin 1024) (e : Fin 128) :
    out0_A_5 c i a3 h3 a4 h4 a5 h5 a6 h6 a7 h7 a8 h8 T0 T1 x0 x1 x2 x3 x4 c0 c1 c2 (ix2 y ⟨h.val * 128 + e.val, by omega⟩)
      = finK (mixK (lamK x3) (fun e => wA_A a3 a4 a5 x0 x1 x2 ⟨2 * h.val, by omega⟩ (ix3 0 e y))
          (fun e => wA_A a3 a4 a5 x0 x1 x2 ⟨2 * h.val + 1, by omega⟩ (ix3 0 e y))) (fun e => x4 (ix2 e 0)) e := by
  unfold out0_A_5 kernelRun0_A
  dsimp only
  rw [listO_A, listA_A_16]
  exact (read_heads _ _ _ 8 le_rfl h h.isLt y e).trans (wO_at a6 a7 x3 x4 _ _ h y e)
end

end Cert.DaIdeal.Slots
end
-- ==== Proof.DaPre.lean ====
/- What the precondition says: the two tables' words, and that the floating point arguments are real numbers. -/
module

public import proofs.«01_k».proof.Proof.Gen.Da.Flash
public import proofs.«01_k».proof.Proof.Gen.DaIdeal.Flash
public import proofs.«01_k».proof.Proof.Gen.Pre_causal_and_finite
public import proofs.«01_k».proof.Defs
public import Idealize.ShloMosaic.Lib.ReduceAll
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem

namespace Cert.Pre_causal_and_finite

open Idealize.ShloMosaic.WordCmp

variable [Facts]
open Facts

/-- The one index of a rank zero array. -/
abbrev z : S_.Idx := fun a => a.elim0

/-- An array whose absolute values all lie below infinity. -/
def below {F : FTy → Type} [FloatOps F] {s : Shape} (x : FVec F s .f32) : Prop :=
  ∀ i, FloatOps.cmpf CmpFPredicate.olt (Host.absf x i) (Scalar.ofBits .f32 0x7F800000#32 : F .f32) = 1#1

instance : Subsingleton S_.Idx := ⟨fun a b => funext fun i => i.elim0⟩

theorem parts {F : FTy → Type} [FloatOps F] (T0 T1 : IVec S136 32) (q k : FVec F S16384x1024 .bf16) (v : FVec F S1024x16384 .bf16) (l : FVec F S4x64 .f32) (g : FVec F S128x1 .f32)
    (h : fn T0 T1 q k v l g = fun _ => 1#1) :
    (∀ i, T0 i = lit0 (S136.rowMajor i)) ∧ (∀ i, T1 i = lit1 (S136.rowMajor i))
      ∧ below (extf .f32 q bitsLt_bf16_f32) ∧ below (extf .f32 k bitsLt_bf16_f32) ∧ below (extf .f32 v bitsLt_bf16_f32) ∧ below l := by
  have h0 := congrFun h z
  simp only [fn, fn_part1] at h0
  have and1 : ∀ a b : BitVec 1, IntOp.andi a b = 1#1 → a = 1#1 ∧ b = 1#1 := by decide
  obtain ⟨h1, hl⟩ := and1 _ _ h0
  obtain ⟨h1, hv⟩ := and1 _ _ h1
  obtain ⟨h1, hk⟩ := and1 _ _ h1
  obtain ⟨h1, hq⟩ := and1 _ _ h1
  obtain ⟨ha, hb⟩ := and1 _ _ h1
  have eq1 : ∀ a b : BitVec 32, IntOp.cmpi .eq a b = 1#1 → a = b := fun a b h => by
    exact eq_of_beq ((ofBool_eq_one_iff _).mp h)
  refine ⟨fun i => eq1 _ _ (Host.reduce_andi_all _ _ _ _ _ ha i), fun i => eq1 _ _ (Host.reduce_andi_all _ _ _ _ _ hb i),
    fun i => Host.reduce_andi_all _ _ _ _ _ hq i, fun i => Host.reduce_andi_all _ _ _ _ _ hk i,
    fun i => Host.reduce_andi_all _ _ _ _ _ hv i, fun i => Host.reduce_andi_all _ _ _ _ _ hl i⟩

/-- Over the extended reals such an entry is a real number. -/
theorem real_of_below {s : Shape} (x : FVec Ideal s .f32) (h : below x) (i : s.Idx) : ∃ r : ℝ, x i = (r : EReal) := by
  have hi := h i
  have htop : Ideal.ofBits .f32 0x7F800000#32 = ⊤ := by simp [Ideal.ofBits, Ideal.ieee]
  have hlt : max (x i : EReal) (-(x i : EReal)) < ⊤ := by
    have : BitVec.ofBool (decide (max (x i : EReal) (-(x i : EReal)) < Ideal.ofBits .f32 0x7F800000#32)) = 1#1 := hi
    rw [htop] at this
    exact of_decide_eq_true ((ofBool_eq_one_iff _).mp this)
  obtain ⟨h1, h2⟩ := max_lt_iff.mp hlt
  refine ⟨(x i : EReal).toReal, (EReal.coe_toReal h1.ne ?_).symm⟩
  intro hb
  rw [hb, EReal.neg_bot] at h2
  exact lt_irrefl _ h2

end Cert.Pre_causal_and_finite

namespace Cert.Da

theorem tab0 : ∀ i : Fin 136, Cert.Pre_causal_and_finite.lit0 (S136.rowMajor (ix1 i)) = Gen.pinT_0 0 (ix1 i) := by decide +kernel
theorem tab1 : ∀ i : Fin 136, Cert.Pre_causal_and_finite.lit1 (S136.rowMajor (ix1 i)) = Gen.pinT_1 0 (ix1 i) := by decide +kernel

/-- The precondition pins both tables. -/
theorem pinned_of_pre (m : (ℓ : Loc nD τ sig) → Buf (Elt Bits) ℓ) (h : Pre_Da (hPre_causal_and_finite := Cert.Pre_causal_and_finite.Gen.facts) m) : Gen.Pinned 0 m := by
  refine ⟨fun c => funext fun i => ?_, fun c => funext fun i => ?_⟩
  · obtain ⟨t, rfl⟩ : ∃ t : Fin 136, i = ix1 t := ⟨i 0, eq_ix1 i⟩
    exact ((Cert.Pre_causal_and_finite.parts _ _ _ _ _ _ _ (h c)).1 _).trans (tab0 t)
  · obtain ⟨t, rfl⟩ : ∃ t : Fin 136, i = ix1 t := ⟨i 0, eq_ix1 i⟩
    exact ((Cert.Pre_causal_and_finite.parts _ _ _ _ _ _ _ (h c)).2.1 _).trans (tab1 t)

end Cert.Da

namespace Cert.DaIdeal

theorem tab0 : ∀ i : Fin 136, Cert.Pre_causal_and_finite.lit0 (S136.rowMajor (ix1 i)) = Gen.pinT_0 0 (ix1 i) := by decide +kernel
theorem tab1 : ∀ i : Fin 136, Cert.Pre_causal_and_finite.lit1 (S136.rowMajor (ix1 i)) = Gen.pinT_1 0 (ix1 i) := by decide +kernel

theorem pinned_of_pre (m : (ℓ : Loc nD τ sig) → Buf (Elt Ideal) ℓ) (h : Pre_DaIdeal (hPre_causal_and_finite := Cert.Pre_causal_and_finite.Gen.facts) m) : Gen.Pinned 0 m := by
  refine ⟨fun c => funext fun i => ?_, fun c => funext fun i => ?_⟩
  · obtain ⟨t, rfl⟩ : ∃ t : Fin 136, i = ix1 t := ⟨i 0, eq_ix1 i⟩
    exact ((Cert.Pre_causal_and_finite.parts _ _ _ _ _ _ _ (h c)).1 _).trans (tab0 t)
  · obtain ⟨t, rfl⟩ : ∃ t : Fin 136, i = ix1 t := ⟨i 0, eq_ix1 i⟩
    exact ((Cert.Pre_causal_and_finite.parts _ _ _ _ _ _ _ (h c)).2.1 _).trans (tab1 t)

/-- And says that queries, keys, values and the parameters of the mixing weight are real numbers. -/
theorem reals_of_pre (m : (ℓ : Loc nD τ sig) → Buf (Elt Ideal) ℓ) (h : Pre_DaIdeal (hPre_causal_and_finite := Cert.Pre_causal_and_finite.Gen.facts) m) (c : Dev nD) :
    ∃ (q k : S16384x1024.Idx → ℝ) (v : S1024x16384.Idx → ℝ) (l : S4x64.Idx → ℝ),
      (∀ i, m ((c : Thread nD τ).loc main_arg2) i = (q i : EReal)) ∧ (∀ i, m ((c : Thread nD τ).loc main_arg3) i = (k i : EReal))
        ∧ (∀ i, m ((c : Thread nD τ).loc main_arg4) i = (v i : EReal)) ∧ (∀ i, m ((c : Thread nD τ).loc main_arg5) i = (l i : EReal)) := by
  obtain ⟨-, -, hq, hk, hv, hl⟩ := Cert.Pre_causal_and_finite.parts _ _ _ _ _ _ _ (h c)
  choose q hq using Cert.Pre_causal_and_finite.real_of_below _ hq
  choose k hk using Cert.Pre_causal_and_finite.real_of_below _ hk
  choose v hv using Cert.Pre_causal_and_finite.real_of_below _ hv
  choose l hl using Cert.Pre_causal_and_finite.real_of_below _ hl
  exact ⟨q, k, v, l, hq, hk, hv, hl⟩

end Cert.DaIdeal
end
-- ==== Proof.DaValue.lean ====
/- The differential attention's result is the reference's, and its claim. -/
module

public import proofs.«01_k».proof.Proof.DaPoint
public import proofs.«01_k».proof.Proof.DaOut
public import proofs.«01_k».proof.Proof.DaPre
public import proofs.«01_k».proof.Proof.Gen.DaRefIdeal.Run
public import proofs.«01_k».proof.Proof.Gen.DaRefIdeal.Read
public import proofs.«01_k».proof.Defs

@[expose] public section

set_option maxRecDepth 16384

noncomputable section

open Idealize.ShloMosaic Idealize.ShloMosaic.TcCoe Idealize.SL.Sem
open Cert.DaIdeal Cert.DaIdeal.Gen Cert.DaIdeal.Slots Cert.DaIdeal.Point Cert.DaRefIdeal.Val Cert.DaRefIdeal.Read

namespace Cert.DaIdeal.Out

variable (ch : Fin 1) (m : (ℓ : Loc nD τ sig) → Buf (Elt Ideal) ℓ) (ρ : Dev nD → PrngReg) (c : Dev nD)

/-- Where a row of keys ends the block of outputs is formed from the sixteen slots. -/
theorem out_at (t : Fin (cfgA ch).N) (q1 : ¬P0_1 ch t) (h : Fin 8) (y : Fin 1024) (e : Fin 128) :
    (traj0 ch m ρ c t.val t.isLt).1 (ix2 y ⟨h.val * 128 + e.val, by omega⟩)
      = finK (mixK (lamK (iblk ch m ρ c (3 : Fin 6) t)) (aS ch m ρ c t ⟨2 * h.val, by omega⟩ y) (aS ch m ρ c t ⟨2 * h.val + 1, by omega⟩ y))
          (fun e => iblk ch m ρ c (4 : Fin 6) t (ix2 e 0)) e := by
  by_cases q0 : P0_0 ch t
  · rw [aS_A ch m ρ c t ⟨2 * h.val, by omega⟩ y q0 q1, aS_A ch m ρ c t ⟨2 * h.val + 1, by omega⟩ y q0 q1, traj0_eq, step0_A ch m ρ c t _ q0 q1]
    dsimp only
    exact out_A c _ _ _ _ _ _ _ _ _ _ _ _ _ _ _ _ _ _ _ _ _ _ _ h y e
  · rw [aS_C ch m ρ c t ⟨2 * h.val, by omega⟩ y q0 q1, aS_C ch m ρ c t ⟨2 * h.val + 1, by omega⟩ y q0 q1, traj0_eq, step0_C ch m ρ c t _ q0 q1]
    dsimp only
    exact out_C c _ _ _ _ _ _ _ _ _ _ _ _ _ _ _ _ _ _ _ _ _ _ _ _ _ h y e

variable (q k : S16384x1024.Idx → ℝ) (v : S1024x16384.Idx → ℝ) (l : S4x64.Idx → ℝ)
  (hq : ∀ i, m ((c : Thread nD τ).loc main_arg2) i = (q i : EReal)) (hk : ∀ i, m ((c : Thread nD τ).loc main_arg3) i = (k i : EReal))
  (hv : ∀ i, m ((c : Thread nD τ).loc main_arg4) i = (v i : EReal)) (hl : ∀ i, m ((c : Thread nD τ).loc main_arg5) i = (l i : EReal))

include hq hk hv in
/-- At the last block of a row of keys a slot's sums run over every key. -/
theorem slot_sum (t : Fin (cfgA ch).N) (hkq : kj t = qi t) (s : Fin 16) (h : Fin 8) (p : Fin 2) (hh : hd s = h) (hp : mp s = p) (y : Fin 1024) : ∃ M : ℝ,
    (∀ e : Fin 128, aS ch m ρ c t s y ⟨e.val, by omega⟩
        = ((∑ n ∈ Finset.range 16384, value v h ⟨e.val, by omega⟩ n * DaMath.wt (rowQ t y).val (score2 q k h p (rowQ t y)) M n : ℝ) : EReal))
      ∧ aS ch m ρ c t s y 128 = ((∑ n ∈ Finset.range 16384, DaMath.wt (rowQ t y).val (score2 q k h p (rowQ t y)) M n : ℝ) : EReal) := by
  subst hh
  subst hp
  obtain ⟨M, -, ha⟩ := inv ch m ρ c q k v hq hk hv t.val t rfl s y
  have hr : (rowQ t y).val < kj t * 1024 + 1024 := by
    show qi t * 1024 + y.val < kj t * 1024 + 1024
    rw [hkq]; omega
  have hN : kj t * 1024 + 1024 ≤ 16384 := by
    have := (tri t).2
    have := (tri t).1
    omega
  refine ⟨M, fun e => (ha _).trans (congrArg _ (DaMath.sum_tail _ _ _ M _ _ hr hN)), ?_⟩
  refine (ha 128).trans (congrArg _ ((DaMath.sum_tail _ _ _ M _ _ hr hN).trans (Finset.sum_congr rfl fun n _ => ?_)))
  rw [value, dif_neg (by decide), one_mul]

theorem lam_real (x5 : FVec Ideal S4x64 .f32) (h : ∀ i, x5 i = (l i : EReal)) : ∃ L : ℝ, lam x5 = (L : EReal) := by
  have hs : ∀ a b : Fin 4, (∑ x : Fin 64, x5 (ix2 a x) * x5 (ix2 b x)) = ((∑ x : Fin 64, l (ix2 a x) * l (ix2 b x) : ℝ) : EReal) := fun a b => by
    rw [DaMath.coe_sum]
    exact Finset.sum_congr rfl fun x _ => by rw [h, h, EReal.coe_mul]
  unfold lam
  rw [hs, hs, Ideal.exp_coe, Ideal.exp_coe, DaMath.lam_init, ← EReal.coe_sub, ← EReal.coe_add]
  exact ⟨_, rfl⟩

theorem score_real (Q K : FVec Ideal S16384x1024 .bf16) (hQ : ∀ i, Q i = (q i : EReal)) (hK : ∀ i, K i = (k i : EReal)) (h : Fin 8) (p : Fin 2) (r n : Fin 16384) :
    score Q K h p r n = if n.val ≤ r.val then (score2 q k h p r n.val : EReal) else ⊥ := by
  unfold score
  rw [dotp_real q k Q K hQ hK]

include hq hk hv hl in
/-- The two maps' quotients, one less the other's share, are the reference's mixture. -/
theorem mix_at (t : Fin (cfgA ch).N) (hkq : kj t = qi t) (h : Fin 8) (y : Fin 1024) :
    mixK (lam (m ((c : Thread nD τ).loc main_arg5))) (aS ch m ρ c t ⟨2 * h.val, by omega⟩ y) (aS ch m ρ c t ⟨2 * h.val + 1, by omega⟩ y)
      = mix (m ((c : Thread nD τ).loc main_arg2)) (m ((c : Thread nD τ).loc main_arg3)) (m ((c : Thread nD τ).loc main_arg4)) (m ((c : Thread nD τ).loc main_arg5)) (rowQ t y) h := by
  funext e
  obtain ⟨M0, a0, z0⟩ := slot_sum ch m ρ c q k v hq hk hv t hkq ⟨2 * h.val, by omega⟩ h 0 (Fin.ext (by show 2 * h.val / 2 = h.val; omega)) (Fin.ext (by show 2 * h.val % 2 = 0; omega)) y
  obtain ⟨M1, a1, z1⟩ := slot_sum ch m ρ c q k v hq hk hv t hkq ⟨2 * h.val + 1, by omega⟩ h 1 (Fin.ext (by show (2 * h.val + 1) / 2 = h.val; omega)) (Fin.ext (by show (2 * h.val + 1) % 2 = 1; omega)) y
  obtain ⟨L, hL⟩ := lam_real l _ hl
  unfold mixK mix soft
  rw [a0, a1, z0, z1, hL]
  exact DaMath.combine (rowQ t y).val _ _ (value v h ⟨e.val, by omega⟩) M0 M1 L 16384 (rowQ t y).isLt _ _
    (fun n => score_real q k _ _ hq hk h 0 _ n) (fun n => score_real q k _ _ hq hk h 1 _ n) _ (fun n => val_real v _ hv h e n)

include hq hk hv hl in
theorem run_at (t : Fin (cfgA ch).N) (q1 : ¬P0_1 ch t) (y n : Fin 1024) :
    (traj0 ch m ρ c t.val t.isLt).1 (ix2 y n)
      = val_main_v67 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (ix2 (rowQ t y) n) := by
  have hkq : kj t = qi t := le_antisymm (tri t).1 (not_lt.mp (mt ((decisions ch t).2).mpr q1))
  have hn : n = ⟨(⟨n.val / 128, by omega⟩ : Fin 8).val * 128 + (⟨n.val % 128, by omega⟩ : Fin 128).val, by
      show n.val / 128 * 128 + n.val % 128 < 1024; omega⟩ := Fin.ext (by show n.val = n.val / 128 * 128 + n.val % 128; omega)
  have h3 : lamK (iblk ch m ρ c (3 : Fin 6) t) = lam (m ((c : Thread nD τ).loc main_arg5)) := by
    unfold lamK lam
    simp only [blk3]
  have h4 : (fun e : Fin 128 => iblk ch m ρ c (4 : Fin 6) t (ix2 e 0)) = fun e => m ((c : Thread nD τ).loc main_arg6) (ix2 e 0) :=
    funext fun e => blk4 ch m ρ c t e 0
  rw [ref_at]
  refine (congrArg (fun n => (traj0 ch m ρ c t.val t.isLt).1 (ix2 y n)) hn).trans ((out_at ch m ρ c t q1 _ y _).trans ?_)
  rw [h3, h4, mix_at ch m ρ c q k v l hq hk hv hl t hkq]
  rfl

theorem flushes (t : Fin (cfgA ch).N) (hf : ((cfgA ch).win (5 : Fin 6)).flush t = true) : ¬P0_1 ch t := by
  intro q1
  by_cases q0 : P0_0 ch t
  · have := (sched0_B ch t q0 q1).2.1
    rw [hf] at this
    exact absurd this (by decide)
  · have := (sched0_D ch t q0 q1).2.1
    rw [hf] at this
    exact absurd this (by decide)

include hq hk hv hl in
/-- The result array after the run is the reference's. -/
theorem final : (dats 0 m ρ 0 c).arrAt 5 (cfgA 0).N
    = val_main_v67 (F := Ideal) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats 0 m ρ 0 c).arrAt_eq_of_covers 5 _ (by decide +kernel) fun t hf y => ?_
  blk_simp
  rw [after0_5]
  have q1 := flushes 0 t hf
  obtain ⟨a, n, rfl⟩ : ∃ a n : Fin 1024, y = ix2 a n := ⟨y 0, y 1, eq_ix2 y⟩
  rw [run_at 0 m ρ c q k v l hq hk hv hl t q1 a n]
  have ht := idx 0 t
  refine congrArg (val_main_v67 (F := Ideal) _ _ _ _ _) ?_
  blk_point [ht]

end Cert.DaIdeal.Out

namespace Cert.Proof

open Idealize.ShloMosaic Idealize.SL.Sem

/-- The differential attention's claim. -/
theorem alg_da : Cert.algebraic_DaIdeal_DaRefIdeal (hDaIdeal := Cert.DaIdeal.Gen.facts) (hDaRefIdeal := Cert.DaRefIdeal.Gen.facts)
    (hPre_causal_and_finite := Cert.Pre_causal_and_finite.Gen.facts) := by
  intro m g m' g' hpre hagree
  have hp := Cert.DaIdeal.pinned_of_pre m hpre
  refine ⟨fun c => (Cert.DaIdeal.Gen.dats 0 m g 0 c).arrAt 5 (Cert.DaIdeal.Gen.cfgA 0).N, ?_, ?_⟩
  · refine (θ_run _ _ _).mono (fun r h c => ⟨(h.1 c).1 (5 : Fin 6), h.2 c⟩)
      (θ_run_and (Cert.DaIdeal.Gen.run_main 0 m g hp) (Cert.DaIdeal.Gen.unchanged 0 m g hp))
  · refine (θ_run _ _ _).mono (fun r h c => ⟨(h c).1.trans ((Cert.DaRefIdeal.Read.val_main_v67_eq ..).trans ?_), (h c).2⟩)
      (Cert.DaRefIdeal.Value.run m' g')
    obtain ⟨a0, a1, a2, a3, a4, a5, a6⟩ := hagree c
    rw [a2, a3, a4, a5, a6]
    obtain ⟨q, k, v, l, hq, hk, hv, hl⟩ := Cert.DaIdeal.reals_of_pre m hpre c
    exact (Cert.DaIdeal.Out.final m g c q k v l hq hk hv hl).symm

end Cert.Proof

end
-- ==== Proof.DsSlots.lean ====
/- What one grid point of the sparse attention kernel leaves in each head's slot of its two scratch buffers. -/
module

public import proofs.«01_k».proof.Proof.Gen.DsIdeal.Flash.Runs
public import Idealize.ShloMosaic.Lib.VecWindow
public import Idealize.ShloMosaic.Lib.WritesUnit
public import Idealize.ShloMosaic.Lib.Pipeline.ValueKit.Geometry
public import Idealize.ShloMosaic.Lib.Pointwise

@[expose] public section

set_option maxRecDepth 16384

noncomputable section

open Idealize.ShloMosaic Idealize.ShloMosaic.TcCoe Idealize.SL.Sem
open Cert.DsIdeal Cert.DsIdeal.Gen

namespace Cert.DsIdeal.Slots

/-- Read a slot the newest piece wrote. -/
theorem hit {Val : EltTy → Type} [∀ e, Nonempty (Val e)] {κ : Kind} {sp : Space} {A B : ℕ} {e : EltTy}
    (v : View sig κ sp (⟨3, ![8, A, B]⟩ : Shape) e) (f : v.ty.Contents Val) (s : Fin 8) (n : ℕ)
    (inb : ∀ a, (![n, 0, 0] : Fin 3 → ℕ) a + (⟨3, ![1, A, B]⟩ : Shape).size a ≤ (⟨3, ![8, A, B]⟩ : Shape).size a)
    (w : (⟨3, ![1, A, B]⟩ : Shape).Idx → Val e) (L) (a : Fin A) (b : Fin B) (h : s.val = n) :
    v.read Val (v.writes Val f ((⟨Rect.unit (s := (⟨3, ![8, A, B]⟩ : Shape)) ![n, 0, 0] (⟨3, ![1, A, B]⟩ : Shape).size inb, w⟩ : View.Piece Val _ e) :: L)) (ix3 s a b)
      = w (ix3 0 a b) :=
  View.read_writes_cons_unit_of_mem v f inb w L (ix3 s a b) (ix3 0 a b) rfl fun x => by
    fin_cases x
    · exact h
    · exact (Nat.zero_add _).symm
    · exact (Nat.zero_add _).symm

/-- Read a slot the newest piece left alone. -/
theorem miss {Val : EltTy → Type} [∀ e, Nonempty (Val e)] {κ : Kind} {sp : Space} {A B : ℕ} {e : EltTy}
    (v : View sig κ sp (⟨3, ![8, A, B]⟩ : Shape) e) (f : v.ty.Contents Val) (s : Fin 8) (n : ℕ)
    (inb : ∀ a, (![n, 0, 0] : Fin 3 → ℕ) a + (⟨3, ![1, A, B]⟩ : Shape).size a ≤ (⟨3, ![8, A, B]⟩ : Shape).size a)
    (w : (⟨3, ![1, A, B]⟩ : Shape).Idx → Val e) (L) (a : Fin A) (b : Fin B) (h : s.val ≠ n) :
    v.read Val (v.writes Val f ((⟨Rect.unit (s := (⟨3, ![8, A, B]⟩ : Shape)) ![n, 0, 0] (⟨3, ![1, A, B]⟩ : Shape).size inb, w⟩ : View.Piece Val _ e) :: L)) (ix3 s a b)
      = v.read Val (v.writes Val f L) (ix3 s a b) :=
  View.read_writes_cons_unit_of_not_mem v f inb w L (ix3 s a b) rfl 0 (by
    show s.val < n ∨ n + 1 ≤ s.val
    omega)

/-- The columns of one head of a block of queries or keys, and its rows of a block of values, as the body loads them. -/
abbrev cols (h : Fin 8) (v : Memref sig .tc .vmem S1024x1024 .bf16) (x : S1024x1024.Idx → Elt Ideal .bf16) : Vec Ideal S1024x128 .bf16 :=
  View.readAt (Elt Ideal) v.view (Rect.unit (s := S1024x1024) ![0, h.val * 128] S1024x128.size (by
    intro a; fin_cases a
    · exact Nat.le_refl _
    · show h.val * 128 + 128 ≤ 1024; omega)).toLoadRect (v.view.rep x)
abbrev rows (h : Fin 8) (v : Memref sig .tc .vmem S1024x1024 .bf16) (x : S1024x1024.Idx → Elt Ideal .bf16) : Vec Ideal S128x1024 .bf16 :=
  View.readAt (Elt Ideal) v.view (Rect.unit (s := S1024x1024) ![h.val * 128, 0] S128x1024.size (by
    intro a; fin_cases a
    · show h.val * 128 + 128 ≤ 1024; omega
    · exact Nat.le_refl _)).toLoadRect (v.view.rep x)

/-- One slot lies in its buffer. -/
theorem slot_inb {A B : ℕ} (n : ℕ) (h : n < 8) :
    ∀ a, (![n, 0, 0] : Fin 3 → ℕ) a + (⟨3, ![1, A, B]⟩ : Shape).size a ≤ (⟨3, ![8, A, B]⟩ : Shape).size a := by
  intro a
  fin_cases a
  · exact h
  · exact (Nat.zero_add _).le
  · exact (Nat.zero_add _).le

/-- The first `n` slots written in order, newest first, after the pieces `L`. -/
def upTo {Val : EltTy → Type} {A B : ℕ} {e : EltTy} (w : Fin 8 → (⟨3, ![1, A, B]⟩ : Shape).Idx → Val e) (L : List (View.Piece Val (⟨3, ![8, A, B]⟩ : Shape) e)) :
    (n : ℕ) → n ≤ 8 → List (View.Piece Val (⟨3, ![8, A, B]⟩ : Shape) e)
  | 0, _ => L
  | n + 1, h => ⟨Rect.unit (s := (⟨3, ![8, A, B]⟩ : Shape)) ![n, 0, 0] (⟨3, ![1, A, B]⟩ : Shape).size (slot_inb n h), w ⟨n, h⟩⟩ :: upTo w L n (Nat.le_of_succ_le h)

theorem read_upTo_of_lt {Val : EltTy → Type} [∀ e, Nonempty (Val e)] {κ : Kind} {sp : Space} {A B : ℕ} {e : EltTy}
    (v : View sig κ sp (⟨3, ![8, A, B]⟩ : Shape) e) (f : v.ty.Contents Val) (w : Fin 8 → (⟨3, ![1, A, B]⟩ : Shape).Idx → Val e) (L)
    (n : ℕ) (h : n ≤ 8) (s : Fin 8) (hs : s.val < n) (a : Fin A) (b : Fin B) :
    v.read Val (v.writes Val f (upTo w L n h)) (ix3 s a b) = w s (ix3 0 a b) := by
  induction n with
  | zero => exact absurd hs (Nat.not_lt_zero _)
  | succ n ih =>
    rcases Nat.lt_or_ge s.val n with hl | hg
    · exact (miss v f s n _ _ _ a b (by omega)).trans (ih _ hl)
    · have e : s.val = n := by omega
      subst e
      exact hit v f s s.val _ _ _ a b rfl

theorem read_upTo_of_ge {Val : EltTy → Type} [∀ e, Nonempty (Val e)] {κ : Kind} {sp : Space} {A B : ℕ} {e : EltTy}
    (v : View sig κ sp (⟨3, ![8, A, B]⟩ : Shape) e) (f : v.ty.Contents Val) (w : Fin 8 → (⟨3, ![1, A, B]⟩ : Shape).Idx → Val e) (L)
    (n : ℕ) (h : n ≤ 8) (s : Fin 8) (hs : n ≤ s.val) (a : Fin A) (b : Fin B) :
    v.read Val (v.writes Val f (upTo w L n h)) (ix3 s a b) = v.read Val (v.writes Val f L) (ix3 s a b) := by
  induction n with
  | zero => rfl
  | succ n ih => exact (miss v f s n _ _ _ a b (by omega)).trans (ih _ (by omega))

/-- A load of one slot. -/
theorem slot_load {Val : EltTy → Type} [∀ e, Nonempty (Val e)] {κ : Kind} {sp : Space} {A B : ℕ} {e : EltTy}
    (v : View sig κ sp (⟨3, ![8, A, B]⟩ : Shape) e) (f : v.ty.Contents Val) (s : Fin 8) (inb) (a : Fin A) (b : Fin B) :
    View.readAt Val v (Rect.unit (s := (⟨3, ![8, A, B]⟩ : Shape)) ![s.val, 0, 0] (⟨3, ![1, A, B]⟩ : Shape).size inb).toLoadRect f (ix3 0 a b)
      = v.read Val f (ix3 s a b) := by
  rw [View.readAt_unit v f inb rfl inb]
  refine congrArg (v.read Val f) (funext fun x => Fin.ext ((ValueKit.rect_emb_unit_val _ _ _ _ _).trans ?_))
  fin_cases x
  · exact (Nat.add_zero _)
  · exact (Nat.zero_add _)
  · exact (Nat.zero_add _)

/-- One slot of the first scratch, and of the second, as loads. -/
abbrev mAt (c : Dev nD) (f : Buf (Elt Ideal) ((c : Thread nD τ).loc cc0_scratch0)) (s : Fin 8) : Vec Ideal S1x1x1024 .f32 :=
  View.readAt (Elt Ideal) scM0_0.view (Rect.unit (s := S8x1x1024) ![s.val, 0, 0] S1x1x1024.size (slot_inb s.val s.isLt)).toLoadRect f
abbrev aAt (c : Dev nD) (f : Buf (Elt Ideal) ((c : Thread nD τ).loc cc0_scratch1)) (s : Fin 8) : Vec Ideal S1x144x1024 .f32 :=
  View.readAt (Elt Ideal) scM0_1.view (Rect.unit (s := S8x144x1024) ![s.val, 0, 0] S1x144x1024.size (slot_inb s.val s.isLt)).toLoadRect f

/-- A whole block as the body loads it. -/
abbrev full (v : Memref sig .tc .vmem S1024x1024 .bf16) (x : S1024x1024.Idx → Elt Ideal .bf16) : Vec Ideal S1024x1024 .bf16 :=
  View.readAt (Elt Ideal) v.view (Rect.unit (s := S1024x1024) ![0, 0] S1024x1024.size inb_S1024x1024_S1024x1024_0_0).toLoadRect (v.view.rep x)

/-- What one block makes of a head's running maxima and running sums: the block's queries `q`, keys `k`, choice of keys `w`, values `v`. -/
abbrev newM (q k : Vec Ideal S1024x128 .bf16) (w : Vec Ideal S1024x1024 .bf16) (m : Vec Ideal S1x1x1024 .f32) : Vec Ideal S1x1x1024 .f32 :=
  k0_pay3 (k0_pay7 k q w m)
abbrev newA (q k : Vec Ideal S1024x128 .bf16) (w : Vec Ideal S1024x1024 .bf16) (v : Vec Ideal S128x1024 .bf16) (m : Vec Ideal S1x1x1024 .f32)
    (a : Vec Ideal S1x144x1024 .f32) : Vec Ideal S1x144x1024 .f32 :=
  k0_pay8 k q w v m a

section
open kernelRun0_D
set_option maxHeartbeats 1000000
variable (c : Dev nD) (a3 a4 a5 a6 : Memref sig .tc .vmem S1024x1024 .bf16) (x0 x1 x2 x3 : S1024x1024.Idx → Elt Ideal .bf16)
  (f0 : Buf (Elt Ideal) ((c : Thread nD τ).loc cc0_scratch0)) (f1 : Buf (Elt Ideal) ((c : Thread nD τ).loc cc0_scratch1))

abbrev wM_D (s : Fin 8) : S1x1x1024.Idx → Elt Ideal .f32 :=
  newM (cols s a3 x0) (cols s a4 x1) (full a6 x3) (mAt c f0 s)
abbrev wA_D (s : Fin 8) : S1x144x1024.Idx → Elt Ideal .f32 :=
  newA (cols s a3 x0) (cols s a4 x1) (full a6 x3) (rows s a5 x2) (mAt c f0 s) (aAt c f1 s)

theorem listM_D : sl.HS0_8 c a3 a4 a6 x0 x1 x3 f0 = upTo (wM_D c a3 a4 a6 x0 x1 x3 f0) [] 8 le_rfl := by
  unfold sl.HS0_8
  rfl
theorem listA_D : sl.HS1_8 c a3 a4 a5 a6 x0 x1 x2 x3 f0 f1 = upTo (wA_D c a3 a4 a5 a6 x0 x1 x2 x3 f0 f1) [] 8 le_rfl := by
  unfold sl.HS1_8
  rfl
theorem slotM_D (i h3 h4 h5 h6 a7 h7 T0 T1 c0 c1) (s : Fin 8) (y : Fin 1024) :
    scM0_0.view.read (Elt Ideal) (kernelRun0_D c i a3 h3 a4 h4 a5 h5 a6 h6 a7 h7 T0 T1 x0 x1 x2 x3 f0 f1 c0 c1).1 (ix3 s 0 y)
      = wM_D c a3 a4 a6 x0 x1 x3 f0 s (ix3 0 0 y) := by
  unfold kernelRun0_D
  dsimp only
  rw [listM_D]
  exact read_upTo_of_lt _ _ _ _ _ _ _ s.isLt _ _
theorem slotA_D (i h3 h4 h5 h6 a7 h7 T0 T1 c0 c1) (s : Fin 8) (e : Fin 144) (y : Fin 1024) :
    scM0_1.view.read (Elt Ideal) (kernelRun0_D c i a3 h3 a4 h4 a5 h5 a6 h6 a7 h7 T0 T1 x0 x1 x2 x3 f0 f1 c0 c1).2.1 (ix3 s e y)
      = wA_D c a3 a4 a5 a6 x0 x1 x2 x3 f0 f1 s (ix3 0 e y) := by
  unfold kernelRun0_D
  dsimp only
  rw [listA_D]
  exact read_upTo_of_lt _ _ _ _ _ _ _ s.isLt _ _
end

section
open kernelRun0_C
set_option maxHeartbeats 1000000
variable (c : Dev nD) (a3 a4 a5 a6 : Memref sig .tc .vmem S1024x1024 .bf16) (x0 x1 x2 x3 : S1024x1024.Idx → Elt Ideal .bf16)
  (f0 : Buf (Elt Ideal) ((c : Thread nD τ).loc cc0_scratch0)) (f1 : Buf (Elt Ideal) ((c : Thread nD τ).loc cc0_scratch1))

abbrev wM_C (s : Fin 8) : S1x1x1024.Idx → Elt Ideal .f32 :=
  newM (cols s a3 x0) (cols s a4 x1) (full a6 x3) (mAt c f0 s)
abbrev wA_C (s : Fin 8) : S1x144x1024.Idx → Elt Ideal .f32 :=
  newA (cols s a3 x0) (cols s a4 x1) (full a6 x3) (rows s a5 x2) (mAt c f0 s) (aAt c f1 s)

theorem listM_C : sl.HS0_8 c a3 a4 a6 x0 x1 x3 f0 = upTo (wM_C c a3 a4 a6 x0 x1 x3 f0) [] 8 le_rfl := by
  unfold sl.HS0_8
  rfl
theorem listA_C : sl.HS1_8 c a3 a4 a5 a6 x0 x1 x2 x3 f0 f1 = upTo (wA_C c a3 a4 a5 a6 x0 x1 x2 x3 f0 f1) [] 8 le_rfl := by
  unfold sl.HS1_8
  rfl
theorem slotM_C (i h3 h4 h5 h6 a7 h7 T0 T1 c0 c1) (s : Fin 8) (y : Fin 1024) :
    scM0_0.view.read (Elt Ideal) (kernelRun0_C c i a3 h3 a4 h4 a5 h5 a6 h6 a7 h7 T0 T1 x0 x1 x2 x3 f0 f1 c0 c1).2.1 (ix3 s 0 y)
      = wM_C c a3 a4 a6 x0 x1 x3 f0 s (ix3 0 0 y) := by
  unfold kernelRun0_C
  dsimp only
  rw [listM_C]
  exact read_upTo_of_lt _ _ _ _ _ _ _ s.isLt _ _
theorem slotA_C (i h3 h4 h5 h6 a7 h7 T0 T1 c0 c1) (s : Fin 8) (e : Fin 144) (y : Fin 1024) :
    scM0_1.view.read (Elt Ideal) (kernelRun0_C c i a3 h3 a4 h4 a5 h5 a6 h6 a7 h7 T0 T1 x0 x1 x2 x3 f0 f1 c0 c1).2.2.1 (ix3 s e y)
      = wA_C c a3 a4 a5 a6 x0 x1 x2 x3 f0 f1 s (ix3 0 e y) := by
  unfold kernelRun0_C
  dsimp only
  rw [listA_C]
  exact read_upTo_of_lt _ _ _ _ _ _ _ s.isLt _ _
end

/-- What a slot holds before its first block. -/
def mNew : Vec Ideal S1x1x1024 .f32 := fun _ => (Named.named κ "mask" 0xF149F2CA#32 : Ideal .f32)
def aNew : Vec Ideal S1x144x1024 .f32 := fun _ => (Scalar.ofBits .f32 0x00000000#32 : Ideal .f32)
abbrev initM : List (View.Piece (Elt Ideal) S8x1x1024 .f32) := [⟨Rect.unit (s := S8x1x1024) ![0, 0, 0] S8x1x1024.size inb_S8x1x1024_S8x1x1024_0_0_0, k0_pay1 (F := Ideal)⟩]
abbrev initA : List (View.Piece (Elt Ideal) S8x144x1024 .f32) := [⟨Rect.unit (s := S8x144x1024) ![0, 0, 0] S8x144x1024.size inb_S8x144x1024_S8x144x1024_0_0_0, k0_pay2 (F := Ideal)⟩]

theorem fresh {Val : EltTy → Type} [∀ e, Nonempty (Val e)] {κ : Kind} {sp : Space} {A B : ℕ} {e : EltTy}
    (v : View sig κ sp (⟨3, ![8, A, B]⟩ : Shape) e) (w : Fin 8 → (⟨3, ![1, A, B]⟩ : Shape).Idx → Val e)
    (p : (⟨3, ![8, A, B]⟩ : Shape).Idx → Val e) (z : Val e) (hp : ∀ i, p i = z) (inb0) (k : ℕ) (hk : k ≤ 8) (s : Fin 8) (h : k ≤ s.val) (inb) :
    v.readCov (upTo w [⟨Rect.unit (s := (⟨3, ![8, A, B]⟩ : Shape)) ![0, 0, 0] (⟨3, ![8, A, B]⟩ : Shape).size inb0, p⟩] k hk)
      (Rect.unit (s := (⟨3, ![8, A, B]⟩ : Shape)) ![s.val, 0, 0] (⟨3, ![1, A, B]⟩ : Shape).size inb).toLoadRect = fun _ => z := by
  funext y
  obtain ⟨a, b, rfl⟩ : ∃ (a : Fin A) (b : Fin B), y = ix3 (0 : Fin 1) a b := ⟨y 1, y 2, by
    funext x
    fin_cases x
    · exact Subsingleton.elim (α := Fin 1) _ _
    · rfl
    · rfl⟩
  refine (slot_load v _ s inb a b).trans ((read_upTo_of_ge _ _ _ _ _ _ _ h _ _).trans ((?_ : _ = p (ix3 s a b)).trans (hp _)))
  exact View.read_writes_cons_unit_of_mem v v.junk inb0 p [] (ix3 s a b) (ix3 s a b) rfl (fun x => by
    fin_cases x <;> exact (Nat.zero_add _).symm)
theorem freshM (w) (k : ℕ) (hk : k ≤ 8) (s : Fin 8) (h : k ≤ s.val) (inb) :
    scM0_0.view.readCov (Val := Elt Ideal) (upTo w initM k hk) (Rect.unit (s := S8x1x1024) ![s.val, 0, 0] S1x1x1024.size inb).toLoadRect = mNew :=
  fresh scM0_0.view w (k0_pay1 (F := Ideal)) _ (fun _ => rfl) _ k hk s h inb
theorem freshA (w) (k : ℕ) (hk : k ≤ 8) (s : Fin 8) (h : k ≤ s.val) (inb) :
    scM0_1.view.readCov (Val := Elt Ideal) (upTo w initA k hk) (Rect.unit (s := S8x144x1024) ![s.val, 0, 0] S1x144x1024.size inb).toLoadRect = aNew :=
  fresh scM0_1.view w (k0_pay2 (F := Ideal)) _ (fun _ => rfl) _ k hk s h inb

section
open kernelRun0_B
set_option maxHeartbeats 1000000
variable (a3 a4 a5 a6 : Memref sig .tc .vmem S1024x1024 .bf16) (x0 x1 x2 x3 : S1024x1024.Idx → Elt Ideal .bf16)

abbrev wM_B (s : Fin 8) : S1x1x1024.Idx → Elt Ideal .f32 :=
  newM (cols s a3 x0) (cols s a4 x1) (full a6 x3) mNew
abbrev wA_B (s : Fin 8) : S1x144x1024.Idx → Elt Ideal .f32 :=
  newA (cols s a3 x0) (cols s a4 x1) (full a6 x3) (rows s a5 x2) mNew aNew

include a3 a4 a5 a6 x0 x1 x2 x3
theorem listM_B_0 : kernelRun0_B.sl.HS0_1 = upTo (wM_B a3 a4 a6 x0 x1 x3) initM 0 (Nat.zero_le _) := by
  unfold kernelRun0_B.sl.HS0_1
  rfl
theorem listA_B_0 : kernelRun0_B.sl.HS1_1 = upTo (wA_B a3 a4 a5 a6 x0 x1 x2 x3) initA 0 (Nat.zero_le _) := by
  unfold kernelRun0_B.sl.HS1_1
  rfl
theorem loadM_B_0 : kernelRun0_B.sl.v28 = mNew := by
  unfold kernelRun0_B.sl.v28
  rw [listM_B_0 a3 a4 a5 a6 x0 x1 x2 x3]
  exact freshM _ 0 _ ⟨0, by decide⟩ (Nat.le_refl _) _
theorem listM_B_1 : kernelRun0_B.sl.HS0_2 a3 a4 a6 x0 x1 x3 = upTo (wM_B a3 a4 a6 x0 x1 x3) initM 1 (by decide) := by
  have e : k0_pay3 (kernelRun0_B.sl.r_2 a3 a4 a6 x0 x1 x3) = wM_B a3 a4 a6 x0 x1 x3 ⟨0, by decide⟩ := by
    unfold wM_B
    rw [← loadM_B_0 a3 a4 a5 a6 x0 x1 x2 x3]
    rfl
  unfold kernelRun0_B.sl.HS0_2
  rw [e, listM_B_0 a3 a4 a5 a6 x0 x1 x2 x3]
  rfl
theorem loadA_B_0 : kernelRun0_B.sl.v40 = aNew := by
  unfold kernelRun0_B.sl.v40
  rw [listA_B_0 a3 a4 a5 a6 x0 x1 x2 x3]
  exact freshA _ 0 _ ⟨0, by decide⟩ (Nat.le_refl _) _
theorem listA_B_1 : kernelRun0_B.sl.HS1_2 a3 a4 a5 a6 x0 x1 x2 x3 = upTo (wA_B a3 a4 a5 a6 x0 x1 x2 x3) initA 1 (by decide) := by
  have e : k0_pay8 (kernelRun0_B.sl.v14 a4 x1) (kernelRun0_B.sl.v16 a3 x0) (full a6 x3) (kernelRun0_B.sl.v24 a5 x2) (kernelRun0_B.sl.v28) (kernelRun0_B.sl.v40) = wA_B a3 a4 a5 a6 x0 x1 x2 x3 ⟨0, by decide⟩ := by
    unfold wA_B
    rw [← loadM_B_0 a3 a4 a5 a6 x0 x1 x2 x3, ← loadA_B_0 a3 a4 a5 a6 x0 x1 x2 x3]
    rfl
  unfold kernelRun0_B.sl.HS1_2
  rw [e, listA_B_0 a3 a4 a5 a6 x0 x1 x2 x3]
  rfl
theorem loadM_B_1 : kernelRun0_B.sl.v28_1 a3 a4 a6 x0 x1 x3 = mNew := by
  unfold kernelRun0_B.sl.v28_1
  rw [listM_B_1 a3 a4 a5 a6 x0 x1 x2 x3]
  exact freshM _ 1 _ ⟨1, by decide⟩ (Nat.le_refl _) _
theorem listM_B_2 : kernelRun0_B.sl.HS0_3 a3 a4 a6 x0 x1 x3 = upTo (wM_B a3 a4 a6 x0 x1 x3) initM 2 (by decide) := by
  have e : k0_pay3 (kernelRun0_B.sl.r_3 a3 a4 a6 x0 x1 x3) = wM_B a3 a4 a6 x0 x1 x3 ⟨1, by decide⟩ := by
    unfold wM_B
    rw [← loadM_B_1 a3 a4 a5 a6 x0 x1 x2 x3]
    rfl
  unfold kernelRun0_B.sl.HS0_3
  rw [e, listM_B_1 a3 a4 a5 a6 x0 x1 x2 x3]
  rfl
theorem loadA_B_1 : kernelRun0_B.sl.v40_1 a3 a4 a5 a6 x0 x1 x2 x3 = aNew := by
  unfold kernelRun0_B.sl.v40_1
  rw [listA_B_1 a3 a4 a5 a6 x0 x1 x2 x3]
  exact freshA _ 1 _ ⟨1, by decide⟩ (Nat.le_refl _) _
theorem listA_B_2 : kernelRun0_B.sl.HS1_3 a3 a4 a5 a6 x0 x1 x2 x3 = upTo (wA_B a3 a4 a5 a6 x0 x1 x2 x3) initA 2 (by decide) := by
  have e : k0_pay8 (kernelRun0_B.sl.v14_1 a4 x1) (kernelRun0_B.sl.v16_1 a3 x0) (full a6 x3) (kernelRun0_B.sl.v24_1 a5 x2) (kernelRun0_B.sl.v28_1 a3 a4 a6 x0 x1 x3) (kernelRun0_B.sl.v40_1 a3 a4 a5 a6 x0 x1 x2 x3) = wA_B a3 a4 a5 a6 x0 x1 x2 x3 ⟨1, by decide⟩ := by
    unfold wA_B
    rw [← loadM_B_1 a3 a4 a5 a6 x0 x1 x2 x3, ← loadA_B_1 a3 a4 a5 a6 x0 x1 x2 x3]
    rfl
  unfold kernelRun0_B.sl.HS1_3
  rw [e, listA_B_1 a3 a4 a5 a6 x0 x1 x2 x3]
  rfl
theorem loadM_B_2 : kernelRun0_B.sl.v28_2 a3 a4 a6 x0 x1 x3 = mNew := by
  unfold kernelRun0_B.sl.v28_2
  rw [listM_B_2 a3 a4 a5 a6 x0 x1 x2 x3]
  exact freshM _ 2 _ ⟨2, by decide⟩ (Nat.le_refl _) _
theorem listM_B_3 : kernelRun0_B.sl.HS0_4 a3 a4 a6 x0 x1 x3 = upTo (wM_B a3 a4 a6 x0 x1 x3) initM 3 (by decide) := by
  have e : k0_pay3 (kernelRun0_B.sl.r_4 a3 a4 a6 x0 x1 x3) = wM_B a3 a4 a6 x0 x1 x3 ⟨2, by decide⟩ := by
    unfold wM_B
    rw [← loadM_B_2 a3 a4 a5 a6 x0 x1 x2 x3]
    rfl
  unfold kernelRun0_B.sl.HS0_4
  rw [e, listM_B_2 a3 a4 a5 a6 x0 x1 x2 x3]
  rfl
theorem loadA_B_2 : kernelRun0_B.sl.v40_2 a3 a4 a5 a6 x0 x1 x2 x3 = aNew := by
  unfold kernelRun0_B.sl.v40_2
  rw [listA_B_2 a3 a4 a5 a6 x0 x1 x2 x3]
  exact freshA _ 2 _ ⟨2, by decide⟩ (Nat.le_refl _) _
theorem listA_B_3 : kernelRun0_B.sl.HS1_4 a3 a4 a5 a6 x0 x1 x2 x3 = upTo (wA_B a3 a4 a5 a6 x0 x1 x2 x3) initA 3 (by decide) := by
  have e : k0_pay8 (kernelRun0_B.sl.v14_2 a4 x1) (kernelRun0_B.sl.v16_2 a3 x0) (full a6 x3) (kernelRun0_B.sl.v24_2 a5 x2) (kernelRun0_B.sl.v28_2 a3 a4 a6 x0 x1 x3) (kernelRun0_B.sl.v40_2 a3 a4 a5 a6 x0 x1 x2 x3) = wA_B a3 a4 a5 a6 x0 x1 x2 x3 ⟨2, by decide⟩ := by
    unfold wA_B
    rw [← loadM_B_2 a3 a4 a5 a6 x0 x1 x2 x3, ← loadA_B_2 a3 a4 a5 a6 x0 x1 x2 x3]
    rfl
  unfold kernelRun0_B.sl.HS1_4
  rw [e, listA_B_2 a3 a4 a5 a6 x0 x1 x2 x3]
  rfl
theorem loadM_B_3 : kernelRun0_B.sl.v28_3 a3 a4 a6 x0 x1 x3 = mNew := by
  unfold kernelRun0_B.sl.v28_3
  rw [listM_B_3 a3 a4 a5 a6 x0 x1 x2 x3]
  exact freshM _ 3 _ ⟨3, by decide⟩ (Nat.le_refl _) _
theorem listM_B_4 : kernelRun0_B.sl.HS0_5 a3 a4 a6 x0 x1 x3 = upTo (wM_B a3 a4 a6 x0 x1 x3) initM 4 (by decide) := by
  have e : k0_pay3 (kernelRun0_B.sl.r_5 a3 a4 a6 x0 x1 x3) = wM_B a3 a4 a6 x0 x1 x3 ⟨3, by decide⟩ := by
    unfold wM_B
    rw [← loadM_B_3 a3 a4 a5 a6 x0 x1 x2 x3]
    rfl
  unfold kernelRun0_B.sl.HS0_5
  rw [e, listM_B_3 a3 a4 a5 a6 x0 x1 x2 x3]
  rfl
theorem loadA_B_3 : kernelRun0_B.sl.v40_3 a3 a4 a5 a6 x0 x1 x2 x3 = aNew := by
  unfold kernelRun0_B.sl.v40_3
  rw [listA_B_3 a3 a4 a5 a6 x0 x1 x2 x3]
  exact freshA _ 3 _ ⟨3, by decide⟩ (Nat.le_refl _) _
theorem listA_B_4 : kernelRun0_B.sl.HS1_5 a3 a4 a5 a6 x0 x1 x2 x3 = upTo (wA_B a3 a4 a5 a6 x0 x1 x2 x3) initA 4 (by decide) := by
  have e : k0_pay8 (kernelRun0_B.sl.v14_3 a4 x1) (kernelRun0_B.sl.v16_3 a3 x0) (full a6 x3) (kernelRun0_B.sl.v24_3 a5 x2) (kernelRun0_B.sl.v28_3 a3 a4 a6 x0 x1 x3) (kernelRun0_B.sl.v40_3 a3 a4 a5 a6 x0 x1 x2 x3) = wA_B a3 a4 a5 a6 x0 x1 x2 x3 ⟨3, by decide⟩ := by
    unfold wA_B
    rw [← loadM_B_3 a3 a4 a5 a6 x0 x1 x2 x3, ← loadA_B_3 a3 a4 a5 a6 x0 x1 x2 x3]
    rfl
  unfold kernelRun0_B.sl.HS1_5
  rw [e, listA_B_3 a3 a4 a5 a6 x0 x1 x2 x3]
  rfl
theorem loadM_B_4 : kernelRun0_B.sl.v28_4 a3 a4 a6 x0 x1 x3 = mNew := by
  unfold kernelRun0_B.sl.v28_4
  rw [listM_B_4 a3 a4 a5 a6 x0 x1 x2 x3]
  exact freshM _ 4 _ ⟨4, by decide⟩ (Nat.le_refl _) _
theorem listM_B_5 : kernelRun0_B.sl.HS0_6 a3 a4 a6 x0 x1 x3 = upTo (wM_B a3 a4 a6 x0 x1 x3) initM 5 (by decide) := by
  have e : k0_pay3 (kernelRun0_B.sl.r_6 a3 a4 a6 x0 x1 x3) = wM_B a3 a4 a6 x0 x1 x3 ⟨4, by decide⟩ := by
    unfold wM_B
    rw [← loadM_B_4 a3 a4 a5 a6 x0 x1 x2 x3]
    rfl
  unfold kernelRun0_B.sl.HS0_6
  rw [e, listM_B_4 a3 a4 a5 a6 x0 x1 x2 x3]
  rfl
theorem loadA_B_4 : kernelRun0_B.sl.v40_4 a3 a4 a5 a6 x0 x1 x2 x3 = aNew := by
  unfold kernelRun0_B.sl.v40_4
  rw [listA_B_4 a3 a4 a5 a6 x0 x1 x2 x3]
  exact freshA _ 4 _ ⟨4, by decide⟩ (Nat.le_refl _) _
theorem listA_B_5 : kernelRun0_B.sl.HS1_6 a3 a4 a5 a6 x0 x1 x2 x3 = upTo (wA_B a3 a4 a5 a6 x0 x1 x2 x3) initA 5 (by decide) := by
  have e : k0_pay8 (kernelRun0_B.sl.v14_4 a4 x1) (kernelRun0_B.sl.v16_4 a3 x0) (full a6 x3) (kernelRun0_B.sl.v24_4 a5 x2) (kernelRun0_B.sl.v28_4 a3 a4 a6 x0 x1 x3) (kernelRun0_B.sl.v40_4 a3 a4 a5 a6 x0 x1 x2 x3) = wA_B a3 a4 a5 a6 x0 x1 x2 x3 ⟨4, by decide⟩ := by
    unfold wA_B
    rw [← loadM_B_4 a3 a4 a5 a6 x0 x1 x2 x3, ← loadA_B_4 a3 a4 a5 a6 x0 x1 x2 x3]
    rfl
  unfold kernelRun0_B.sl.HS1_6
  rw [e, listA_B_4 a3 a4 a5 a6 x0 x1 x2 x3]
  rfl
theorem loadM_B_5 : kernelRun0_B.sl.v28_5 a3 a4 a6 x0 x1 x3 = mNew := by
  unfold kernelRun0_B.sl.v28_5
  rw [listM_B_5 a3 a4 a5 a6 x0 x1 x2 x3]
  exact freshM _ 5 _ ⟨5, by decide⟩ (Nat.le_refl _) _
theorem listM_B_6 : kernelRun0_B.sl.HS0_7 a3 a4 a6 x0 x1 x3 = upTo (wM_B a3 a4 a6 x0 x1 x3) initM 6 (by decide) := by
  have e : k0_pay3 (kernelRun0_B.sl.r_7 a3 a4 a6 x0 x1 x3) = wM_B a3 a4 a6 x0 x1 x3 ⟨5, by decide⟩ := by
    unfold wM_B
    rw [← loadM_B_5 a3 a4 a5 a6 x0 x1 x2 x3]
    rfl
  unfold kernelRun0_B.sl.HS0_7
  rw [e, listM_B_5 a3 a4 a5 a6 x0 x1 x2 x3]
  rfl
theorem loadA_B_5 : kernelRun0_B.sl.v40_5 a3 a4 a5 a6 x0 x1 x2 x3 = aNew := by
  unfold kernelRun0_B.sl.v40_5
  rw [listA_B_5 a3 a4 a5 a6 x0 x1 x2 x3]
  exact freshA _ 5 _ ⟨5, by decide⟩ (Nat.le_refl _) _
theorem listA_B_6 : kernelRun0_B.sl.HS1_7 a3 a4 a5 a6 x0 x1 x2 x3 = upTo (wA_B a3 a4 a5 a6 x0 x1 x2 x3) initA 6 (by decide) := by
  have e : k0_pay8 (kernelRun0_B.sl.v14_5 a4 x1) (kernelRun0_B.sl.v16_5 a3 x0) (full a6 x3) (kernelRun0_B.sl.v24_5 a5 x2) (kernelRun0_B.sl.v28_5 a3 a4 a6 x0 x1 x3) (kernelRun0_B.sl.v40_5 a3 a4 a5 a6 x0 x1 x2 x3) = wA_B a3 a4 a5 a6 x0 x1 x2 x3 ⟨5, by decide⟩ := by
    unfold wA_B
    rw [← loadM_B_5 a3 a4 a5 a6 x0 x1 x2 x3, ← loadA_B_5 a3 a4 a5 a6 x0 x1 x2 x3]
    rfl
  unfold kernelRun0_B.sl.HS1_7
  rw [e, listA_B_5 a3 a4 a5 a6 x0 x1 x2 x3]
  rfl
theorem loadM_B_6 : kernelRun0_B.sl.v28_6 a3 a4 a6 x0 x1 x3 = mNew := by
  unfold kernelRun0_B.sl.v28_6
  rw [listM_B_6 a3 a4 a5 a6 x0 x1 x2 x3]
  exact freshM _ 6 _ ⟨6, by decide⟩ (Nat.le_refl _) _
theorem listM_B_7 : kernelRun0_B.sl.HS0_8 a3 a4 a6 x0 x1 x3 = upTo (wM_B a3 a4 a6 x0 x1 x3) initM 7 (by decide) := by
  have e : k0_pay3 (kernelRun0_B.sl.r_8 a3 a4 a6 x0 x1 x3) = wM_B a3 a4 a6 x0 x1 x3 ⟨6, by decide⟩ := by
    unfold wM_B
    rw [← loadM_B_6 a3 a4 a5 a6 x0 x1 x2 x3]
    rfl
  unfold kernelRun0_B.sl.HS0_8
  rw [e, listM_B_6 a3 a4 a5 a6 x0 x1 x2 x3]
  rfl
theorem loadA_B_6 : kernelRun0_B.sl.v40_6 a3 a4 a5 a6 x0 x1 x2 x3 = aNew := by
  unfold kernelRun0_B.sl.v40_6
  rw [listA_B_6 a3 a4 a5 a6 x0 x1 x2 x3]
  exact freshA _ 6 _ ⟨6, by decide⟩ (Nat.le_refl _) _
theorem listA_B_7 : kernelRun0_B.sl.HS1_8 a3 a4 a5 a6 x0 x1 x2 x3 = upTo (wA_B a3 a4 a5 a6 x0 x1 x2 x3) initA 7 (by decide) := by
  have e : k0_pay8 (kernelRun0_B.sl.v14_6 a4 x1) (kernelRun0_B.sl.v16_6 a3 x0) (full a6 x3) (kernelRun0_B.sl.v24_6 a5 x2) (kernelRun0_B.sl.v28_6 a3 a4 a6 x0 x1 x3) (kernelRun0_B.sl.v40_6 a3 a4 a5 a6 x0 x1 x2 x3) = wA_B a3 a4 a5 a6 x0 x1 x2 x3 ⟨6, by decide⟩ := by
    unfold wA_B
    rw [← loadM_B_6 a3 a4 a5 a6 x0 x1 x2 x3, ← loadA_B_6 a3 a4 a5 a6 x0 x1 x2 x3]
    rfl
  unfold kernelRun0_B.sl.HS1_8
  rw [e, listA_B_6 a3 a4 a5 a6 x0 x1 x2 x3]
  rfl
theorem loadM_B_7 : kernelRun0_B.sl.v28_7 a3 a4 a6 x0 x1 x3 = mNew := by
  unfold kernelRun0_B.sl.v28_7
  rw [listM_B_7 a3 a4 a5 a6 x0 x1 x2 x3]
  exact freshM _ 7 _ ⟨7, by decide⟩ (Nat.le_refl _) _
theorem listM_B_8 : kernelRun0_B.sl.HS0_9 a3 a4 a6 x0 x1 x3 = upTo (wM_B a3 a4 a6 x0 x1 x3) initM 8 (by decide) := by
  have e : k0_pay3 (kernelRun0_B.sl.r_9 a3 a4 a6 x0 x1 x3) = wM_B a3 a4 a6 x0 x1 x3 ⟨7, by decide⟩ := by
    unfold wM_B
    rw [← loadM_B_7 a3 a4 a5 a6 x0 x1 x2 x3]
    rfl
  unfold kernelRun0_B.sl.HS0_9
  rw [e, listM_B_7 a3 a4 a5 a6 x0 x1 x2 x3]
  rfl
theorem loadA_B_7 : kernelRun0_B.sl.v40_7 a3 a4 a5 a6 x0 x1 x2 x3 = aNew := by
  unfold kernelRun0_B.sl.v40_7
  rw [listA_B_7 a3 a4 a5 a6 x0 x1 x2 x3]
  exact freshA _ 7 _ ⟨7, by decide⟩ (Nat.le_refl _) _
theorem listA_B_8 : kernelRun0_B.sl.HS1_9 a3 a4 a5 a6 x0 x1 x2 x3 = upTo (wA_B a3 a4 a5 a6 x0 x1 x2 x3) initA 8 (by decide) := by
  have e : k0_pay8 (kernelRun0_B.sl.v14_7 a4 x1) (kernelRun0_B.sl.v16_7 a3 x0) (full a6 x3) (kernelRun0_B.sl.v24_7 a5 x2) (kernelRun0_B.sl.v28_7 a3 a4 a6 x0 x1 x3) (kernelRun0_B.sl.v40_7 a3 a4 a5 a6 x0 x1 x2 x3) = wA_B a3 a4 a5 a6 x0 x1 x2 x3 ⟨7, by decide⟩ := by
    unfold wA_B
    rw [← loadM_B_7 a3 a4 a5 a6 x0 x1 x2 x3, ← loadA_B_7 a3 a4 a5 a6 x0 x1 x2 x3]
    rfl
  unfold kernelRun0_B.sl.HS1_9
  rw [e, listA_B_7 a3 a4 a5 a6 x0 x1 x2 x3]
  rfl
theorem slotM_B (c : Dev nD) (i h3 h4 h5 h6 a7 h7 T0 T1 c0 c1) (s : Fin 8) (y : Fin 1024) :
    scM0_0.view.read (Elt Ideal) (kernelRun0_B c i a3 h3 a4 h4 a5 h5 a6 h6 a7 h7 T0 T1 x0 x1 x2 x3 c0 c1).1 (ix3 s 0 y)
      = wM_B a3 a4 a6 x0 x1 x3 s (ix3 0 0 y) := by
  unfold kernelRun0_B
  dsimp only
  rw [listM_B_8 a3 a4 a5 a6 x0 x1 x2 x3]
  exact read_upTo_of_lt _ _ _ _ _ _ _ s.isLt _ _
theorem slotA_B (c : Dev nD) (i h3 h4 h5 h6 a7 h7 T0 T1 c0 c1) (s : Fin 8) (e : Fin 144) (y : Fin 1024) :
    scM0_1.view.read (Elt Ideal) (kernelRun0_B c i a3 h3 a4 h4 a5 h5 a6 h6 a7 h7 T0 T1 x0 x1 x2 x3 c0 c1).2.1 (ix3 s e y)
      = wA_B a3 a4 a5 a6 x0 x1 x2 x3 s (ix3 0 e y) := by
  unfold kernelRun0_B
  dsimp only
  rw [listA_B_8]
  exact read_upTo_of_lt _ _ _ _ _ _ _ s.isLt _ _
end

section
open kernelRun0_A
set_option maxHeartbeats 1000000
variable (a3 a4 a5 a6 : Memref sig .tc .vmem S1024x1024 .bf16) (x0 x1 x2 x3 : S1024x1024.Idx → Elt Ideal .bf16)

abbrev wM_A (s : Fin 8) : S1x1x1024.Idx → Elt Ideal .f32 :=
  newM (cols s a3 x0) (cols s a4 x1) (full a6 x3) mNew
abbrev wA_A (s : Fin 8) : S1x144x1024.Idx → Elt Ideal .f32 :=
  newA (cols s a3 x0) (cols s a4 x1) (full a6 x3) (rows s a5 x2) mNew aNew

include a3 a4 a5 a6 x0 x1 x2 x3
theorem listM_A_0 : kernelRun0_A.sl.HS0_1 = upTo (wM_A a3 a4 a6 x0 x1 x3) initM 0 (Nat.zero_le _) := by
  unfold kernelRun0_A.sl.HS0_1
  rfl
theorem listA_A_0 : kernelRun0_A.sl.HS1_1 = upTo (wA_A a3 a4 a5 a6 x0 x1 x2 x3) initA 0 (Nat.zero_le _) := by
  unfold kernelRun0_A.sl.HS1_1
  rfl
theorem loadM_A_0 : kernelRun0_A.sl.v28 = mNew := by
  unfold kernelRun0_A.sl.v28
  rw [listM_A_0 a3 a4 a5 a6 x0 x1 x2 x3]
  exact freshM _ 0 _ ⟨0, by decide⟩ (Nat.le_refl _) _
theorem listM_A_1 : kernelRun0_A.sl.HS0_2 a3 a4 a6 x0 x1 x3 = upTo (wM_A a3 a4 a6 x0 x1 x3) initM 1 (by decide) := by
  have e : k0_pay3 (kernelRun0_A.sl.r_2 a3 a4 a6 x0 x1 x3) = wM_A a3 a4 a6 x0 x1 x3 ⟨0, by decide⟩ := by
    unfold wM_A
    rw [← loadM_A_0 a3 a4 a5 a6 x0 x1 x2 x3]
    rfl
  unfold kernelRun0_A.sl.HS0_2
  rw [e, listM_A_0 a3 a4 a5 a6 x0 x1 x2 x3]
  rfl
theorem loadA_A_0 : kernelRun0_A.sl.v40 = aNew := by
  unfold kernelRun0_A.sl.v40
  rw [listA_A_0 a3 a4 a5 a6 x0 x1 x2 x3]
  exact freshA _ 0 _ ⟨0, by decide⟩ (Nat.le_refl _) _
theorem listA_A_1 : kernelRun0_A.sl.HS1_2 a3 a4 a5 a6 x0 x1 x2 x3 = upTo (wA_A a3 a4 a5 a6 x0 x1 x2 x3) initA 1 (by decide) := by
  have e : k0_pay8 (kernelRun0_A.sl.v14 a4 x1) (kernelRun0_A.sl.v16 a3 x0) (full a6 x3) (kernelRun0_A.sl.v24 a5 x2) (kernelRun0_A.sl.v28) (kernelRun0_A.sl.v40) = wA_A a3 a4 a5 a6 x0 x1 x2 x3 ⟨0, by decide⟩ := by
    unfold wA_A
    rw [← loadM_A_0 a3 a4 a5 a6 x0 x1 x2 x3, ← loadA_A_0 a3 a4 a5 a6 x0 x1 x2 x3]
    rfl
  unfold kernelRun0_A.sl.HS1_2
  rw [e, listA_A_0 a3 a4 a5 a6 x0 x1 x2 x3]
  rfl
theorem loadM_A_1 : kernelRun0_A.sl.v28_1 a3 a4 a6 x0 x1 x3 = mNew := by
  unfold kernelRun0_A.sl.v28_1
  rw [listM_A_1 a3 a4 a5 a6 x0 x1 x2 x3]
  exact freshM _ 1 _ ⟨1, by decide⟩ (Nat.le_refl _) _
theorem listM_A_2 : kernelRun0_A.sl.HS0_3 a3 a4 a6 x0 x1 x3 = upTo (wM_A a3 a4 a6 x0 x1 x3) initM 2 (by decide) := by
  have e : k0_pay3 (kernelRun0_A.sl.r_3 a3 a4 a6 x0 x1 x3) = wM_A a3 a4 a6 x0 x1 x3 ⟨1, by decide⟩ := by
    unfold wM_A
    rw [← loadM_A_1 a3 a4 a5 a6 x0 x1 x2 x3]
    rfl
  unfold kernelRun0_A.sl.HS0_3
  rw [e, listM_A_1 a3 a4 a5 a6 x0 x1 x2 x3]
  rfl
theorem loadA_A_1 : kernelRun0_A.sl.v40_1 a3 a4 a5 a6 x0 x1 x2 x3 = aNew := by
  unfold kernelRun0_A.sl.v40_1
  rw [listA_A_1 a3 a4 a5 a6 x0 x1 x2 x3]
  exact freshA _ 1 _ ⟨1, by decide⟩ (Nat.le_refl _) _
theorem listA_A_2 : kernelRun0_A.sl.HS1_3 a3 a4 a5 a6 x0 x1 x2 x3 = upTo (wA_A a3 a4 a5 a6 x0 x1 x2 x3) initA 2 (by decide) := by
  have e : k0_pay8 (kernelRun0_A.sl.v14_1 a4 x1) (kernelRun0_A.sl.v16_1 a3 x0) (full a6 x3) (kernelRun0_A.sl.v24_1 a5 x2) (kernelRun0_A.sl.v28_1 a3 a4 a6 x0 x1 x3) (kernelRun0_A.sl.v40_1 a3 a4 a5 a6 x0 x1 x2 x3) = wA_A a3 a4 a5 a6 x0 x1 x2 x3 ⟨1, by decide⟩ := by
    unfold wA_A
    rw [← loadM_A_1 a3 a4 a5 a6 x0 x1 x2 x3, ← loadA_A_1 a3 a4 a5 a6 x0 x1 x2 x3]
    rfl
  unfold kernelRun0_A.sl.HS1_3
  rw [e, listA_A_1 a3 a4 a5 a6 x0 x1 x2 x3]
  rfl
theorem loadM_A_2 : kernelRun0_A.sl.v28_2 a3 a4 a6 x0 x1 x3 = mNew := by
  unfold kernelRun0_A.sl.v28_2
  rw [listM_A_2 a3 a4 a5 a6 x0 x1 x2 x3]
  exact freshM _ 2 _ ⟨2, by decide⟩ (Nat.le_refl _) _
theorem listM_A_3 : kernelRun0_A.sl.HS0_4 a3 a4 a6 x0 x1 x3 = upTo (wM_A a3 a4 a6 x0 x1 x3) initM 3 (by decide) := by
  have e : k0_pay3 (kernelRun0_A.sl.r_4 a3 a4 a6 x0 x1 x3) = wM_A a3 a4 a6 x0 x1 x3 ⟨2, by decide⟩ := by
    unfold wM_A
    rw [← loadM_A_2 a3 a4 a5 a6 x0 x1 x2 x3]
    rfl
  unfold kernelRun0_A.sl.HS0_4
  rw [e, listM_A_2 a3 a4 a5 a6 x0 x1 x2 x3]
  rfl
theorem loadA_A_2 : kernelRun0_A.sl.v40_2 a3 a4 a5 a6 x0 x1 x2 x3 = aNew := by
  unfold kernelRun0_A.sl.v40_2
  rw [listA_A_2 a3 a4 a5 a6 x0 x1 x2 x3]
  exact freshA _ 2 _ ⟨2, by decide⟩ (Nat.le_refl _) _
theorem listA_A_3 : kernelRun0_A.sl.HS1_4 a3 a4 a5 a6 x0 x1 x2 x3 = upTo (wA_A a3 a4 a5 a6 x0 x1 x2 x3) initA 3 (by decide) := by
  have e : k0_pay8 (kernelRun0_A.sl.v14_2 a4 x1) (kernelRun0_A.sl.v16_2 a3 x0) (full a6 x3) (kernelRun0_A.sl.v24_2 a5 x2) (kernelRun0_A.sl.v28_2 a3 a4 a6 x0 x1 x3) (kernelRun0_A.sl.v40_2 a3 a4 a5 a6 x0 x1 x2 x3) = wA_A a3 a4 a5 a6 x0 x1 x2 x3 ⟨2, by decide⟩ := by
    unfold wA_A
    rw [← loadM_A_2 a3 a4 a5 a6 x0 x1 x2 x3, ← loadA_A_2 a3 a4 a5 a6 x0 x1 x2 x3]
    rfl
  unfold kernelRun0_A.sl.HS1_4
  rw [e, listA_A_2 a3 a4 a5 a6 x0 x1 x2 x3]
  rfl
theorem loadM_A_3 : kernelRun0_A.sl.v28_3 a3 a4 a6 x0 x1 x3 = mNew := by
  unfold kernelRun0_A.sl.v28_3
  rw [listM_A_3 a3 a4 a5 a6 x0 x1 x2 x3]
  exact freshM _ 3 _ ⟨3, by decide⟩ (Nat.le_refl _) _
theorem listM_A_4 : kernelRun0_A.sl.HS0_5 a3 a4 a6 x0 x1 x3 = upTo (wM_A a3 a4 a6 x0 x1 x3) initM 4 (by decide) := by
  have e : k0_pay3 (kernelRun0_A.sl.r_5 a3 a4 a6 x0 x1 x3) = wM_A a3 a4 a6 x0 x1 x3 ⟨3, by decide⟩ := by
    unfold wM_A
    rw [← loadM_A_3 a3 a4 a5 a6 x0 x1 x2 x3]
    rfl
  unfold kernelRun0_A.sl.HS0_5
  rw [e, listM_A_3 a3 a4 a5 a6 x0 x1 x2 x3]
  rfl
theorem loadA_A_3 : kernelRun0_A.sl.v40_3 a3 a4 a5 a6 x0 x1 x2 x3 = aNew := by
  unfold kernelRun0_A.sl.v40_3
  rw [listA_A_3 a3 a4 a5 a6 x0 x1 x2 x3]
  exact freshA _ 3 _ ⟨3, by decide⟩ (Nat.le_refl _) _
theorem listA_A_4 : kernelRun0_A.sl.HS1_5 a3 a4 a5 a6 x0 x1 x2 x3 = upTo (wA_A a3 a4 a5 a6 x0 x1 x2 x3) initA 4 (by decide) := by
  have e : k0_pay8 (kernelRun0_A.sl.v14_3 a4 x1) (kernelRun0_A.sl.v16_3 a3 x0) (full a6 x3) (kernelRun0_A.sl.v24_3 a5 x2) (kernelRun0_A.sl.v28_3 a3 a4 a6 x0 x1 x3) (kernelRun0_A.sl.v40_3 a3 a4 a5 a6 x0 x1 x2 x3) = wA_A a3 a4 a5 a6 x0 x1 x2 x3 ⟨3, by decide⟩ := by
    unfold wA_A
    rw [← loadM_A_3 a3 a4 a5 a6 x0 x1 x2 x3, ← loadA_A_3 a3 a4 a5 a6 x0 x1 x2 x3]
    rfl
  unfold kernelRun0_A.sl.HS1_5
  rw [e, listA_A_3 a3 a4 a5 a6 x0 x1 x2 x3]
  rfl
theorem loadM_A_4 : kernelRun0_A.sl.v28_4 a3 a4 a6 x0 x1 x3 = mNew := by
  unfold kernelRun0_A.sl.v28_4
  rw [listM_A_4 a3 a4 a5 a6 x0 x1 x2 x3]
  exact freshM _ 4 _ ⟨4, by decide⟩ (Nat.le_refl _) _
theorem listM_A_5 : kernelRun0_A.sl.HS0_6 a3 a4 a6 x0 x1 x3 = upTo (wM_A a3 a4 a6 x0 x1 x3) initM 5 (by decide) := by
  have e : k0_pay3 (kernelRun0_A.sl.r_6 a3 a4 a6 x0 x1 x3) = wM_A a3 a4 a6 x0 x1 x3 ⟨4, by decide⟩ := by
    unfold wM_A
    rw [← loadM_A_4 a3 a4 a5 a6 x0 x1 x2 x3]
    rfl
  unfold kernelRun0_A.sl.HS0_6
  rw [e, listM_A_4 a3 a4 a5 a6 x0 x1 x2 x3]
  rfl
theorem loadA_A_4 : kernelRun0_A.sl.v40_4 a3 a4 a5 a6 x0 x1 x2 x3 = aNew := by
  unfold kernelRun0_A.sl.v40_4
  rw [listA_A_4 a3 a4 a5 a6 x0 x1 x2 x3]
  exact freshA _ 4 _ ⟨4, by decide⟩ (Nat.le_refl _) _
theorem listA_A_5 : kernelRun0_A.sl.HS1_6 a3 a4 a5 a6 x0 x1 x2 x3 = upTo (wA_A a3 a4 a5 a6 x0 x1 x2 x3) initA 5 (by decide) := by
  have e : k0_pay8 (kernelRun0_A.sl.v14_4 a4 x1) (kernelRun0_A.sl.v16_4 a3 x0) (full a6 x3) (kernelRun0_A.sl.v24_4 a5 x2) (kernelRun0_A.sl.v28_4 a3 a4 a6 x0 x1 x3) (kernelRun0_A.sl.v40_4 a3 a4 a5 a6 x0 x1 x2 x3) = wA_A a3 a4 a5 a6 x0 x1 x2 x3 ⟨4, by decide⟩ := by
    unfold wA_A
    rw [← loadM_A_4 a3 a4 a5 a6 x0 x1 x2 x3, ← loadA_A_4 a3 a4 a5 a6 x0 x1 x2 x3]
    rfl
  unfold kernelRun0_A.sl.HS1_6
  rw [e, listA_A_4 a3 a4 a5 a6 x0 x1 x2 x3]
  rfl
theorem loadM_A_5 : kernelRun0_A.sl.v28_5 a3 a4 a6 x0 x1 x3 = mNew := by
  unfold kernelRun0_A.sl.v28_5
  rw [listM_A_5 a3 a4 a5 a6 x0 x1 x2 x3]
  exact freshM _ 5 _ ⟨5, by decide⟩ (Nat.le_refl _) _
theorem listM_A_6 : kernelRun0_A.sl.HS0_7 a3 a4 a6 x0 x1 x3 = upTo (wM_A a3 a4 a6 x0 x1 x3) initM 6 (by decide) := by
  have e : k0_pay3 (kernelRun0_A.sl.r_7 a3 a4 a6 x0 x1 x3) = wM_A a3 a4 a6 x0 x1 x3 ⟨5, by decide⟩ := by
    unfold wM_A
    rw [← loadM_A_5 a3 a4 a5 a6 x0 x1 x2 x3]
    rfl
  unfold kernelRun0_A.sl.HS0_7
  rw [e, listM_A_5 a3 a4 a5 a6 x0 x1 x2 x3]
  rfl
theorem loadA_A_5 : kernelRun0_A.sl.v40_5 a3 a4 a5 a6 x0 x1 x2 x3 = aNew := by
  unfold kernelRun0_A.sl.v40_5
  rw [listA_A_5 a3 a4 a5 a6 x0 x1 x2 x3]
  exact freshA _ 5 _ ⟨5, by decide⟩ (Nat.le_refl _) _
theorem listA_A_6 : kernelRun0_A.sl.HS1_7 a3 a4 a5 a6 x0 x1 x2 x3 = upTo (wA_A a3 a4 a5 a6 x0 x1 x2 x3) initA 6 (by decide) := by
  have e : k0_pay8 (kernelRun0_A.sl.v14_5 a4 x1) (kernelRun0_A.sl.v16_5 a3 x0) (full a6 x3) (kernelRun0_A.sl.v24_5 a5 x2) (kernelRun0_A.sl.v28_5 a3 a4 a6 x0 x1 x3) (kernelRun0_A.sl.v40_5 a3 a4 a5 a6 x0 x1 x2 x3) = wA_A a3 a4 a5 a6 x0 x1 x2 x3 ⟨5, by decide⟩ := by
    unfold wA_A
    rw [← loadM_A_5 a3 a4 a5 a6 x0 x1 x2 x3, ← loadA_A_5 a3 a4 a5 a6 x0 x1 x2 x3]
    rfl
  unfold kernelRun0_A.sl.HS1_7
  rw [e, listA_A_5 a3 a4 a5 a6 x0 x1 x2 x3]
  rfl
theorem loadM_A_6 : kernelRun0_A.sl.v28_6 a3 a4 a6 x0 x1 x3 = mNew := by
  unfold kernelRun0_A.sl.v28_6
  rw [listM_A_6 a3 a4 a5 a6 x0 x1 x2 x3]
  exact freshM _ 6 _ ⟨6, by decide⟩ (Nat.le_refl _) _
theorem listM_A_7 : kernelRun0_A.sl.HS0_8 a3 a4 a6 x0 x1 x3 = upTo (wM_A a3 a4 a6 x0 x1 x3) initM 7 (by decide) := by
  have e : k0_pay3 (kernelRun0_A.sl.r_8 a3 a4 a6 x0 x1 x3) = wM_A a3 a4 a6 x0 x1 x3 ⟨6, by decide⟩ := by
    unfold wM_A
    rw [← loadM_A_6 a3 a4 a5 a6 x0 x1 x2 x3]
    rfl
  unfold kernelRun0_A.sl.HS0_8
  rw [e, listM_A_6 a3 a4 a5 a6 x0 x1 x2 x3]
  rfl
theorem loadA_A_6 : kernelRun0_A.sl.v40_6 a3 a4 a5 a6 x0 x1 x2 x3 = aNew := by
  unfold kernelRun0_A.sl.v40_6
  rw [listA_A_6 a3 a4 a5 a6 x0 x1 x2 x3]
  exact freshA _ 6 _ ⟨6, by decide⟩ (Nat.le_refl _) _
theorem listA_A_7 : kernelRun0_A.sl.HS1_8 a3 a4 a5 a6 x0 x1 x2 x3 = upTo (wA_A a3 a4 a5 a6 x0 x1 x2 x3) initA 7 (by decide) := by
  have e : k0_pay8 (kernelRun0_A.sl.v14_6 a4 x1) (kernelRun0_A.sl.v16_6 a3 x0) (full a6 x3) (kernelRun0_A.sl.v24_6 a5 x2) (kernelRun0_A.sl.v28_6 a3 a4 a6 x0 x1 x3) (kernelRun0_A.sl.v40_6 a3 a4 a5 a6 x0 x1 x2 x3) = wA_A a3 a4 a5 a6 x0 x1 x2 x3 ⟨6, by decide⟩ := by
    unfold wA_A
    rw [← loadM_A_6 a3 a4 a5 a6 x0 x1 x2 x3, ← loadA_A_6 a3 a4 a5 a6 x0 x1 x2 x3]
    rfl
  unfold kernelRun0_A.sl.HS1_8
  rw [e, listA_A_6 a3 a4 a5 a6 x0 x1 x2 x3]
  rfl
theorem loadM_A_7 : kernelRun0_A.sl.v28_7 a3 a4 a6 x0 x1 x3 = mNew := by
  unfold kernelRun0_A.sl.v28_7
  rw [listM_A_7 a3 a4 a5 a6 x0 x1 x2 x3]
  exact freshM _ 7 _ ⟨7, by decide⟩ (Nat.le_refl _) _
theorem listM_A_8 : kernelRun0_A.sl.HS0_9 a3 a4 a6 x0 x1 x3 = upTo (wM_A a3 a4 a6 x0 x1 x3) initM 8 (by decide) := by
  have e : k0_pay3 (kernelRun0_A.sl.r_9 a3 a4 a6 x0 x1 x3) = wM_A a3 a4 a6 x0 x1 x3 ⟨7, by decide⟩ := by
    unfold wM_A
    rw [← loadM_A_7 a3 a4 a5 a6 x0 x1 x2 x3]
    rfl
  unfold kernelRun0_A.sl.HS0_9
  rw [e, listM_A_7 a3 a4 a5 a6 x0 x1 x2 x3]
  rfl
theorem loadA_A_7 : kernelRun0_A.sl.v40_7 a3 a4 a5 a6 x0 x1 x2 x3 = aNew := by
  unfold kernelRun0_A.sl.v40_7
  rw [listA_A_7 a3 a4 a5 a6 x0 x1 x2 x3]
  exact freshA _ 7 _ ⟨7, by decide⟩ (Nat.le_refl _) _
theorem listA_A_8 : kernelRun0_A.sl.HS1_9 a3 a4 a5 a6 x0 x1 x2 x3 = upTo (wA_A a3 a4 a5 a6 x0 x1 x2 x3) initA 8 (by decide) := by
  have e : k0_pay8 (kernelRun0_A.sl.v14_7 a4 x1) (kernelRun0_A.sl.v16_7 a3 x0) (full a6 x3) (kernelRun0_A.sl.v24_7 a5 x2) (kernelRun0_A.sl.v28_7 a3 a4 a6 x0 x1 x3) (kernelRun0_A.sl.v40_7 a3 a4 a5 a6 x0 x1 x2 x3) = wA_A a3 a4 a5 a6 x0 x1 x2 x3 ⟨7, by decide⟩ := by
    unfold wA_A
    rw [← loadM_A_7 a3 a4 a5 a6 x0 x1 x2 x3, ← loadA_A_7 a3 a4 a5 a6 x0 x1 x2 x3]
    rfl
  unfold kernelRun0_A.sl.HS1_9
  rw [e, listA_A_7 a3 a4 a5 a6 x0 x1 x2 x3]
  rfl
theorem slotM_A (c : Dev nD) (i h3 h4 h5 h6 a7 h7 T0 T1 c0 c1) (s : Fin 8) (y : Fin 1024) :
    scM0_0.view.read (Elt Ideal) (kernelRun0_A c i a3 h3 a4 h4 a5 h5 a6 h6 a7 h7 T0 T1 x0 x1 x2 x3 c0 c1).2.1 (ix3 s 0 y)
      = wM_A a3 a4 a6 x0 x1 x3 s (ix3 0 0 y) := by
  unfold kernelRun0_A
  dsimp only
  rw [listM_A_8 a3 a4 a5 a6 x0 x1 x2 x3]
  exact read_upTo_of_lt _ _ _ _ _ _ _ s.isLt _ _
theorem slotA_A (c : Dev nD) (i h3 h4 h5 h6 a7 h7 T0 T1 c0 c1) (s : Fin 8) (e : Fin 144) (y : Fin 1024) :
    scM0_1.view.read (Elt Ideal) (kernelRun0_A c i a3 h3 a4 h4 a5 h5 a6 h6 a7 h7 T0 T1 x0 x1 x2 x3 c0 c1).2.2.1 (ix3 s e y)
      = wA_A a3 a4 a5 a6 x0 x1 x2 x3 s (ix3 0 e y) := by
  unfold kernelRun0_A
  dsimp only
  rw [listA_A_8]
  exact read_upTo_of_lt _ _ _ _ _ _ _ s.isLt _ _
end

end Cert.DsIdeal.Slots
end
-- ==== Proof.DsMath.lean ====
/- The running softmax over a choice of keys: one block's update keeps the invariant, and the quotient of two running
   sums is the softmax-weighted sum. -/
module

public import proofs.«01_k».proof.Proof.DaMath

@[expose] public section

noncomputable section

open Idealize.ShloMosaic Finset
open scoped Classical

namespace Cert.DsMath

/-- The unnormalised weight of key `k` among the chosen keys `P`, its score measured from `M`. -/
def wt (P : ℕ → Prop) (σ : ℕ → ℝ) (M : ℝ) (k : ℕ) : ℝ := if P k then (2 : ℝ) ^ (σ k - M) else 0

theorem wt_shift (P : ℕ → Prop) (σ : ℕ → ℝ) (M M' : ℝ) (k : ℕ) : (2 : ℝ) ^ (M - M') * wt P σ M k = wt P σ M' k := by
  unfold wt
  split
  · rw [← Real.rpow_add (by norm_num)]; congr 1; ring
  · exact mul_zero _

theorem wt_nonneg (P : ℕ → Prop) (σ : ℕ → ℝ) (M : ℝ) (k : ℕ) : 0 ≤ wt P σ M k := by
  unfold wt
  split
  · exact (Real.rpow_pos_of_pos (by norm_num) _).le
  · exact le_refl _

theorem exp2_sub (P : ℕ → Prop) (σ : ℕ → ℝ) (M : ℝ) (k : ℕ) (S : EReal) (hS : S = if P k then ((σ k : ℝ) : EReal) else ⊥) :
    Ideal.exp2 (S - (M : EReal)) = (wt P σ M k : EReal) := by
  subst hS
  unfold wt
  split
  · rw [← EReal.coe_sub, Ideal.exp2_coe]; rfl
  · rw [EReal.bot_sub, Ideal.exp2_bot]; rfl

/-- A slot in which no key was chosen yet, and one whose running maximum is a real number and whose running sums are measured from it. -/
def Empty (P : ℕ → Prop) (n : ℕ) (m : EReal) (a : Fin 144 → EReal) : Prop := m = ⊥ ∧ (∀ k < n, ¬P k) ∧ ∀ e, a e = 0
def Full (P : ℕ → Prop) (σ : ℕ → ℝ) (V : Fin 144 → ℕ → ℝ) (n : ℕ) (m : EReal) (a : Fin 144 → EReal) : Prop :=
  ∃ M : ℝ, m = (M : EReal) ∧ ∀ e, a e = ((∑ k ∈ range n, V e k * wt P σ M k : ℝ) : EReal)
def Inv (P : ℕ → Prop) (σ : ℕ → ℝ) (V : Fin 144 → ℕ → ℝ) (n : ℕ) (m : EReal) (a : Fin 144 → EReal) : Prop :=
  Empty P n m a ∨ Full P σ V n m a

theorem step (P : ℕ → Prop) (σ : ℕ → ℝ) (V : Fin 144 → ℕ → ℝ) (n : ℕ) (m : EReal) (a : Fin 144 → EReal) (S : Fin 1024 → EReal)
    (W : Fin 144 → Fin 1024 → EReal)
    (hS : ∀ x : Fin 1024, S x = if P (n + x.val) then ((σ (n + x.val) : ℝ) : EReal) else ⊥)
    (hW : ∀ e (x : Fin 1024), W e x = ((V e (n + x.val) : ℝ) : EReal)) (h : Inv P σ V n m a) :
    Inv P σ V (n + 1024) (max m (univ.fold max ⊥ S)) (fun e => Ideal.exp2 (m - max m (univ.fold max ⊥ S)) * a e
      + ∑ x, W e x * Ideal.exp2 (S x - max m (univ.fold max ⊥ S))) := by
  have hmt : m ≠ ⊤ := by
    rcases h with ⟨h, _⟩ | ⟨M, h, _⟩
    · rw [h]; exact bot_ne_top
    · rw [h]; exact EReal.coe_ne_top _
  by_cases hne : m ≠ ⊥ ∨ ∃ i ∈ univ, S i ≠ ⊥
  · right
    obtain ⟨M', hM⟩ := DaMath.fold_real univ S m hmt (fun i _ => by rw [hS i]; split; exacts [EReal.coe_ne_top _, bot_ne_top]) hne
    refine ⟨M', hM, fun e => ?_⟩
    rw [hM]
    have h2 : ∑ x, W e x * Ideal.exp2 (S x - (M' : EReal)) = ((∑ x ∈ range 1024, V e (n + x) * wt P σ M' (n + x) : ℝ) : EReal) := by
      rw [sum_range (fun x => V e (n + x) * wt P σ M' (n + x)), DaMath.coe_sum]
      exact sum_congr rfl fun x _ => by rw [hW, exp2_sub P σ M' _ _ (hS x), EReal.coe_mul]
    have h1 : Ideal.exp2 (m - (M' : EReal)) * a e = ((∑ k ∈ range n, V e k * wt P σ M' k : ℝ) : EReal) := by
      rcases h with ⟨_, h0, ha⟩ | ⟨M, hm, ha⟩
      · rw [ha, mul_zero, sum_eq_zero fun k hk => by rw [wt, if_neg (h0 k (mem_range.mp hk)), mul_zero]]; rfl
      · rw [ha, hm, ← EReal.coe_sub, Ideal.exp2_coe, ← EReal.coe_mul, mul_sum]
        refine congrArg _ (sum_congr rfl fun k _ => ?_)
        rw [← wt_shift P σ M M' k]
        show (2 : ℝ) ^ (M - M') * _ = _
        ring
    refine (congrArg₂ _ h1 h2).trans ?_
    rw [← EReal.coe_add, sum_range_add]
  · left
    have hm : m = ⊥ := by
      by_contra hm; exact hne (Or.inl hm)
    have hb : ∀ x, S x = ⊥ := fun x => by
      by_contra hx; exact hne (Or.inr ⟨x, mem_univ _, hx⟩)
    have hf : max m (univ.fold max ⊥ S) = ⊥ := by
      refine le_antisymm (max_le hm.le ((fold_max_le _).mpr ⟨le_rfl, fun x _ => (hb x).le⟩)) bot_le
    obtain ⟨h0, ha⟩ : (∀ k < n, ¬P k) ∧ ∀ e, a e = 0 := by
      rcases h with ⟨_, h0, ha⟩ | ⟨M, h, _⟩
      · exact ⟨h0, ha⟩
      · exact absurd (hm.symm.trans h) (EReal.coe_ne_bot M).symm
    refine ⟨hf, fun k hk hP => ?_, fun e => ?_⟩
    · rcases Nat.lt_or_ge k n with hl | hg
      · exact h0 k hl hP
      · have hx := hS ⟨k - n, by omega⟩
        have he : n + (k - n) = k := by omega
        rw [hb] at hx
        dsimp only at hx
        rw [he, if_pos hP] at hx
        exact (EReal.coe_ne_bot _) hx.symm
    · show Ideal.exp2 (m - max m (univ.fold max ⊥ S)) * a e + ∑ x, W e x * Ideal.exp2 (S x - max m (univ.fold max ⊥ S)) = 0
      rw [ha, mul_zero, zero_add]
      refine sum_eq_zero fun x _ => ?_
      rw [hb, EReal.bot_sub, Ideal.exp2_bot, mul_zero]

/-- Where every chosen key lies before `n`, the keys from `n` on weigh nothing. -/
theorem sum_tail (P : ℕ → Prop) (σ : ℕ → ℝ) (V : ℕ → ℝ) (M : ℝ) (n N : ℕ) (hP : ∀ k < N, P k → k < n) (hN : n ≤ N) :
    ∑ k ∈ range n, V k * wt P σ M k = ∑ k ∈ range N, V k * wt P σ M k := by
  refine sum_subset (range_mono hN) fun k hN hk => ?_
  have : ¬ P k := fun h => hk (mem_range.mpr (hP k (mem_range.mp hN) h))
  rw [wt, if_neg this, mul_zero]

theorem sum_pos (P : ℕ → Prop) (σ : ℕ → ℝ) (M : ℝ) (N : ℕ) (h : ∃ k < N, P k) : 0 < ∑ k ∈ range N, wt P σ M k := by
  obtain ⟨r, hr, hP⟩ := h
  refine Finset.sum_pos' (fun k _ => wt_nonneg P σ M k) ⟨r, mem_range.mpr hr, ?_⟩
  rw [wt, if_pos hP]
  exact Real.rpow_pos_of_pos (by norm_num) _

/-- The softmax weight, the scores measured from their maximum, is the quotient measured from any `M`. -/
theorem soft (P : ℕ → Prop) (σ : ℕ → ℝ) (M : ℝ) (N : ℕ) (hx : ∃ k < N, P k) (S : Fin N → EReal)
    (hS : ∀ k : Fin N, S k = if P k.val then ((σ k.val : ℝ) : EReal) else ⊥) (k : Fin N) :
    Ideal.div (Ideal.pow ((2 : ℝ) : EReal) (S k - univ.fold max ⊥ S)) (∑ j, Ideal.pow ((2 : ℝ) : EReal) (S j - univ.fold max ⊥ S))
      = ((wt P σ M k.val / ∑ j ∈ range N, wt P σ M j : ℝ) : EReal) := by
  obtain ⟨r, hr, hP⟩ := hx
  obtain ⟨M', hM⟩ := DaMath.fold_real univ S ⊥ bot_ne_top (fun i _ => by rw [hS i]; split; exacts [EReal.coe_ne_top _, bot_ne_top])
    (Or.inr ⟨⟨r, hr⟩, mem_univ _, by rw [hS, if_pos hP]; exact EReal.coe_ne_bot _⟩)
  rw [max_eq_right bot_le] at hM
  rw [hM]
  have hp : ∀ j : Fin N, Ideal.pow ((2 : ℝ) : EReal) (S j - (M' : EReal)) = (wt P σ M' j.val : EReal) := by
    intro j
    rw [hS]
    unfold wt
    split
    · rw [← EReal.coe_sub, Ideal.pow_coe_coe]; rfl
    · rw [EReal.bot_sub, Ideal.pow_coe_bot, if_neg (by norm_num), if_pos (by norm_num)]; rfl
  have hs : ∑ j, Ideal.pow ((2 : ℝ) : EReal) (S j - (M' : EReal)) = ((∑ j ∈ range N, wt P σ M' j : ℝ) : EReal) := by
    rw [sum_range (fun j => wt P σ M' j), DaMath.coe_sum]
    exact sum_congr rfl fun j _ => hp j
  rw [hs, hp, DaMath.div_coe _ _ (sum_pos P σ M' N ⟨r, hr, hP⟩).ne']
  have h2 : (2 : ℝ) ^ (M - M') ≠ 0 := (Real.rpow_pos_of_pos (by norm_num) _).ne'
  congr 1
  rw [← wt_shift P σ M M', ← sum_congr rfl fun j _ => wt_shift P σ M M' j, ← mul_sum, mul_div_mul_left _ _ h2]

/-- The quotient of the running sums is the sum of the values under the softmax weights. -/
theorem combine (P : ℕ → Prop) (σ : ℕ → ℝ) (V : ℕ → ℝ) (M : ℝ) (N : ℕ) (hx : ∃ k < N, P k) (S : Fin N → EReal)
    (hS : ∀ k : Fin N, S k = if P k.val then ((σ k.val : ℝ) : EReal) else ⊥) (v : Fin N → EReal) (hv : ∀ k, v k = ((V k.val : ℝ) : EReal)) :
    Ideal.div ((∑ k ∈ range N, V k * wt P σ M k : ℝ) : EReal) ((∑ k ∈ range N, wt P σ M k : ℝ) : EReal)
      = ∑ k, v k * Ideal.div (Ideal.pow ((2 : ℝ) : EReal) (S k - univ.fold max ⊥ S)) (∑ j, Ideal.pow ((2 : ℝ) : EReal) (S j - univ.fold max ⊥ S)) := by
  rw [DaMath.div_coe _ _ (sum_pos P σ M N hx).ne']
  have hk : ∀ k : Fin N, v k * Ideal.div (Ideal.pow ((2 : ℝ) : EReal) (S k - univ.fold max ⊥ S)) (∑ j, Ideal.pow ((2 : ℝ) : EReal) (S j - univ.fold max ⊥ S))
      = ((V k.val * (wt P σ M k.val / (∑ j ∈ range N, wt P σ M j)) : ℝ) : EReal) := by
    intro k
    rw [soft P σ M N hx S hS, hv, ← EReal.coe_mul]
  rw [sum_congr rfl fun k _ => hk k, ← DaMath.coe_sum, ← sum_range (fun k => V k * (wt P σ M k / (∑ j ∈ range N, wt P σ M j)))]
  congr 1
  rw [sum_div]
  exact sum_congr rfl fun k _ => by ring

end Cert.DsMath
end
-- ==== Proof.DsScore.lean ====
/- The sparse attention's stored words read at an index. -/
module

public import proofs.«01_k».proof.Proof.DsSlots
public import proofs.«01_k».proof.Proof.DsMath
public import Idealize.ShloMosaic.Lib.WordCmp

@[expose] public section

set_option maxRecDepth 16384

noncomputable section

open Idealize.ShloMosaic Idealize.ShloMosaic.TcCoe Idealize.SL.Sem
open Cert.DsIdeal Cert.DsIdeal.Gen
open scoped Classical

namespace Cert.DsIdeal.Slots

theorem mask_bot : (Named.named κ "mask" 4048155338#32 : Ideal .f32) = ⊥ :=
  IdealRules.named_const.ideal_named_scalar κ "mask" _ _ rfl

/-- The block's running maxima and sums from its scores and its extended values. -/
def maxNew (S : FVec Ideal S1024x1024 .f32) (m : Vec Ideal S1x1x1024 .f32) : FVec Ideal S1x1024 .f32 :=
  maximumf (shapeCast S1x1024 m shapeCasts_S1x1x1024_S1x1024)
    (shapeCast S1x1024 (multiReduction .maximumf [0] S1024 S 0xFF800000#32 reduces_S1024x1024_S1024 (.inl rfl) rfl) shapeCasts_S1024_S1x1024)
def payM (S : FVec Ideal S1024x1024 .f32) (m : Vec Ideal S1x1x1024 .f32) : Vec Ideal S1x1x1024 .f32 :=
  shapeCast S1x1x1024 (maxNew S m) shapeCasts_S1x1024_S1x1x1024
def vals (v : Vec Ideal S128x1024 .bf16) : FVec Ideal S144x1024 .bf16 :=
  concatenate S144x1024 0 [⟨S128x1024, v⟩, ⟨S16x1024, broadcast S16x1024 (Scalar.ofBits .bf16 0x3F80#16 : Ideal .bf16)⟩] concatenates_S128x1024_S16x1024_S144x1024_d0
def payA (S : FVec Ideal S1024x1024 .f32) (v1 : FVec Ideal S144x1024 .bf16) (m : Vec Ideal S1x1x1024 .f32) (a : Vec Ideal S1x144x1024 .f32) :
    Vec Ideal S1x144x1024 .f32 :=
  shapeCast S1x144x1024
    (addf (mulf (broadcastTo S144x1024 (exp2 (subf (shapeCast S1x1024 m shapeCasts_S1x1x1024_S1x1024) (maxNew S m))) broadcasts_S1x1024_S144x1024)
        (shapeCast S144x1024 a shapeCasts_S1x144x1024_S144x1024))
      (matmul dot_S144x1024_S1024x1024_S144x1024_1_0_0_1_n_n none v1
        (truncf .bf16 (exp2 (subf S (broadcastTo S1024x1024 (maxNew S m) broadcasts_S1x1024_S1024x1024))) bitsLt_bf16_f32)
        (constant S144x1024 .f32 0x00000000#32)))
    shapeCasts_S144x1024_S1x144x1024

theorem newM_eq (q k w m) : newM q k w m = payM (k0_pay5 k q w) m := rfl
theorem newA_eq (q k w v m a) : newA q k w v m a = payA (k0_pay5 k q w) (vals v) m a := rfl

theorem payM_at (S m) (y : Fin 1024) : payM S m (ix3 0 0 y) = max (m (ix3 0 0 y)) (Finset.univ.fold max ⊥ fun x => S (ix2 x y)) := by
  pointwise [payM, maxNew]
  rw [DaMath.neg_inf]
theorem payA_at (S v1 m a) (e : Fin 144) (y : Fin 1024) : payA S v1 m a (ix3 0 e y)
    = Ideal.exp2 (m (ix3 0 0 y) - max (m (ix3 0 0 y)) (Finset.univ.fold max ⊥ fun x => S (ix2 x y))) * a (ix3 0 e y)
      + ∑ x, v1 (ix2 e x) * Ideal.exp2 (S (ix2 x y) - max (m (ix3 0 0 y)) (Finset.univ.fold max ⊥ fun x => S (ix2 x y))) := by
  pointwise [payA, maxNew]
  rw [DaMath.neg_inf]
  rfl
theorem vals_at (v) (e : Fin 144) (y : Fin 1024) : vals v (ix2 e y) = if h : e.val < 128 then v (ix2 ⟨e.val, h⟩ y) else 1 := by
  pointwise [vals]

/-- The product of one query and one key of a head. -/
def prod (q k : Vec Ideal S1024x128 .bf16) (x y : Fin 1024) : EReal := ∑ d : Fin 128, q (ix2 y d) * k (ix2 x d)

theorem score_at (q k w) (x y : Fin 1024) : k0_pay5 (F := Ideal) k q w (ix2 x y) = if 0 < (w (ix2 x y) : EReal) then prod q k x y else ⊥ := by
  pointwise [k0_pay5]
  rw [mask_bot]
  unfold prod
  by_cases h : 0 < (w (ix2 x y) : EReal)
  · simp only [if_pos h]
    exact Finset.sum_congr rfl fun d _ => mul_comm (k (ix2 x d) : EReal) (q (ix2 y d))
  · simp only [if_neg h]

theorem full_at (v : Memref sig .tc .vmem S1024x1024 .bf16) (x : S1024x1024.Idx → Elt Ideal .bf16) : full v x = x := by
  unfold full
  rw [View.readAt_rep_unit v.view x _ rfl inb_S1024x1024_S1024x1024_0_0]
  funext i
  refine congrArg x (funext fun a => Fin.ext ((ValueKit.rect_emb_unit_val _ _ _ _ _).trans ?_))
  fin_cases a <;> exact Nat.zero_add _

end Cert.DsIdeal.Slots
end
-- ==== Proof.DsRef.lean ====
/- The sparse attention's reference read at an index. -/
module

public import proofs.«01_k».proof.Proof.Gen.DsRefIdeal.Read
public import proofs.«01_k».proof.Proof.DsMath
public import Idealize.ShloMosaic.Lib.Pointwise

@[expose] public section

set_option maxRecDepth 16384

noncomputable section

open Idealize.ShloMosaic Idealize.ShloMosaic.TcCoe Idealize.SL.Sem
open Cert.DsRefIdeal Cert.DsRefIdeal.Read
open scoped Classical

namespace Cert.DsRefIdeal.Val

/-- The product of query `r` and key `k` of head `h`. -/
def dotp (x2 x3 : FVec Ideal S16384x1024 .bf16) (h : Fin 8) (r k : Fin 16384) : EReal :=
  ∑ d : Fin 128, x2 (ix2 r ⟨h.val * 128 + d.val, by omega⟩) * x3 (ix2 k ⟨h.val * 128 + d.val, by omega⟩)

/-- The score: keys the query did not choose are masked. -/
def score (x2 x3 : FVec Ideal S16384x1024 .bf16) (x5 : FVec Ideal S16384x16384 .bf16) (h : Fin 8) (r k : Fin 16384) : EReal :=
  if 0 < (x5 (ix2 k r) : EReal) then dotp x2 x3 h r k else ⊥

theorem q_at (x2) (r : Fin 16384) (h : Fin 8) (d : Fin 128) : val_main_v1 (F := Ideal) x2 (ix3 r h d) = x2 (ix2 r ⟨h.val * 128 + d.val, by omega⟩) := by
  rw [val_main_v1_apply]
  show x2 _ = x2 _
  refine congrArg x2 (funext fun a => Fin.ext ?_)
  have := r.isLt; have := h.isLt; have := d.isLt
  match a with
  | ⟨0, _⟩ => show ((r.val * 8 + h.val) * 128 + d.val) / 1024 = r.val; omega
  | ⟨1, _⟩ => show ((r.val * 8 + h.val) * 128 + d.val) % 1024 = h.val * 128 + d.val; omega
theorem k_at (x3) (r : Fin 16384) (h : Fin 8) (d : Fin 128) : val_main_v3 (F := Ideal) x3 (ix3 r h d) = x3 (ix2 r ⟨h.val * 128 + d.val, by omega⟩) := by
  rw [val_main_v3_apply]
  show x3 _ = x3 _
  refine congrArg x3 (funext fun a => Fin.ext ?_)
  have := r.isLt; have := h.isLt; have := d.isLt
  match a with
  | ⟨0, _⟩ => show ((r.val * 8 + h.val) * 128 + d.val) / 1024 = r.val; omega
  | ⟨1, _⟩ => show ((r.val * 8 + h.val) * 128 + d.val) % 1024 = h.val * 128 + d.val; omega
theorem v_at (x4) (k : Fin 16384) (h : Fin 8) (e : Fin 128) : val_main_v6 (F := Ideal) x4 (ix3 k h e) = x4 (ix2 ⟨h.val * 128 + e.val, by omega⟩ k) := by
  rw [val_main_v6_apply, val_main_v5_apply]
  show x4 _ = x4 _
  refine congrArg x4 (funext fun a => Fin.ext ?_)
  have := k.isLt; have := h.isLt; have := e.isLt
  match a with
  | ⟨0, _⟩ => show ((k.val * 8 + h.val) * 128 + e.val) % 1024 = h.val * 128 + e.val; omega
  | ⟨1, _⟩ => show ((k.val * 8 + h.val) * 128 + e.val) / 1024 = k.val; omega

theorem d_at (x2 x3) (h : Fin 8) (r k : Fin 16384) : val_main_v7 (F := Ideal) x2 x3 (ix3 h r k) = dotp x2 x3 h r k := by
  rw [val_main_v7_apply]
  unfold dotp
  refine Finset.sum_congr rfl fun d _ => congrArg₂ (· * ·) ?_ ?_
  · refine Eq.trans (congrArg (val_main_v1 (F := Ideal) x2) (funext fun a => ?_)) (q_at x2 r h d)
    match a with
    | ⟨0, _⟩ => rfl
    | ⟨1, _⟩ => rfl
    | ⟨2, _⟩ => rfl
  · refine Eq.trans (congrArg (val_main_v3 (F := Ideal) x3) (funext fun a => ?_)) (k_at x3 k h d)
    match a with
    | ⟨0, _⟩ => rfl
    | ⟨1, _⟩ => rfl
    | ⟨2, _⟩ => rfl

theorem s_at (x2 x3 x5) (h : Fin 8) (r k : Fin 16384) : val_main_v12 (F := Ideal) x2 x3 x5 (ix3 h r k) = score x2 x3 x5 h r k := by
  pointwise [val_main_v12,val_main_call0_v0,val_main_call0_v1,val_main_call0_v2,val_main_v11,val_main_v10,val_main_v9,val_main_v8,val_main_cst,val_main_cst_0]
  rw [d_at]
  unfold score
  by_cases hk : 0 < (x5 (ix2 k r) : EReal)
  · simp only [if_pos hk]
  · simp only [if_neg hk]
    exact DaMath.neg_inf

/-- The softmax in base two. -/
def soft (S : Fin 16384 → EReal) (k : Fin 16384) : EReal :=
  Ideal.div (Ideal.pow ((2 : ℝ) : EReal) (S k - Finset.univ.fold max ⊥ S)) (∑ j, Ideal.pow ((2 : ℝ) : EReal) (S j - Finset.univ.fold max ⊥ S))

theorem w_at (x2 x3 x5) (h : Fin 8) (r k : Fin 16384) : val_main_v22 (F := Ideal) x2 x3 x5 (ix3 h r k) = soft (score x2 x3 x5 h r) k := by
  pointwise [val_main_v22,val_main_v21,val_main_v20,val_main_v19,val_main_v18,val_main_v17,val_main_v16,val_main_v15,val_main_v14,val_main_v13,val_main_cst_1,val_main_cst_2,val_main_cst_3]
  rw [DaMath.neg_inf, DaMath.two]
  simp only [s_at]
  rfl

/-- The values under the weights. -/
def mix (x2 x3 : FVec Ideal S16384x1024 .bf16) (x4 : FVec Ideal S1024x16384 .bf16) (x5 : FVec Ideal S16384x16384 .bf16)
    (r : Fin 16384) (h : Fin 8) (e : Fin 128) : EReal :=
  ∑ k, x4 (ix2 ⟨h.val * 128 + e.val, by omega⟩ k) * soft (score x2 x3 x5 h r) k

theorem ref_at (x2 x3 x4 x5) (r : Fin 16384) (h : Fin 8) (e : Fin 128) :
    val_main_v26 (F := Ideal) x2 x3 x4 x5 (ix2 r ⟨h.val * 128 + e.val, by omega⟩) = mix x2 x3 x4 x5 r h e := by
  rw [val_main_v26_apply, val_main_v25_apply, val_main_v24_apply, val_main_v23_apply]
  show (∑ k, _ : EReal) = _
  unfold mix
  have := r.isLt; have := h.isLt; have := e.isLt
  refine Finset.sum_congr rfl fun k _ => congrArg₂ (· * ·) ?_ ?_
  · refine Eq.trans (congrArg (val_main_v6 (F := Ideal) x4) (funext fun a => Fin.ext ?_)) (v_at x4 k h e)
    match a with
    | ⟨0, _⟩ => rfl
    | ⟨1, _⟩ => show (r.val * 1024 + (h.val * 128 + e.val)) / 128 % 8 = h.val; omega
    | ⟨2, _⟩ => show (r.val * 1024 + (h.val * 128 + e.val)) % 128 = e.val; omega
  · refine Eq.trans (congrArg (val_main_v22 (F := Ideal) x2 x3 x5) (funext fun a => Fin.ext ?_)) (w_at x2 x3 x5 h r k)
    match a with
    | ⟨0, _⟩ => show (r.val * 1024 + (h.val * 128 + e.val)) / 128 % 8 = h.val; omega
    | ⟨1, _⟩ => show (r.val * 1024 + (h.val * 128 + e.val)) / 1024 = r.val; omega
    | ⟨2, _⟩ => rfl

end Cert.DsRefIdeal.Val
end
-- ==== Proof.DsPoint.lean ====
/- The grid's points, their blocks, and what the slots hold after each. -/
module

public import proofs.«01_k».proof.Proof.Gen.DsIdeal.Flash
public import proofs.«01_k».proof.Proof.DsScore
public import proofs.«01_k».proof.Proof.DsRef
public import Idealize.ShloMosaic.Lib.Pipeline.ValueKit

@[expose] public section

set_option maxRecDepth 16384

noncomputable section

open Idealize.ShloMosaic Idealize.ShloMosaic.TcCoe Idealize.SL.Sem
open Cert.DsIdeal Cert.DsIdeal.Gen

namespace Cert.DsIdeal.Point

/-- The block of queries and the block of keys of a point. -/
def qi (t : Fin 136) : ℕ := (pinT_0 0 (ix1 t)).toNat
def kj (t : Fin 136) : ℕ := (pinT_1 0 (ix1 t)).toNat

theorem tri : ∀ t : Fin 136, kj t ≤ qi t ∧ qi t < 16 := by decide +kernel
theorem tri_zero : ∀ t : Fin 136, t.val = 0 → kj t = 0 := by decide +kernel
theorem tri_prev : ∀ t : Fin 136, kj t ≠ 0 → ∃ h : 0 < t.val, qi ⟨t.val - 1, by omega⟩ = qi t ∧ kj ⟨t.val - 1, by omega⟩ + 1 = kj t := by decide +kernel

abbrev ch0 : Fin 1 := ⟨0, Nat.one_pos⟩

/-- What tells the paths apart at a point. -/
abbrev DecAt (ch : Fin 1) (t : Fin (cfgA ch).N) : Prop := (P0_0 ch t ↔ kj t = 0) ∧ (P0_1 ch t ↔ kj t = qi t)
set_option synthInstance.maxSize 65536 in
instance DecAt.dec (ch : Fin 1) (t : Fin (cfgA ch).N) : Decidable (DecAt ch t) := inferInstanceAs (Decidable ((_ ↔ _) ∧ (_ ↔ _)))
theorem decisions0 : ∀ t : Fin (cfgA ch0).N, DecAt ch0 t := by decide +kernel
theorem decisions : ∀ (ch : Fin 1) (t : Fin (cfgA ch).N), DecAt ch t := fun ch => match ch with
  | ⟨0, _⟩ => decisions0
  | ⟨_ + 1, h⟩ => absurd h (by omega)

abbrev IdxAt (ch : Fin 1) (t : Fin (cfgA ch).N) : Prop :=
  ((pcfg0 (F := Ideal)).win (adm ch) 0).index t = ![qi t, 0] ∧ ((pcfg0 (F := Ideal)).win (adm ch) 1).index t = ![kj t, 0]
    ∧ ((pcfg0 (F := Ideal)).win (adm ch) 2).index t = ![0, kj t] ∧ ((pcfg0 (F := Ideal)).win (adm ch) 3).index t = ![kj t, qi t]
    ∧ ((pcfg0 (F := Ideal)).win (adm ch) 4).index t = ![qi t, 0]
theorem idx0 : ∀ t : Fin (cfgA ch0).N, IdxAt ch0 t := by decide +kernel
theorem idx : ∀ (ch : Fin 1) (t : Fin (cfgA ch).N), IdxAt ch t := fun ch => match ch with
  | ⟨0, _⟩ => idx0
  | ⟨_ + 1, h⟩ => absurd h (by omega)

variable (ch : Fin 1) (m : (ℓ : Loc nD τ sig) → Buf (Elt Ideal) ℓ) (ρ : Dev nD → PrngReg) (c : Dev nD)

theorem blk0 (t : Fin (cfgA ch).N) (y l : Fin 1024) : iblk ch m ρ c (0 : Fin 5) t (ix2 y l)
    = m ((c : Thread nD τ).loc main_arg2) (ix2 ⟨qi t * 1024 + y.val, by have := (tri t).2; omega⟩ l) := by
  have ht := idx ch t
  blk_point [iblk, ht]
theorem blk1 (t : Fin (cfgA ch).N) (y l : Fin 1024) : iblk ch m ρ c (1 : Fin 5) t (ix2 y l)
    = m ((c : Thread nD τ).loc main_arg3) (ix2 ⟨kj t * 1024 + y.val, by have := tri t; omega⟩ l) := by
  have ht := idx ch t
  blk_point [iblk, ht]

theorem blk2 (t : Fin (cfgA ch).N) (y l : Fin 1024) : iblk ch m ρ c (2 : Fin 5) t (ix2 y l)
    = m ((c : Thread nD τ).loc main_arg4) (ix2 y ⟨kj t * 1024 + l.val, by have := tri t; omega⟩) := by
  have ht := idx ch t
  blk_point [iblk, ht]
theorem blk3 (t : Fin (cfgA ch).N) (y l : Fin 1024) : iblk ch m ρ c (3 : Fin 5) t (ix2 y l)
    = m ((c : Thread nD τ).loc main_arg5) (ix2 ⟨kj t * 1024 + y.val, by have := tri t; omega⟩ ⟨qi t * 1024 + l.val, by have := (tri t).2; omega⟩) := by
  have ht := idx ch t
  blk_point [iblk, ht]

open scoped Classical
open Slots DsRefIdeal.Val

theorem cols_inb (h : Fin 8) : ∀ a, (![0, h.val * 128] : Fin 2 → ℕ) a + S1024x128.size a ≤ S1024x1024.size a := by
  intro a
  fin_cases a
  · exact Nat.le_refl _
  · show h.val * 128 + 128 ≤ 1024; omega
theorem rows_inb (h : Fin 8) : ∀ a, (![h.val * 128, 0] : Fin 2 → ℕ) a + S128x1024.size a ≤ S1024x1024.size a := by
  intro a
  fin_cases a
  · show h.val * 128 + 128 ≤ 1024; omega
  · exact Nat.le_refl _
theorem cols_at (h : Fin 8) (v : Memref sig .tc .vmem S1024x1024 .bf16) (x : S1024x1024.Idx → Elt Ideal .bf16) (y : Fin 1024) (l : Fin 128) :
    cols h v x (ix2 y l) = x (ix2 y ⟨h.val * 128 + l.val, by omega⟩) := by
  unfold cols
  rw [View.readAt_rep_unit v.view x _ rfl (cols_inb h)]
  refine congrArg x (funext fun a => Fin.ext ((ValueKit.rect_emb_unit_val _ _ _ _ _).trans ?_))
  fin_cases a
  · exact Nat.zero_add _
  · rfl
theorem rows_at (h : Fin 8) (v : Memref sig .tc .vmem S1024x1024 .bf16) (x : S1024x1024.Idx → Elt Ideal .bf16) (e : Fin 128) (y : Fin 1024) :
    rows h v x (ix2 e y) = x (ix2 ⟨h.val * 128 + e.val, by omega⟩ y) := by
  unfold rows
  rw [View.readAt_rep_unit v.view x _ rfl (rows_inb h)]
  refine congrArg x (funext fun a => Fin.ext ((ValueKit.rect_emb_unit_val _ _ _ _ _).trans ?_))
  fin_cases a
  · rfl
  · exact Nat.zero_add _

/-- The query row of the whole array that row `y` of the point's block is, and a key row. -/
abbrev rowQ (t : Fin 136) (y : Fin 1024) : Fin 16384 := ⟨qi t * 1024 + y.val, by have := (tri t).2; omega⟩
abbrev rowK (t : Fin 136) (y : Fin 1024) : Fin 16384 := ⟨kj t * 1024 + y.val, by have := tri t; omega⟩

theorem prod_eq (t : Fin (cfgA ch).N) (h : Fin 8) (x y : Fin 1024) :
    prod (cols h (ms0_0 ch t) (iblk ch m ρ c (0 : Fin 5) t)) (cols h (ms0_1 ch t) (iblk ch m ρ c (1 : Fin 5) t)) x y
      = dotp (m ((c : Thread nD τ).loc main_arg2)) (m ((c : Thread nD τ).loc main_arg3)) h (rowQ t y) (rowK t x) := by
  unfold prod dotp
  refine Finset.sum_congr rfl fun d _ => ?_
  rw [cols_at, cols_at, blk0, blk1]

variable (q k : S16384x1024.Idx → ℝ) (v : S1024x16384.Idx → ℝ)

/-- The key a number names, the real scores and values, and the choice of keys. -/
abbrev key (n : ℕ) : Fin 16384 := ⟨n % 16384, Nat.mod_lt _ (by decide)⟩
theorem key_val (n : Fin 16384) : key n.val = n := Fin.ext (Nat.mod_eq_of_lt n.isLt)
def score2 (h : Fin 8) (r : Fin 16384) (n : ℕ) : ℝ :=
  ∑ d : Fin 128, q (ix2 r ⟨h.val * 128 + d.val, by omega⟩) * k (ix2 (key n) ⟨h.val * 128 + d.val, by omega⟩)
def value (h : Fin 8) (e : Fin 144) (n : ℕ) : ℝ :=
  if he : e.val < 128 then v (ix2 ⟨h.val * 128 + e.val, by omega⟩ (key n)) else 1
def pick (W : FVec Ideal S16384x16384 .bf16) (r : Fin 16384) (n : ℕ) : Prop := 0 < (W (ix2 (key n) r) : EReal)

theorem dotp_real (Q K : FVec Ideal S16384x1024 .bf16) (hQ : ∀ i, Q i = (q i : EReal)) (hK : ∀ i, K i = (k i : EReal))
    (h : Fin 8) (r n : Fin 16384) : dotp Q K h r n = (score2 q k h r n.val : EReal) := by
  unfold dotp score2
  rw [DaMath.coe_sum]
  refine Finset.sum_congr rfl fun d _ => ?_
  rw [hQ, hK, key_val, EReal.coe_mul]

theorem val_real (V : FVec Ideal S1024x16384 .bf16) (hV : ∀ i, V i = (v i : EReal)) (h : Fin 8) (e : Fin 128) (n : Fin 16384) :
    V (ix2 ⟨h.val * 128 + e.val, by omega⟩ n) = (value v h ⟨e.val, by omega⟩ n.val : EReal) := by
  unfold value
  rw [dif_pos e.isLt, key_val, hV]

theorem slot_step (P : ℕ → Prop) (σ : ℕ → ℝ) (V : Fin 144 → ℕ → ℝ) (n : ℕ) (Q K : Vec Ideal S1024x128 .bf16) (W : Vec Ideal S1024x1024 .bf16)
    (v1 : Vec Ideal S128x1024 .bf16) (m0 : Vec Ideal S1x1x1024 .f32) (a0 : Vec Ideal S1x144x1024 .f32) (y : Fin 1024)
    (hS : ∀ x : Fin 1024, k0_pay5 (F := Ideal) K Q W (ix2 x y) = if P (n + x.val) then ((σ (n + x.val) : ℝ) : EReal) else ⊥)
    (hW : ∀ e (x : Fin 1024), vals v1 (ix2 e x) = ((V e (n + x.val) : ℝ) : EReal))
    (h : DsMath.Inv P σ V n (m0 (ix3 0 0 y)) (fun e => a0 (ix3 0 e y))) :
    DsMath.Inv P σ V (n + 1024) (newM Q K W m0 (ix3 0 0 y)) (fun e => newA Q K W v1 m0 a0 (ix3 0 e y)) := by
  rw [newM_eq, payM_at, show (fun e => newA Q K W v1 m0 a0 (ix3 0 e y)) = _ from funext fun e => (congrFun (newA_eq Q K W v1 m0 a0) _).trans (payA_at (k0_pay5 K Q W) (vals v1) m0 a0 e y)]
  exact DsMath.step P σ V n _ _ (fun x => k0_pay5 (F := Ideal) K Q W (ix2 x y)) (fun e x => vals v1 (ix2 e x)) hS hW h

/-- What a slot's query row holds after point `t`. -/
def mS (t : Fin (cfgA ch).N) (s : Fin 8) (y : Fin 1024) : EReal := scM0_0.view.read (Elt Ideal) (traj0 ch m ρ c t.val t.isLt).2.1 (ix3 s 0 y)
def aS (t : Fin (cfgA ch).N) (s : Fin 8) (y : Fin 1024) (e : Fin 144) : EReal := scM0_1.view.read (Elt Ideal) (traj0 ch m ρ c t.val t.isLt).2.2 (ix3 s e y)

section
variable (t : Fin (cfgA ch).N) (s : Fin 8) (y : Fin 1024)
abbrev b0 := iblk ch m ρ c (0 : Fin 5) t
abbrev b1 := iblk ch m ρ c (1 : Fin 5) t
abbrev b2 := iblk ch m ρ c (2 : Fin 5) t
abbrev b3 := iblk ch m ρ c (3 : Fin 5) t
theorem mS_A (q0 : P0_0 ch t) (q1 : P0_1 ch t) : mS ch m ρ c t s y = wM_A (ms0_0 ch t) (ms0_1 ch t) (ms0_3 ch t) (b0 ch m ρ c t) (b1 ch m ρ c t) (b3 ch m ρ c t) s (ix3 0 0 y) := by
  unfold mS; rw [traj0_eq, step0_A ch m ρ c t _ q0 q1]
  dsimp only
  exact slotM_A _ _ _ _ _ _ _ _ c _ _ _ _ _ _ _ _ _ _ _ s y
theorem aS_A (q0 : P0_0 ch t) (q1 : P0_1 ch t) : aS ch m ρ c t s y = fun e => wA_A (ms0_0 ch t) (ms0_1 ch t) (ms0_2 ch t) (ms0_3 ch t) (b0 ch m ρ c t) (b1 ch m ρ c t) (b2 ch m ρ c t) (b3 ch m ρ c t) s (ix3 0 e y) := by
  funext e; unfold aS; rw [traj0_eq, step0_A ch m ρ c t _ q0 q1]
  dsimp only
  exact slotA_A _ _ _ _ _ _ _ _ c _ _ _ _ _ _ _ _ _ _ _ s e y
theorem mS_B (q0 : P0_0 ch t) (q1 : ¬P0_1 ch t) : mS ch m ρ c t s y = wM_B (ms0_0 ch t) (ms0_1 ch t) (ms0_3 ch t) (b0 ch m ρ c t) (b1 ch m ρ c t) (b3 ch m ρ c t) s (ix3 0 0 y) := by
  unfold mS; rw [traj0_eq, step0_B ch m ρ c t _ q0 q1]
  dsimp only
  exact slotM_B _ _ _ _ _ _ _ _ c _ _ _ _ _ _ _ _ _ _ _ s y
theorem aS_B (q0 : P0_0 ch t) (q1 : ¬P0_1 ch t) : aS ch m ρ c t s y = fun e => wA_B (ms0_0 ch t) (ms0_1 ch t) (ms0_2 ch t) (ms0_3 ch t) (b0 ch m ρ c t) (b1 ch m ρ c t) (b2 ch m ρ c t) (b3 ch m ρ c t) s (ix3 0 e y) := by
  funext e; unfold aS; rw [traj0_eq, step0_B ch m ρ c t _ q0 q1]
  dsimp only
  exact slotA_B _ _ _ _ _ _ _ _ c _ _ _ _ _ _ _ _ _ _ _ s e y
theorem mS_C (q0 : ¬P0_0 ch t) (q1 : P0_1 ch t) : mS ch m ρ c t s y = wM_C c (ms0_0 ch t) (ms0_1 ch t) (ms0_3 ch t) (b0 ch m ρ c t) (b1 ch m ρ c t) (b3 ch m ρ c t) (prev0 ch m ρ c t).2.1 s (ix3 0 0 y) := by
  unfold mS; rw [traj0_eq, step0_C ch m ρ c t _ q0 q1]
  dsimp only
  exact slotM_C c _ _ _ _ _ _ _ _ _ _ _ _ _ _ _ _ _ _ _ _ _ s y
theorem aS_C (q0 : ¬P0_0 ch t) (q1 : P0_1 ch t) : aS ch m ρ c t s y = fun e => wA_C c (ms0_0 ch t) (ms0_1 ch t) (ms0_2 ch t) (ms0_3 ch t) (b0 ch m ρ c t) (b1 ch m ρ c t) (b2 ch m ρ c t) (b3 ch m ρ c t) (prev0 ch m ρ c t).2.1 (prev0 ch m ρ c t).2.2 s (ix3 0 e y) := by
  funext e; unfold aS; rw [traj0_eq, step0_C ch m ρ c t _ q0 q1]
  dsimp only
  exact slotA_C c _ _ _ _ _ _ _ _ _ _ _ _ _ _ _ _ _ _ _ _ _ s e y
theorem mS_D (q0 : ¬P0_0 ch t) (q1 : ¬P0_1 ch t) : mS ch m ρ c t s y = wM_D c (ms0_0 ch t) (ms0_1 ch t) (ms0_3 ch t) (b0 ch m ρ c t) (b1 ch m ρ c t) (b3 ch m ρ c t) (prev0 ch m ρ c t).2.1 s (ix3 0 0 y) := by
  unfold mS; rw [traj0_eq, step0_D ch m ρ c t _ q0 q1]
  dsimp only
  exact slotM_D c _ _ _ _ _ _ _ _ _ _ _ _ _ _ _ _ _ _ _ _ _ s y
theorem aS_D (q0 : ¬P0_0 ch t) (q1 : ¬P0_1 ch t) : aS ch m ρ c t s y = fun e => wA_D c (ms0_0 ch t) (ms0_1 ch t) (ms0_2 ch t) (ms0_3 ch t) (b0 ch m ρ c t) (b1 ch m ρ c t) (b2 ch m ρ c t) (b3 ch m ρ c t) (prev0 ch m ρ c t).2.1 (prev0 ch m ρ c t).2.2 s (ix3 0 e y) := by
  funext e; unfold aS; rw [traj0_eq, step0_D ch m ρ c t _ q0 q1]
  dsimp only
  exact slotA_D c _ _ _ _ _ _ _ _ _ _ _ _ _ _ _ _ _ _ _ _ _ s e y
end

section
variable (hq : ∀ i, m ((c : Thread nD τ).loc main_arg2) i = (q i : EReal)) (hk : ∀ i, m ((c : Thread nD τ).loc main_arg3) i = (k i : EReal))
  (hv : ∀ i, m ((c : Thread nD τ).loc main_arg4) i = (v i : EReal)) (t : Fin (cfgA ch).N) (s : Fin 8) (y : Fin 1024)

include hq hk in
theorem hS (x : Fin 1024) :
    k0_pay5 (F := Ideal) (cols s (ms0_1 ch t) (b1 ch m ρ c t)) (cols s (ms0_0 ch t) (b0 ch m ρ c t)) (full (ms0_3 ch t) (b3 ch m ρ c t)) (ix2 x y)
      = if pick (m ((c : Thread nD τ).loc main_arg5)) (rowQ t y) (kj t * 1024 + x.val) then (score2 q k s (rowQ t y) (kj t * 1024 + x.val) : EReal) else ⊥ := by
  have hp : (b3 ch m ρ c t (ix2 x y) : EReal) = m ((c : Thread nD τ).loc main_arg5) (ix2 (key (kj t * 1024 + x.val)) (rowQ t y)) := by
    rw [key_val (rowK t x)]
    exact blk3 ch m ρ c t x y
  have hd : prod (cols s (ms0_0 ch t) (b0 ch m ρ c t)) (cols s (ms0_1 ch t) (b1 ch m ρ c t)) x y = (score2 q k s (rowQ t y) (kj t * 1024 + x.val) : EReal) :=
    (prod_eq ch m ρ c t s x y).trans (dotp_real q k _ _ hq hk _ _ _)
  rw [score_at, full_at, hd, hp]
  exact if_congr Iff.rfl rfl rfl

include hv in
theorem hW (e : Fin 144) (x : Fin 1024) : vals (rows s (ms0_2 ch t) (b2 ch m ρ c t)) (ix2 e x) = (value v s e (kj t * 1024 + x.val) : EReal) := by
  rw [vals_at]
  by_cases he : e.val < 128
  · rw [dif_pos he, rows_at]
    refine (blk2 ch m ρ c t _ x).trans ?_
    exact val_real v _ hv s ⟨e.val, he⟩ (rowK t x)
  · rw [dif_neg he, value, dif_neg he]
    rfl

theorem hnew (P : ℕ → Prop) (σ : ℕ → ℝ) (V : Fin 144 → ℕ → ℝ) (n : ℕ) (h : n = 0) : DsMath.Inv P σ V n (mNew (ix3 0 0 y)) (fun e => aNew (ix3 0 e y)) := by
  refine Or.inl ⟨mask_bot, fun k hk => absurd hk (by omega), fun e => ?_⟩
  exact Ideal.ofBits_zero_f32

theorem inv_move (W : FVec Ideal S16384x16384 .bf16) (t t' : Fin 136) (y : Fin 1024) (s : Fin 8) (h1 : qi t' = qi t) (h2 : kj t' + 1 = kj t) (M : EReal) (A : Fin 144 → EReal)
    (h : DsMath.Inv (pick W (rowQ t' y)) (score2 q k s (rowQ t' y)) (value v s) (kj t' * 1024 + 1024) M A) :
    DsMath.Inv (pick W (rowQ t y)) (score2 q k s (rowQ t y)) (value v s) (kj t * 1024) M A := by
  have hr : rowQ t' y = rowQ t y := Fin.ext (by show qi t' * 1024 + y.val = qi t * 1024 + y.val; rw [h1])
  rw [hr, show kj t' * 1024 + 1024 = kj t * 1024 by rw [← h2, Nat.add_mul]] at h
  exact h

include hq hk hv in
/-- After each point every slot holds the running maximum and sums of the keys seen so far. -/
theorem inv : ∀ (n : ℕ) (t : Fin (cfgA ch).N), t.val = n → ∀ s y,
    DsMath.Inv (pick (m ((c : Thread nD τ).loc main_arg5)) (rowQ t y)) (score2 q k s (rowQ t y)) (value v s) (kj t * 1024 + 1024) (mS ch m ρ c t s y) (aS ch m ρ c t s y) := by
  intro n
  induction n with
  | zero =>
    intro t ht s y
    have hk0 := tri_zero t ht
    have q0 : P0_0 ch t := ((decisions ch t).1).mpr hk0
    by_cases q1 : P0_1 ch t
    · rw [mS_A ch m ρ c t s y q0 q1, aS_A ch m ρ c t s y q0 q1]
      exact slot_step _ _ _ _ _ _ _ _ _ _ _ (hS ch m ρ c q k hq hk t s y) (hW ch m ρ c v hv t s) (hnew y _ _ _ _ (by rw [hk0]))
    · rw [mS_B ch m ρ c t s y q0 q1, aS_B ch m ρ c t s y q0 q1]
      exact slot_step _ _ _ _ _ _ _ _ _ _ _ (hS ch m ρ c q k hq hk t s y) (hW ch m ρ c v hv t s) (hnew y _ _ _ _ (by rw [hk0]))
  | succ n ih =>
    intro t ht s y
    by_cases q0 : P0_0 ch t
    · have hk0 := ((decisions ch t).1).mp q0
      by_cases q1 : P0_1 ch t
      · rw [mS_A ch m ρ c t s y q0 q1, aS_A ch m ρ c t s y q0 q1]
        exact slot_step _ _ _ _ _ _ _ _ _ _ _ (hS ch m ρ c q k hq hk t s y) (hW ch m ρ c v hv t s) (hnew y _ _ _ _ (by rw [hk0]))
      · rw [mS_B ch m ρ c t s y q0 q1, aS_B ch m ρ c t s y q0 q1]
        exact slot_step _ _ _ _ _ _ _ _ _ _ _ (hS ch m ρ c q k hq hk t s y) (hW ch m ρ c v hv t s) (hnew y _ _ _ _ (by rw [hk0]))
    · obtain ⟨hpos, hqi, hkj⟩ := tri_prev t (mt ((decisions ch t).1).mpr q0)
      have hp : prev0 ch m ρ c t = traj0 ch m ρ c (t.val - 1) (lt_of_le_of_lt (Nat.sub_le _ _) t.isLt) := by
        unfold prev0; rw [dif_neg (by omega)]
      have hi := ih ⟨t.val - 1, lt_of_le_of_lt (Nat.sub_le _ _) t.isLt⟩ (by show (t : Fin 136).val - 1 = n; rw [ht]; rfl) s y
      have hi' : DsMath.Inv (pick (m ((c : Thread nD τ).loc main_arg5)) (rowQ t y)) (score2 q k s (rowQ t y)) (value v s) (kj t * 1024)
          (mAt c (prev0 ch m ρ c t).2.1 s (ix3 0 0 y)) (fun e => aAt c (prev0 ch m ρ c t).2.2 s (ix3 0 e y)) := by
        have e1 : mAt c (prev0 ch m ρ c t).2.1 s (ix3 0 0 y) = scM0_0.view.read (Elt Ideal) (prev0 ch m ρ c t).2.1 (ix3 s 0 y) := slot_load _ _ s _ 0 y
        have e2 : (fun e => aAt c (prev0 ch m ρ c t).2.2 s (ix3 0 e y)) = fun e => scM0_1.view.read (Elt Ideal) (prev0 ch m ρ c t).2.2 (ix3 s e y) :=
          funext fun e => slot_load _ _ s _ e y
        rw [e1, e2, hp]
        exact inv_move q k v _ t _ y s hqi hkj _ _ hi
      by_cases q1 : P0_1 ch t
      · rw [mS_C ch m ρ c t s y q0 q1, aS_C ch m ρ c t s y q0 q1]
        exact slot_step _ _ _ _ _ _ _ _ _ _ _ (hS ch m ρ c q k hq hk t s y) (hW ch m ρ c v hv t s) hi'
      · rw [mS_D ch m ρ c t s y q0 q1, aS_D ch m ρ c t s y q0 q1]
        exact slot_step _ _ _ _ _ _ _ _ _ _ _ (hS ch m ρ c q k hq hk t s y) (hW ch m ρ c v hv t s) hi'
end

end Cert.DsIdeal.Point
end
-- ==== Proof.DsOut.lean ====
/- The block of outputs the sparse attention writes where a row of keys ends. -/
module

public import proofs.«01_k».proof.Proof.DsScore

@[expose] public section

set_option maxRecDepth 16384

noncomputable section

open Idealize.ShloMosaic Idealize.ShloMosaic.TcCoe Idealize.SL.Sem
open Cert.DsIdeal Cert.DsIdeal.Gen

namespace Cert.DsIdeal.Slots

theorem col_inb (n : ℕ) (h : n < 8) : ∀ a, (![0, n * 128] : Fin 2 → ℕ) a + S1024x128.size a ≤ S1024x1024.size a := by
  intro a
  fin_cases a
  · exact (Nat.zero_add _).le
  · show n * 128 + 128 ≤ 1024; omega

/-- The columns of the first `n` heads written in order, newest first. -/
def heads (w : Fin 8 → S1024x128.Idx → Elt Ideal .bf16) : (n : ℕ) → n ≤ 8 → List (View.Piece (Elt Ideal) S1024x1024 .bf16)
  | 0, _ => []
  | n + 1, h => ⟨Rect.unit (s := S1024x1024) ![0, n * 128] S1024x128.size (col_inb n h), w ⟨n, h⟩⟩ :: heads w n (Nat.le_of_succ_le h)

theorem read_heads (w : Fin 8 → S1024x128.Idx → Elt Ideal .bf16) (v : View sig .tc .vmem S1024x1024 .bf16) (f : v.ty.Contents (Elt Ideal))
    (n : ℕ) (hn : n ≤ 8) (h : Fin 8) (hh : h.val < n) (y : Fin 1024) (e : Fin 128) :
    v.read (Elt Ideal) (v.writes (Elt Ideal) f (heads w n hn)) (ix2 y ⟨h.val * 128 + e.val, by omega⟩) = w h (ix2 y e) := by
  induction n with
  | zero => exact absurd hh (Nat.not_lt_zero _)
  | succ n ih =>
    rcases Nat.lt_or_ge h.val n with hl | hg
    · refine (View.read_writes_cons_unit_of_not_mem v f (col_inb n hn) (w ⟨n, hn⟩) (heads w n (Nat.le_of_succ_le hn)) _ rfl 1 ?_).trans (ih _ hl)
      show h.val * 128 + e.val < n * 128 ∨ n * 128 + 128 ≤ h.val * 128 + e.val
      have := e.isLt
      omega
    · have he : h = ⟨n, hn⟩ := Fin.ext (by show h.val = n; omega)
      subst he
      refine View.read_writes_cons_unit_of_mem v f (col_inb n hn) (w ⟨n, hn⟩) (heads w n (Nat.le_of_succ_le hn)) _ (ix2 y e) rfl fun x => ?_
      fin_cases x
      · exact (Nat.zero_add _).symm
      · rfl

/-- One head's columns of the output from its slot's final sums. -/
def wO (L : List (View.Piece (Elt Ideal) S8x144x1024 .f32)) (h : Fin 8) : S1024x128.Idx → Elt Ideal .bf16 :=
  k0_pay4 (scM0_1.view.readCov (Val := Elt Ideal) L (Rect.unit (s := S8x144x1024) ![h.val, 0, 0] S1x144x1024.size (slot_inb h.val h.isLt)).toLoadRect)

/-- The quotient of a slot's sums. -/
def quot (a : Fin 144 → EReal) (e : Fin 128) : EReal := Ideal.div (a ⟨e.val, by omega⟩) (a 128)

theorem pay4_at (a) (y : Fin 1024) (e : Fin 128) : k0_pay4 (F := Ideal) a (ix2 y e) = quot (fun e => a (ix3 0 e y)) e := by
  pointwise [k0_pay4]
  rfl

theorem wO_at (w : Fin 8 → S1x144x1024.Idx → Elt Ideal .f32) (L) (h : Fin 8) (y : Fin 1024) (e : Fin 128) :
    wO (upTo w L 8 le_rfl) h (ix2 y e) = quot (fun e => w h (ix3 0 e y)) e := by
  unfold wO
  rw [pay4_at]
  refine congrFun (congrArg quot (funext fun e => ?_)) e
  exact (slot_load scM0_1.view _ h _ e y).trans (read_upTo_of_lt _ _ _ _ _ _ _ h.isLt _ _)

section
variable (c : Dev nD) (a3 a4 a5 a6 : Memref sig .tc .vmem S1024x1024 .bf16) (x0 x1 x2 x3 : S1024x1024.Idx → Elt Ideal .bf16)
  (f0 : Buf (Elt Ideal) ((c : Thread nD τ).loc cc0_scratch0)) (f1 : Buf (Elt Ideal) ((c : Thread nD τ).loc cc0_scratch1))

theorem listO_C : kernelRun0_C.sl.HO4_8 c a3 a4 a5 a6 x0 x1 x2 x3 f0 f1
    = heads (wO (kernelRun0_C.sl.HS1_8 c a3 a4 a5 a6 x0 x1 x2 x3 f0 f1)) 8 le_rfl := by
  unfold kernelRun0_C.sl.HO4_8
  rfl
theorem listO_A : kernelRun0_A.sl.HO4_8 a3 a4 a5 a6 x0 x1 x2 x3
    = heads (wO (kernelRun0_A.sl.HS1_9 a3 a4 a5 a6 x0 x1 x2 x3)) 8 le_rfl := by
  unfold kernelRun0_A.sl.HO4_8
  rfl
theorem out_C (i h3 h4 h5 h6 a7 h7 T0 T1 c0 c1) (h : Fin 8) (y : Fin 1024) (e : Fin 128) :
    out0_C_4 c i a3 h3 a4 h4 a5 h5 a6 h6 a7 h7 T0 T1 x0 x1 x2 x3 f0 f1 c0 c1 (ix2 y ⟨h.val * 128 + e.val, by omega⟩)
      = quot (fun e => wA_C c a3 a4 a5 a6 x0 x1 x2 x3 f0 f1 h (ix3 0 e y)) e := by
  unfold out0_C_4 kernelRun0_C
  dsimp only
  rw [listO_C, listA_C]
  exact (read_heads _ _ _ 8 le_rfl h h.isLt y e).trans (wO_at _ _ h y e)
theorem out_A (i h3 h4 h5 h6 a7 h7 T0 T1 c0 c1) (h : Fin 8) (y : Fin 1024) (e : Fin 128) :
    out0_A_4 c i a3 h3 a4 h4 a5 h5 a6 h6 a7 h7 T0 T1 x0 x1 x2 x3 c0 c1 (ix2 y ⟨h.val * 128 + e.val, by omega⟩)
      = quot (fun e => wA_A a3 a4 a5 a6 x0 x1 x2 x3 h (ix3 0 e y)) e := by
  unfold out0_A_4 kernelRun0_A
  dsimp only
  rw [listO_A, listA_A_8]
  exact (read_heads _ _ _ 8 le_rfl h h.isLt y e).trans (wO_at _ _ h y e)
end

end Cert.DsIdeal.Slots
end
-- ==== Proof.DsPre.lean ====
/- What the sparse attention's precondition says: the two tables' words, the choice of keys, and that queries, keys and values are real numbers. -/
module

public import proofs.«01_k».proof.Proof.Gen.Ds.Flash
public import proofs.«01_k».proof.Proof.Gen.DsIdeal.Flash
public import proofs.«01_k».proof.Proof.Gen.Pre_past_and_finite
public import proofs.«01_k».proof.Proof.DsMath
public import proofs.«01_k».proof.Defs
public import Idealize.ShloMosaic.Lib.ReduceAll
public import Idealize.ShloMosaic.Lib.WordCmp
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Pre_past_and_finite

open Idealize.ShloMosaic.WordCmp

variable [Facts]
open Facts

/-- The one index of a rank zero array. -/
abbrev z : S_.Idx := fun a => a.elim0

/-- An array whose absolute values all lie below infinity. -/
def below {F : FTy → Type} [FloatOps F] {s : Shape} (x : FVec F s .f32) : Prop :=
  ∀ i, FloatOps.cmpf CmpFPredicate.olt (Host.absf x i) (Scalar.ofBits .f32 0x7F800000#32 : F .f32) = 1#1

/-- Whether a query chose a key, as a word, and the largest word of a query's column. -/
def chosen {F : FTy → Type} [FloatOps F] (w : FVec F S16384x16384 .bf16) : IVec S16384x16384 1 :=
  cmpf .ogt (extf .f32 w bitsLt_bf16_f32) (broadcastInDim S16384x16384 ![] bcast_S_S16384x16384 (constant S_ .f32 0x00000000#32))
def le {F : FTy → Type} [FloatOps F] : IVec S16384x16384 1 :=
  cmpi .sle (broadcastInDim S16384x16384 ![0, 1] bcast_S16384x1_S16384x16384_0_1 (broadcastInDim S16384x1 ![0] bcast_S16384_S16384x1_0 (iotaInDim S16384 32 0)))
    (broadcastInDim S16384x16384 ![0, 1] bcast_S1x16384_S16384x16384_0_1 (broadcastInDim S1x16384 ![1] bcast_S16384_S1x16384_1 (iotaInDim S16384 32 0)))
/-- The greatest entry of each column of the mask. -/
def colMax {F : FTy → Type} [FloatOps F] (w : FVec F S16384x16384 .bf16) : FVec F S16384 .f32 :=
  Host.reduce FloatOps.maximumf (extf .f32 w bitsLt_bf16_f32) (constant S_ .f32 0xFF800000#32) reducesTo_S16384x16384_S16384_d0 h_S_
def positive {F : FTy → Type} [FloatOps F] (x : FVec F S16384 .f32) : IVec S16384 1 :=
  cmpf .ogt x (broadcastInDim S16384 ![] bcast_S_S16384 (constant S_ .f32 0x00000000#32))
def top {F : FTy → Type} [FloatOps F] (w : FVec F S16384x16384 .bf16) : IVec S16384 1 := positive (colMax w)

instance : Subsingleton S_.Idx := ⟨fun a b => funext fun i => i.elim0⟩

theorem parts {F : FTy → Type} [FloatOps F] (T0 T1 : IVec S136 32) (q k : FVec F S16384x1024 .bf16) (v : FVec F S1024x16384 .bf16) (w : FVec F S16384x16384 .bf16)
    (h : fn T0 T1 q k v w = fun _ => 1#1) :
    (∀ i, T0 i = lit0 (S136.rowMajor i)) ∧ (∀ i, T1 i = lit1 (S136.rowMajor i))
      ∧ below (extf .f32 q bitsLt_bf16_f32) ∧ below (extf .f32 k bitsLt_bf16_f32) ∧ below (extf .f32 v bitsLt_bf16_f32)
      ∧ (∀ i, ori (noti (chosen w)) (le (F := F)) i = 1#1) ∧ (∀ i, top w i = 1#1) := by
  have h0 := congrFun h z
  simp only [fn, fn_part1, fn_part2] at h0
  have and1 : ∀ a b : BitVec 1, IntOp.andi a b = 1#1 → a = 1#1 ∧ b = 1#1 := by decide
  obtain ⟨h1, hs⟩ := and1 _ _ h0
  obtain ⟨h1, hp⟩ := and1 _ _ h1
  obtain ⟨h1, hv⟩ := and1 _ _ h1
  obtain ⟨h1, hk⟩ := and1 _ _ h1
  obtain ⟨h1, hq⟩ := and1 _ _ h1
  obtain ⟨ha, hb⟩ := and1 _ _ h1
  have eq1 : ∀ a b : BitVec 32, IntOp.cmpi .eq a b = 1#1 → a = b := fun a b h => by
    exact eq_of_beq ((ofBool_eq_one_iff _).mp h)
  refine ⟨fun i => eq1 _ _ (Host.reduce_andi_all _ _ _ _ _ ha i), fun i => eq1 _ _ (Host.reduce_andi_all _ _ _ _ _ hb i),
    fun i => Host.reduce_andi_all _ _ _ _ _ hq i, fun i => Host.reduce_andi_all _ _ _ _ _ hk i,
    fun i => Host.reduce_andi_all _ _ _ _ _ hv i, fun i => ?_, fun i => Host.reduce_andi_all _ _ _ _ _ hs i⟩
  have := Host.reduce_andi_all _ _ _ _ _ hp i
  exact this

/-- Over the extended reals such an entry is a real number. -/
theorem real_of_below {s : Shape} (x : FVec Ideal s .f32) (h : below x) (i : s.Idx) : ∃ r : ℝ, x i = (r : EReal) := by
  have hi := h i
  have htop : Ideal.ofBits .f32 0x7F800000#32 = ⊤ := by simp [Ideal.ofBits, Ideal.ieee]
  have hlt : max (x i : EReal) (-(x i : EReal)) < ⊤ := by
    have : BitVec.ofBool (decide (max (x i : EReal) (-(x i : EReal)) < Ideal.ofBits .f32 0x7F800000#32)) = 1#1 := hi
    rw [htop] at this
    exact of_decide_eq_true ((ofBool_eq_one_iff _).mp this)
  obtain ⟨h1, h2⟩ := max_lt_iff.mp hlt
  refine ⟨(x i : EReal).toReal, (EReal.coe_toReal h1.ne ?_).symm⟩
  intro hb
  rw [hb, EReal.neg_bot] at h2
  exact lt_irrefl _ h2

/-- A chosen key does not come after its query. -/
theorem past (w : FVec Ideal S16384x16384 .bf16) (h : ∀ i, ori (noti (chosen w)) (le (F := Ideal)) i = 1#1) (k r : Fin 16384)
    (hw : 0 < (w (ix2 k r) : EReal)) : k.val ≤ r.val := by
  have hi := h (ix2 k r)
  have e : ori (noti (chosen w)) (le (F := Ideal)) (ix2 k r) = IntOp.ori (~~~BitVec.ofBool (decide (0 < (w (ix2 k r) : EReal)))) (BitVec.ofBool (decide (k.val ≤ r.val))) := by
    pointwise [chosen, le]
    rw [cmpi_sle_ofNat (by omega) (by omega)]
  rw [e, decide_eq_true hw] at hi
  by_contra hn
  rw [decide_eq_false hn] at hi
  exact absurd hi (by decide)

theorem lt_fold {N : ℕ} (b : EReal) (hb : b = ⊥) (f : Fin N → EReal) (h : 0 < Finset.univ.fold max b f) : ∃ k, 0 < f k := by
  subst hb
  rcases (Finset.lt_fold_max _).mp h with h | ⟨k, -, h⟩
  · exact absurd h not_lt_bot
  · exact ⟨k, h⟩

theorem colMax_at (w : FVec Ideal S16384x16384 .bf16) (r : Fin 16384) :
    colMax w (ix1 r) = Finset.univ.fold max (Ideal.ofBits .f32 0xFF800000#32) fun k : Fin 16384 => (w (ix2 k r) : EReal) := by
  pointwise [colMax]

theorem pos_of (x : FVec Ideal S16384 .f32) (i : S16384.Idx) (h : positive x i = 1#1) : 0 < (x i : EReal) := by
  have h' : BitVec.ofBool (decide ((Ideal.ofBits .f32 0x00000000#32 : EReal) < x i)) = 1#1 := h
  rw [Ideal.ofBits_zero_f32] at h'
  exact of_decide_eq_true ((ofBool_eq_one_iff _).mp h')

/-- And every query chose one. -/
theorem some_key (w : FVec Ideal S16384x16384 .bf16) (h : ∀ i, top w i = 1#1) (r : Fin 16384) : ∃ k : Fin 16384, 0 < (w (ix2 k r) : EReal) := by
  have hi := pos_of (colMax w) (ix1 r) (h (ix1 r))
  rw [colMax_at] at hi
  exact lt_fold _ DaMath.neg_inf _ hi

end Cert.Pre_past_and_finite

namespace Cert.Ds

theorem tab0 : ∀ i : Fin 136, Cert.Pre_past_and_finite.lit0 (S136.rowMajor (ix1 i)) = Gen.pinT_0 0 (ix1 i) := by decide +kernel
theorem tab1 : ∀ i : Fin 136, Cert.Pre_past_and_finite.lit1 (S136.rowMajor (ix1 i)) = Gen.pinT_1 0 (ix1 i) := by decide +kernel

/-- The precondition pins both tables. -/
theorem pinned_of_pre (m : (ℓ : Loc nD τ sig) → Buf (Elt Bits) ℓ) (h : Pre_Ds (hPre_past_and_finite := Cert.Pre_past_and_finite.Gen.facts) m) : Gen.Pinned 0 m := by
  refine ⟨fun c => funext fun i => ?_, fun c => funext fun i => ?_⟩
  · obtain ⟨t, rfl⟩ : ∃ t : Fin 136, i = ix1 t := ⟨i 0, eq_ix1 i⟩
    exact ((Cert.Pre_past_and_finite.parts _ _ _ _ _ _ (h c)).1 _).trans (tab0 t)
  · obtain ⟨t, rfl⟩ : ∃ t : Fin 136, i = ix1 t := ⟨i 0, eq_ix1 i⟩
    exact ((Cert.Pre_past_and_finite.parts _ _ _ _ _ _ (h c)).2.1 _).trans (tab1 t)

end Cert.Ds

namespace Cert.DsIdeal

theorem tab0 : ∀ i : Fin 136, Cert.Pre_past_and_finite.lit0 (S136.rowMajor (ix1 i)) = Gen.pinT_0 0 (ix1 i) := by decide +kernel
theorem tab1 : ∀ i : Fin 136, Cert.Pre_past_and_finite.lit1 (S136.rowMajor (ix1 i)) = Gen.pinT_1 0 (ix1 i) := by decide +kernel

theorem pinned_of_pre (m : (ℓ : Loc nD τ sig) → Buf (Elt Ideal) ℓ) (h : Pre_DsIdeal (hPre_past_and_finite := Cert.Pre_past_and_finite.Gen.facts) m) : Gen.Pinned 0 m := by
  refine ⟨fun c => funext fun i => ?_, fun c => funext fun i => ?_⟩
  · obtain ⟨t, rfl⟩ : ∃ t : Fin 136, i = ix1 t := ⟨i 0, eq_ix1 i⟩
    exact ((Cert.Pre_past_and_finite.parts _ _ _ _ _ _ (h c)).1 _).trans (tab0 t)
  · obtain ⟨t, rfl⟩ : ∃ t : Fin 136, i = ix1 t := ⟨i 0, eq_ix1 i⟩
    exact ((Cert.Pre_past_and_finite.parts _ _ _ _ _ _ (h c)).2.1 _).trans (tab1 t)

/-- And says that queries, keys and values are real numbers, and that each query chose a key and none after it. -/
theorem reals_of_pre (m : (ℓ : Loc nD τ sig) → Buf (Elt Ideal) ℓ) (h : Pre_DsIdeal (hPre_past_and_finite := Cert.Pre_past_and_finite.Gen.facts) m) (c : Dev nD) :
    ∃ (q k : S16384x1024.Idx → ℝ) (v : S1024x16384.Idx → ℝ),
      (∀ i, m ((c : Thread nD τ).loc main_arg2) i = (q i : EReal)) ∧ (∀ i, m ((c : Thread nD τ).loc main_arg3) i = (k i : EReal))
        ∧ (∀ i, m ((c : Thread nD τ).loc main_arg4) i = (v i : EReal))
        ∧ (∀ k r : Fin 16384, 0 < (show FVec Ideal S16384x16384 .bf16 from m ((c : Thread nD τ).loc main_arg5)) (ix2 k r) → k.val ≤ r.val)
        ∧ ∀ r : Fin 16384, ∃ k : Fin 16384, 0 < (show FVec Ideal S16384x16384 .bf16 from m ((c : Thread nD τ).loc main_arg5)) (ix2 k r) := by
  obtain ⟨-, -, hq, hk, hv, hp, hs⟩ := Cert.Pre_past_and_finite.parts _ _ _ _ _ _ (h c)
  choose q hq using Cert.Pre_past_and_finite.real_of_below _ hq
  choose k hk using Cert.Pre_past_and_finite.real_of_below _ hk
  choose v hv using Cert.Pre_past_and_finite.real_of_below _ hv
  exact ⟨q, k, v, hq, hk, hv, Cert.Pre_past_and_finite.past _ hp, Cert.Pre_past_and_finite.some_key _ hs⟩

end Cert.DsIdeal
end
-- ==== Proof.DsValue.lean ====
/- The sparse attention's result is the reference's, and its claim. -/
module

public import proofs.«01_k».proof.Proof.DsPoint
public import proofs.«01_k».proof.Proof.DsOut
public import proofs.«01_k».proof.Proof.DsPre
public import proofs.«01_k».proof.Proof.Gen.DsRefIdeal.Run
public import proofs.«01_k».proof.Proof.Gen.DsRefIdeal.Read
public import proofs.«01_k».proof.Defs

@[expose] public section

set_option maxRecDepth 16384

noncomputable section

open Idealize.ShloMosaic Idealize.ShloMosaic.TcCoe Idealize.SL.Sem
open Cert.DsIdeal Cert.DsIdeal.Gen Cert.DsIdeal.Slots Cert.DsIdeal.Point Cert.DsRefIdeal.Val Cert.DsRefIdeal.Read

namespace Cert.DsIdeal.Out

variable (ch : Fin 1) (m : (ℓ : Loc nD τ sig) → Buf (Elt Ideal) ℓ) (ρ : Dev nD → PrngReg) (c : Dev nD)

open scoped Classical

/-- Where a row of keys ends the block of outputs is formed from the eight slots. -/
theorem out_at (t : Fin (cfgA ch).N) (q1 : P0_1 ch t) (h : Fin 8) (y : Fin 1024) (e : Fin 128) :
    (traj0 ch m ρ c t.val t.isLt).1 (ix2 y ⟨h.val * 128 + e.val, by omega⟩) = quot (aS ch m ρ c t h y) e := by
  by_cases q0 : P0_0 ch t
  · rw [aS_A ch m ρ c t h y q0 q1, traj0_eq, step0_A ch m ρ c t _ q0 q1]
    dsimp only
    exact out_A c _ _ _ _ _ _ _ _ _ _ _ _ _ _ _ _ _ _ _ h y e
  · rw [aS_C ch m ρ c t h y q0 q1, traj0_eq, step0_C ch m ρ c t _ q0 q1]
    dsimp only
    exact out_C c _ _ _ _ _ _ _ _ _ _ _ _ _ _ _ _ _ _ _ _ _ h y e

variable (q k : S16384x1024.Idx → ℝ) (v : S1024x16384.Idx → ℝ)
  (hq : ∀ i, m ((c : Thread nD τ).loc main_arg2) i = (q i : EReal)) (hk : ∀ i, m ((c : Thread nD τ).loc main_arg3) i = (k i : EReal))
  (hv : ∀ i, m ((c : Thread nD τ).loc main_arg4) i = (v i : EReal))
  (hp : ∀ k r : Fin 16384, 0 < (show FVec Ideal S16384x16384 .bf16 from m ((c : Thread nD τ).loc main_arg5)) (ix2 k r) → k.val ≤ r.val)
  (hs : ∀ r : Fin 16384, ∃ k : Fin 16384, 0 < (show FVec Ideal S16384x16384 .bf16 from m ((c : Thread nD τ).loc main_arg5)) (ix2 k r))

include hs in
theorem picked (r : Fin 16384) : ∃ n < 16384, pick (m ((c : Thread nD τ).loc main_arg5)) r n := by
  obtain ⟨k, hk⟩ := hs r
  refine ⟨k.val, k.isLt, ?_⟩
  unfold pick
  rw [key_val]
  exact hk

include hp in
theorem pick_le (r : Fin 16384) (n : ℕ) (hn : n < 16384) (h : pick (m ((c : Thread nD τ).loc main_arg5)) r n) : n ≤ r.val := by
  have := hp (key n) r h
  rwa [show (key n).val = n from Nat.mod_eq_of_lt hn] at this

include hq hk hv hp hs in
/-- At the last block of a row of keys a slot's sums run over every key. -/
theorem slot_sum (t : Fin (cfgA ch).N) (hkq : kj t = qi t) (h : Fin 8) (y : Fin 1024) : ∃ M : ℝ,
    (∀ e : Fin 128, aS ch m ρ c t h y ⟨e.val, by omega⟩
        = ((∑ n ∈ Finset.range 16384, value v h ⟨e.val, by omega⟩ n * DsMath.wt (pick (m ((c : Thread nD τ).loc main_arg5)) (rowQ t y)) (score2 q k h (rowQ t y)) M n : ℝ) : EReal))
      ∧ aS ch m ρ c t h y 128 = ((∑ n ∈ Finset.range 16384, DsMath.wt (pick (m ((c : Thread nD τ).loc main_arg5)) (rowQ t y)) (score2 q k h (rowQ t y)) M n : ℝ) : EReal) := by
  have hr : (rowQ t y).val < kj t * 1024 + 1024 := by
    show qi t * 1024 + y.val < kj t * 1024 + 1024
    rw [hkq]; omega
  have hN : kj t * 1024 + 1024 ≤ 16384 := by
    have := (tri t).2
    have := (tri t).1
    omega
  have hl : ∀ n < 16384, pick (m ((c : Thread nD τ).loc main_arg5)) (rowQ t y) n → n < kj t * 1024 + 1024 :=
    fun n hn h => lt_of_le_of_lt (pick_le m c hp _ n hn h) hr
  rcases inv ch m ρ c q k v hq hk hv t.val t rfl h y with ⟨-, hno, -⟩ | ⟨M, -, ha⟩
  · obtain ⟨n, hn, hx⟩ := picked m c hs (rowQ t y)
    exact absurd hx (hno n (hl n hn hx))
  refine ⟨M, fun e => (ha _).trans (congrArg _ (DsMath.sum_tail _ _ _ M _ _ hl hN)), ?_⟩
  refine (ha 128).trans (congrArg _ ((DsMath.sum_tail _ _ _ M _ _ hl hN).trans (Finset.sum_congr rfl fun n _ => ?_)))
  rw [value, dif_neg (by decide), one_mul]

theorem score_real (Q K : FVec Ideal S16384x1024 .bf16) (W : FVec Ideal S16384x16384 .bf16) (hQ : ∀ i, Q i = (q i : EReal)) (hK : ∀ i, K i = (k i : EReal)) (h : Fin 8) (r n : Fin 16384) :
    score Q K W h r n = if pick W r n.val then (score2 q k h r n.val : EReal) else ⊥ := by
  have h0 : pick W r n.val = (0 < (W (ix2 n r) : EReal)) := by unfold pick; rw [key_val]
  unfold score
  rw [dotp_real q k Q K hQ hK]
  exact if_congr (iff_of_eq h0.symm) rfl rfl

include hq hk hv hp hs in
/-- A slot's quotients are the reference's mixture. -/
theorem mix_at (t : Fin (cfgA ch).N) (hkq : kj t = qi t) (h : Fin 8) (y : Fin 1024) (e : Fin 128) :
    quot (aS ch m ρ c t h y) e = mix (m ((c : Thread nD τ).loc main_arg2)) (m ((c : Thread nD τ).loc main_arg3)) (m ((c : Thread nD τ).loc main_arg4)) (m ((c : Thread nD τ).loc main_arg5)) (rowQ t y) h e := by
  obtain ⟨M, a, z⟩ := slot_sum ch m ρ c q k v hq hk hv hp hs t hkq h y
  unfold quot mix soft
  rw [a, z]
  exact DsMath.combine _ _ (value v h ⟨e.val, by omega⟩) M 16384 (picked m c hs _) _
    (fun n => score_real q k _ _ _ hq hk h _ n) _ (fun n => val_real v _ hv h e n)

include hq hk hv hp hs in
theorem run_at (t : Fin (cfgA ch).N) (q1 : P0_1 ch t) (y n : Fin 1024) :
    (traj0 ch m ρ c t.val t.isLt).1 (ix2 y n) = val_main_v26 (F := Ideal) (m ((c : Thread nD τ).loc main_arg2)) (m ((c : Thread nD τ).loc main_arg3)) (m ((c : Thread nD τ).loc main_arg4)) (m ((c : Thread nD τ).loc main_arg5)) (ix2 (rowQ t y) n) := by
  have hn : n = ⟨(⟨n.val / 128, by omega⟩ : Fin 8).val * 128 + (⟨n.val % 128, by omega⟩ : Fin 128).val, by
      show n.val / 128 * 128 + n.val % 128 < 1024; omega⟩ := Fin.ext (by show n.val = n.val / 128 * 128 + n.val % 128; omega)
  refine (congrArg (fun n => (traj0 ch m ρ c t.val t.isLt).1 (ix2 y n)) hn).trans ((out_at ch m ρ c t q1 _ y _).trans ?_)
  rw [mix_at ch m ρ c q k v hq hk hv hp hs t (((decisions ch t).2).mp q1)]
  refine (ref_at _ _ _ _ (rowQ t y) _ _).symm.trans ?_
  exact congrArg (fun n => val_main_v26 (F := Ideal) (m ((c : Thread nD τ).loc main_arg2)) (m ((c : Thread nD τ).loc main_arg3)) (m ((c : Thread nD τ).loc main_arg4)) (m ((c : Thread nD τ).loc main_arg5)) (ix2 (rowQ t y) n)) hn.symm

theorem flushes (t : Fin (cfgA ch).N) (hf : ((cfgA ch).win (4 : Fin 5)).flush t = true) : P0_1 ch t := by
  by_contra q1
  by_cases q0 : P0_0 ch t
  · have := (sched0_B ch t q0 q1).2.1
    rw [hf] at this
    exact absurd this (by decide)
  · have := (sched0_D ch t q0 q1).2.1
    rw [hf] at this
    exact absurd this (by decide)

include hq hk hv hp hs in
/-- The result array after the run is the reference's. -/
theorem final : (dats 0 m ρ 0 c).arrAt 4 (cfgA 0).N = val_main_v26 (F := Ideal) (m ((c : Thread nD τ).loc main_arg2)) (m ((c : Thread nD τ).loc main_arg3)) (m ((c : Thread nD τ).loc main_arg4)) (m ((c : Thread nD τ).loc main_arg5)) := by
  refine (dats 0 m ρ 0 c).arrAt_eq_of_covers 4 _ (by decide +kernel) fun t hf y => ?_
  blk_simp
  rw [after0_4]
  have q1 := flushes 0 t hf
  obtain ⟨a, n, rfl⟩ : ∃ a n : Fin 1024, y = ix2 a n := ⟨y 0, y 1, eq_ix2 y⟩
  rw [run_at 0 m ρ c q k v hq hk hv hp hs t q1 a n]
  have ht := idx 0 t
  refine congrArg (val_main_v26 (F := Ideal) _ _ _ _) ?_
  blk_point [ht]

end Cert.DsIdeal.Out

namespace Cert.Proof

open Idealize.ShloMosaic Idealize.SL.Sem

/-- The sparse attention's claim. -/
theorem alg_ds : Cert.algebraic_DsIdeal_DsRefIdeal (hDsIdeal := Cert.DsIdeal.Gen.facts) (hDsRefIdeal := Cert.DsRefIdeal.Gen.facts)
    (hPre_past_and_finite := Cert.Pre_past_and_finite.Gen.facts) := by
  intro m g m' g' hpre hagree
  have hp := Cert.DsIdeal.pinned_of_pre m hpre
  refine ⟨fun c => (Cert.DsIdeal.Gen.dats 0 m g 0 c).arrAt 4 (Cert.DsIdeal.Gen.cfgA 0).N, ?_, ?_⟩
  · refine (θ_run _ _ _).mono (fun r h c => ⟨(h.1 c).1 (4 : Fin 5), h.2 c⟩)
      (θ_run_and (Cert.DsIdeal.Gen.run_main 0 m g hp) (Cert.DsIdeal.Gen.unchanged 0 m g hp))
  · refine (θ_run _ _ _).mono (fun r h c => ⟨(h c).1.trans ((Cert.DsRefIdeal.Read.val_main_v26_eq ..).trans ?_), (h c).2⟩)
      (Cert.DsRefIdeal.Value.run m' g')
    obtain ⟨a0, a1, a2, a3, a4, a5⟩ := hagree c
    rw [a2, a3, a4, a5]
    obtain ⟨q, k, v, hq, hk, hv, hl, hs⟩ := Cert.DsIdeal.reals_of_pre m hpre c
    exact (Cert.DsIdeal.Out.final m g c q k v hq hk hv hl hs).symm

end Cert.Proof

end
-- ==== Proof.InValue.lean ====
module

public import proofs.«01_k».proof.Proof.Gen.InIdeal.Frame
public import proofs.«01_k».proof.Proof.Gen.InRefIdeal.Read
public import Idealize.ShloMosaic.Lib.Pipeline.ValueKit
public import Idealize.ShloMosaic.Lib.Claim
public import proofs.«01_k».proof.Defs

@[expose] public section

set_option maxRecDepth 16384

noncomputable section

namespace Cert.InIdeal.Value

open Cert.InIdeal Cert.InIdeal.Gen Idealize.ShloMosaic Idealize.ShloMosaic.TcCoe Idealize.SL.Sem
open Idealize.ShloMosaic.Pipeline (Dat)
open Cert.InRefIdeal.Read (val_main_v15 val_main_v14 val_main_v13 val_main_v12 val_main_v11 val_main_v10 val_main_v9 val_main_v8 val_main_v7 val_main_v6 val_main_v5 val_main_v4 val_main_v3 val_main_v2 val_main_v1 val_main_v0)

variable (m : (ℓ : Loc nD τ sig) → Buf (Elt Ideal) ℓ)

/-- Which block each window is on at grid point `t`. -/
theorem idx : ∀ t : Fin cfg0.N, win0_0.index t = ![t.val % 32, 0] ∧ win0_1.index t = ![0, t.val / 32] ∧ win0_2.index t = ![t.val % 32, t.val / 32] :=
  (by decide +kernel : ∀ t : Fin grid0.N, _)

/-- The column of `w_in` that column `j` of the kernel's regrouped weight holds. -/
def col (j : Fin 16384) : Fin 16512 :=
  ⟨if j.val < 8192 then j.val + 3072 else if j.val < 11264 then j.val - 8192 else j.val + 32, by split_ifs <;> omega⟩

theorem col_val (j : Fin 16384) : (j.val < 8192 → (col j).val = j.val + 3072)
    ∧ (8192 ≤ j.val → j.val < 11264 → (col j).val = j.val - 8192) ∧ (11264 ≤ j.val → (col j).val = j.val + 32) := by
  refine ⟨fun h => ?_, fun h h' => ?_, fun h => ?_⟩ <;> simp only [col] <;> split_ifs <;> omega

/-- The weight as the host regroups it: nine blocks of columns of `w_in`, side by side. -/
def regrouped (W : FVec Ideal S4096x16512 .f32) : FVec Ideal S4096x16384 .bf16 :=
  truncf .bf16 (concatenate S4096x16384 1 [⟨S4096x6144, extractStridedSlice S4096x6144 ![0, 3072] W slices_S4096x16512_S4096x6144_0_3072⟩, ⟨S4096x2048, extractStridedSlice S4096x2048 ![0, 9216] W slices_S4096x16512_S4096x2048_0_9216⟩, ⟨S4096x1024, extractStridedSlice S4096x1024 ![0, 0] W slices_S4096x16512_S4096x1024_0_0⟩, ⟨S4096x1024, extractStridedSlice S4096x1024 ![0, 1024] W slices_S4096x16512_S4096x1024_0_1024⟩, ⟨S4096x1024, extractStridedSlice S4096x1024 ![0, 2048] W slices_S4096x16512_S4096x1024_0_2048⟩, ⟨S4096x1024, extractStridedSlice S4096x1024 ![0, 11296] W slices_S4096x16512_S4096x1024_0_11296⟩, ⟨S4096x1024, extractStridedSlice S4096x1024 ![0, 12320] W slices_S4096x16512_S4096x1024_0_12320⟩, ⟨S4096x1024, extractStridedSlice S4096x1024 ![0, 13344] W slices_S4096x16512_S4096x1024_0_13344⟩, ⟨S4096x2048, extractStridedSlice S4096x2048 ![0, 14368] W slices_S4096x16512_S4096x2048_0_14368⟩] concatenates_S4096x6144_S4096x2048_S4096x1024_S4096x1024_S4096x1024_S4096x1024_S4096x1024_S4096x1024_S4096x2048_S4096x16384_d1) bitsLt_bf16_f32

theorem pieces_congr (p0 q0 : FVec Ideal S4096x6144 .f32) (p1 q1 : FVec Ideal S4096x2048 .f32) (p2 q2 : FVec Ideal S4096x1024 .f32) (p3 q3 : FVec Ideal S4096x1024 .f32) (p4 q4 : FVec Ideal S4096x1024 .f32) (p5 q5 : FVec Ideal S4096x1024 .f32) (p6 q6 : FVec Ideal S4096x1024 .f32) (p7 q7 : FVec Ideal S4096x1024 .f32) (p8 q8 : FVec Ideal S4096x2048 .f32)
    (h0 : p0 = q0) (h1 : p1 = q1) (h2 : p2 = q2) (h3 : p3 = q3) (h4 : p4 = q4) (h5 : p5 = q5) (h6 : p6 = q6) (h7 : p7 = q7) (h8 : p8 = q8) :
    truncf .bf16 (concatenate S4096x16384 1 [⟨S4096x6144, p0⟩, ⟨S4096x2048, p1⟩, ⟨S4096x1024, p2⟩, ⟨S4096x1024, p3⟩, ⟨S4096x1024, p4⟩, ⟨S4096x1024, p5⟩, ⟨S4096x1024, p6⟩, ⟨S4096x1024, p7⟩, ⟨S4096x2048, p8⟩] concatenates_S4096x6144_S4096x2048_S4096x1024_S4096x1024_S4096x1024_S4096x1024_S4096x1024_S4096x1024_S4096x2048_S4096x16384_d1) bitsLt_bf16_f32
      = truncf .bf16 (concatenate S4096x16384 1 [⟨S4096x6144, q0⟩, ⟨S4096x2048, q1⟩, ⟨S4096x1024, q2⟩, ⟨S4096x1024, q3⟩, ⟨S4096x1024, q4⟩, ⟨S4096x1024, q5⟩, ⟨S4096x1024, q6⟩, ⟨S4096x1024, q7⟩, ⟨S4096x2048, q8⟩] concatenates_S4096x6144_S4096x2048_S4096x1024_S4096x1024_S4096x1024_S4096x1024_S4096x1024_S4096x1024_S4096x2048_S4096x16384_d1) bitsLt_bf16_f32 := by
  subst h0 h1 h2 h3 h4 h5 h6 h7 h8
  rfl

set_option maxHeartbeats 1600000 in
theorem entry_weight (c : Dev nD) : V m c main_v14 = regrouped (m ((c : Thread nD τ).loc main_arg1)) := by
  show StableHlo.after hostOps0 (fun b => m (c, b)) (Proc.devRef .tc main_v14) = _
  unfold regrouped
  simp only [StableHlo.after_cons, StableHlo.after_nil]
  rw [StableHlo.unary_result_ne]; rotate_left; decide
  rw [StableHlo.nary_result_ne]; rotate_left; decide
  rw [StableHlo.unary_result, StableHlo.nary_result]
  refine pieces_congr _ _ _ _ _ _ _ _ _ _ _ _ _ _ _ _ _ _ ?_ ?_ ?_ ?_ ?_ ?_ ?_ ?_ ?_
  · change HloOp.result _ _ (Proc.devRef .tc main_v3) = _
    repeat first | rw [StableHlo.unary_result] | (rw [StableHlo.unary_result_ne]; rotate_left; decide)
  · change HloOp.result _ _ (Proc.devRef .tc main_v4) = _
    repeat first | rw [StableHlo.unary_result] | (rw [StableHlo.unary_result_ne]; rotate_left; decide)
  · change HloOp.result _ _ (Proc.devRef .tc main_v0) = _
    repeat first | rw [StableHlo.unary_result] | (rw [StableHlo.unary_result_ne]; rotate_left; decide)
  · change HloOp.result _ _ (Proc.devRef .tc main_v1) = _
    repeat first | rw [StableHlo.unary_result] | (rw [StableHlo.unary_result_ne]; rotate_left; decide)
  · change HloOp.result _ _ (Proc.devRef .tc main_v2) = _
    repeat first | rw [StableHlo.unary_result] | (rw [StableHlo.unary_result_ne]; rotate_left; decide)
  · change HloOp.result _ _ (Proc.devRef .tc main_v7) = _
    repeat first | rw [StableHlo.unary_result] | (rw [StableHlo.unary_result_ne]; rotate_left; decide)
  · change HloOp.result _ _ (Proc.devRef .tc main_v8) = _
    repeat first | rw [StableHlo.unary_result] | (rw [StableHlo.unary_result_ne]; rotate_left; decide)
  · change HloOp.result _ _ (Proc.devRef .tc main_v9) = _
    repeat first | rw [StableHlo.unary_result] | (rw [StableHlo.unary_result_ne]; rotate_left; decide)
  · change HloOp.result _ _ (Proc.devRef .tc main_v10) = _
    repeat first | rw [StableHlo.unary_result] | (rw [StableHlo.unary_result_ne]; rotate_left; decide)

/-- The regrouped weight, column by column. -/
theorem regrouped_at (W : FVec Ideal S4096x16512 .f32) (k : Fin 4096) (j : Fin 16384) :
    regrouped W (ix2 k j) = W (ix2 k (col j)) := by
  have hc := col_val j
  pointwise [regrouped]
  split_ifs
  all_goals
    refine congrArg W ((ix2_inj ..).2 ⟨rfl, Fin.ext ?_⟩)
    dsimp only
    omega

/-- The weight the region reads, column by column. -/
theorem weight_at (c : Dev nD) (k : Fin 4096) (j : Fin 16384) :
    V m c main_v14 (ix2 k j) = m ((c : Thread nD τ).loc main_arg1) (ix2 k (col j)) := by
  rw [entry_weight]
  exact regrouped_at _ k j

/-- The reference's result, column by column: the same columns of the product. -/
theorem ref_at (X : FVec Ideal S16384x4096 .bf16) (W : FVec Ideal S4096x16512 .f32) (i : S16384x16384.Idx) :
    val_main_v15 (F := Ideal) X W i = ∑ k : Fin 4096, X (ix2 (i 0) k) * W (ix2 k (col (i 1))) := by
  idx_vars i
  have hc := col_val i1
  pointwise [val_main_v15, val_main_v14, val_main_v13, val_main_v12, val_main_v11, val_main_v10, val_main_v9, val_main_v8, val_main_v7, val_main_v6, val_main_v5, val_main_v4, val_main_v3, val_main_v2, val_main_v1, val_main_v0]
  split_ifs
  all_goals
    refine Finset.sum_congr rfl fun k _ => congrArg _ (congrArg _ ((ix2_inj ..).2 ⟨rfl, Fin.ext ?_⟩))
    dsimp only
    omega

/-- The block that point `t` computes, entry by entry. -/
theorem point (c : Dev nD) (t : Fin cfg0.N) (y) :
    k0_pay1 (F := Ideal) (iblk m c 0 t) (iblk m c 1 t) y
      = val_main_v15 (F := Ideal) (m ((c : Thread nD τ).loc main_arg0)) (m ((c : Thread nD τ).loc main_arg1))
          (((cfg0.win 2).blk t).view.emb y) := by
  rw [ref_at]
  pointwise [k0_pay1]
  refine Finset.sum_congr rfl fun k _ => Ideal.mul_congr ?_ ?_
  · blk_ext [iblk, V, idx t]
  · refine Eq.trans ?_ (weight_at m c k (((cfg0.win 2).blk t).view.emb y 1))
    blk_ext [iblk, idx t]

/-- The result array after the run is the reference's. -/
theorem final (c : Dev nD) : (dats m 0 c).arrAt 2 (cfgs 0).N
    = val_main_v15 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InIdeal.Value

namespace Cert.Proof

open Idealize.ShloMosaic Idealize.SL.Sem

/-- The claim of `In`. -/
theorem alg_in : Cert.algebraic_InIdeal_InRefIdeal
    (hInIdeal := Cert.InIdeal.Gen.facts) (hInRefIdeal := Cert.InRefIdeal.Gen.facts) := by
  pair_intro
  · run_from Cert.InIdeal.Gen.run_main m g
  · run_from Cert.InRefIdeal.Value.run m' g'
    exact (Cert.InIdeal.Value.final m c).symm

end Cert.Proof

end
-- ==== Proof.ExpertOff.lean ====
module

public import proofs.«01_k».proof.Proof.Gen.ExpertIdeal.Frame
public import proofs.«01_k».proof.Proof.Gen.ExpertRefIdeal.Read
public import Idealize.ShloMosaic.Lib.Pipeline.ValueKit
public import Idealize.ShloMosaic.Lib.Claim
public import proofs.«01_k».proof.Defs

@[expose] public section

set_option maxRecDepth 16384

noncomputable section

namespace Cert.ExpertIdeal.Value

open Cert.ExpertIdeal Cert.ExpertIdeal.Gen Idealize.ShloMosaic Idealize.ShloMosaic.TcCoe Idealize.SL.Sem
open Idealize.ShloMosaic.Pipeline (Dat)

/-- The row of `phi` and `e1` that expert tile `n` reads at its `a`-th step, as the kernel computes it. -/
theorem row_word : ∀ (n : Fin 32) (a : Fin 4), (Scalar.indexCast (Scalar.addi (Scalar.muli
    (BitVec.ofNat 32 n.val) 4#32) (BitVec.ofNat 32 a.val))).toNat = 4 * n.val + a.val := by decide +kernel

theorem coord1 : ∀ t : Fin grid0.N, (grid0.coords t 1).val = t.val % 32 := by decide +kernel

theorem row_at (t : Fin grid0.N) (a : Fin 4) : (Scalar.indexCast (Scalar.addi (Scalar.muli
    (BitVec.ofNat 32 (grid0.coords t 1).val) 4#32) (BitVec.ofNat 32 a.val))).toNat = 4 * (t.val % 32) + a.val := by
  rw [coord1 t]; exact row_word ⟨t.val % 32, Nat.mod_lt _ (by decide)⟩ a

end Cert.ExpertIdeal.Value
end
-- ==== Proof.ExpertStep.lean ====
module

public import proofs.«01_k».proof.Proof.ExpertOff
public import proofs.«01_k».proof.Proof.Gen.ExpertRefIdeal.Read
public import Idealize.ShloMosaic.Lib.Pipeline.ValueKit
public import Idealize.ShloMosaic.Lib.Claim
public import proofs.«01_k».proof.Defs

@[expose] public section

set_option maxRecDepth 16384

noncomputable section

namespace Cert.ExpertIdeal.Value

open Cert.ExpertIdeal Cert.ExpertIdeal.Gen Idealize.ShloMosaic Idealize.ShloMosaic.TcCoe Idealize.SL.Sem
open Idealize.ShloMosaic.Pipeline (Dat)

/-- One head's gate of one expert from its three pieces: the product where the second factor reaches its threshold. -/
def one (E : Vec Ideal S1x128x512 .f32) (p q : Vec Ideal S1x1x512 .f32) (b : Fin 128) (s : Fin 512) : EReal :=
  if p (ix3 0 0 s) ≤ E (ix3 0 b s) then q (ix3 0 0 s) * E (ix3 0 b s) else 0

/-- The gate of expert `(n, b)` at token `s`, summed over the eight heads. -/
def gate (X5 X3 X4 : FVec Ideal S8x128x512 .f32) (n b : Fin 128) (s : Fin 512) : EReal :=
  ∑ h : Fin 8, if X3 (ix3 h n s) ≤ X5 (ix3 h b s) then X4 (ix3 h n s) * X5 (ix3 h b s) else 0

/-- The tanh form of gelu, as the kernel orders it. -/
def gelu (S : EReal) : EReal :=
  (Ideal.ofBits FTy.f32 1056964608#32 * S) * (1 + Ideal.tanh (Ideal.ofBits FTy.f32 1061962282#32 *
    (S + Ideal.ofBits FTy.f32 1027024659#32 * ((S * S) * S))))

/-- What the `e`-th expert of tile `j` adds to a block of the result. -/
def summand (u x : FVec Ideal S512x4096 .bf16) (X5 X3 X4 : FVec Ideal S8x128x512 .f32) (v : FVec Ideal S512x4096 .bf16)
    (j : Fin 32) (y : S512x4096.Idx) (e : Fin 512) : EReal :=
  gate X5 X3 X4 ⟨4 * j.val + e.val / 128, by omega⟩ ⟨e.val % 128, by omega⟩ (y 0)
    * gelu (∑ k, u (ix2 e k) * x (ix2 (y 0) k)) * v (ix2 e (y 1))

/-- What expert tile `j` adds to a block of the result. -/
def part (u x : FVec Ideal S512x4096 .bf16) (X5 X3 X4 : FVec Ideal S8x128x512 .f32) (v : FVec Ideal S512x4096 .bf16)
    (j : Fin 32) (y : S512x4096.Idx) : EReal :=
  ∑ e : Fin 512, summand u x X5 X3 X4 v j y e

/-! The four rows of experts of a tile, each a chain of eight heads. -/

theorem row0 (E0 E1 E2 E3 E4 E5 E6 E7 : Vec Ideal S1x128x512 .f32) (p0 p1 p2 p3 p4 p5 p6 p7 q0 q1 q2 q3 q4 q5 q6 q7 : Vec Ideal S1x1x512 .f32) (b : Fin 128) (s : Fin 512) :
    k0_pay10 (F := Ideal) (k0_pay8 (k0_pay5 (k0_pay4 (E0) (p0) (q0)) (E1) (p1) (q1) (E2) (p2) (q2)) (k0_pay6 (E3)) (k0_pay7 (E3) (p3)) (q3) (E4) (p4) (q4) (E5) (p5) (q5)) (k0_pay9 (E6)) (p6) (q6) (E7) (p7) (q7) (ix2 b s)
      = one E0 p0 q0 b s + one E1 p1 q1 b s + one E2 p2 q2 b s + one E3 p3 q3 b s + one E4 p4 q4 b s + one E5 p5 q5 b s + one E6 p6 q6 b s + one E7 p7 q7 b s := by
  pointwise [k0_pay4, k0_pay5, k0_pay6, k0_pay7, k0_pay8, k0_pay9, k0_pay10]
  rfl

theorem row1 (E0 E1 E2 E3 E4 E5 E6 E7 : Vec Ideal S1x128x512 .f32) (p0 p1 p2 p3 p4 p5 p6 p7 q0 q1 q2 q3 q4 q5 q6 q7 : Vec Ideal S1x1x512 .f32) (b : Fin 128) (s : Fin 512) :
    k0_pay20 (F := Ideal) (k0_pay15 (k0_pay13 (k0_pay11 (E0)) (k0_pay12 (E0) (p0)) (q0) (E1) (p1) (q1) (E2) (p2) (q2)) (k0_pay14 (E3)) (p3) (q3) (E4) (p4) (q4)) (k0_pay17 (E5) (p5)) (k0_pay18 (E5) (q5)) k0_pay19 (E6) (p6) (q6) (E7) (p7) (q7) (ix2 b s)
      = one E0 p0 q0 b s + one E1 p1 q1 b s + one E2 p2 q2 b s + one E3 p3 q3 b s + one E4 p4 q4 b s + one E5 p5 q5 b s + one E6 p6 q6 b s + one E7 p7 q7 b s := by
  pointwise [k0_pay11, k0_pay12, k0_pay13, k0_pay14, k0_pay15, k0_pay16, k0_pay17, k0_pay18, k0_pay19, k0_pay20]
  rfl

theorem row2 (E0 E1 E2 E3 E4 E5 E6 E7 : Vec Ideal S1x128x512 .f32) (p0 p1 p2 p3 p4 p5 p6 p7 q0 q1 q2 q3 q4 q5 q6 q7 : Vec Ideal S1x1x512 .f32) (b : Fin 128) (s : Fin 512) :
    k0_pay26 (F := Ideal) (k0_pay23 (k0_pay22 (k0_pay21 (E0)) (p0) (q0) (E1) (p1) (q1) (E2) (p2) (q2)) (E3) (p3) (q3) (E4) (p4) (q4)) (k0_pay24 (E5)) (k0_pay25 (E5) (p5)) (q5) (E6) (p6) (q6) (E7) (p7) (q7) (ix2 b s)
      = one E0 p0 q0 b s + one E1 p1 q1 b s + one E2 p2 q2 b s + one E3 p3 q3 b s + one E4 p4 q4 b s + one E5 p5 q5 b s + one E6 p6 q6 b s + one E7 p7 q7 b s := by
  pointwise [k0_pay21, k0_pay22, k0_pay23, k0_pay24, k0_pay25, k0_pay26]
  rfl

theorem row3 (E0 E1 E2 E3 E4 E5 E6 E7 : Vec Ideal S1x128x512 .f32) (p0 p1 p2 p3 p4 p5 p6 p7 q0 q1 q2 q3 q4 q5 q6 q7 : Vec Ideal S1x1x512 .f32) (b : Fin 128) (s : Fin 512) :
    (k0_pay32 (F := Ideal) (k0_pay30 (k0_pay27 (E0) (p0) (q0) (E1) (p1) (q1)) (k0_pay28 (E2)) (k0_pay29 (E2) (p2)) (q2) (E3) (p3) (q3) (E4) (p4) (q4)) (k0_pay31 (E5)) (p5) (q5) (E6) (p6) (q6)) (ix2 b s) + Scalar.select (k0_pay34 (F := Ideal) (E7) (p7) (ix2 b s)) (k0_pay35 (F := Ideal) (E7) (q7) (ix2 b s)) 0
      = one E0 p0 q0 b s + one E1 p1 q1 b s + one E2 p2 q2 b s + one E3 p3 q3 b s + one E4 p4 q4 b s + one E5 p5 q5 b s + one E6 p6 q6 b s + one E7 p7 q7 b s := by
  pointwise [k0_pay27, k0_pay28, k0_pay29, k0_pay30, k0_pay31, k0_pay32, k0_pay33, k0_pay34, k0_pay35]
  rfl

theorem ite_parts {a a' b b' c c' : EReal} (ha : a = a') (hb : b = b') (hc : c = c') :
    (if a ≤ b then c * b else 0) = if a' ≤ b' then c' * b' else 0 := by subst ha hb hc; rfl

/-- A head's pieces read out of the staged blocks. -/
theorem one_ld (X5 X3 X4 : FVec Ideal S8x128x512 .f32) (o5 o3 o4 : Fin 3 → Nat) (i5 i3 i4) (h : Fin 8) (n b : Fin 128)
    (s : Fin 512) (h5 : o5 = ![h.val, 0, 0]) (h3 : o3 = ![h.val, n.val, 0]) (h4 : o4 = ![h.val, n.val, 0]) :
    one (View.ld (Val := Elt Ideal) X5 (Rect.unit (s := S8x128x512) o5 ![1, 128, 512] i5))
        (View.ld (Val := Elt Ideal) X3 (Rect.unit (s := S8x128x512) o3 ![1, 1, 512] i3))
        (View.ld (Val := Elt Ideal) X4 (Rect.unit (s := S8x128x512) o4 ![1, 1, 512] i4)) b s
      = if X3 (ix3 h n s) ≤ X5 (ix3 h b s) then X4 (ix3 h n s) * X5 (ix3 h b s) else 0 := by
  subst h5 h3 h4
  exact ite_parts
    (View.ld_unit_apply_of (Val := Elt Ideal) (e := .f32) X3 _ _ i3 (ix3 0 0 s) (ix3 h n s) (fun a => by fin_cases a <;> simp [ix3]))
    (View.ld_unit_apply_of (Val := Elt Ideal) (e := .f32) X5 _ _ i5 (ix3 0 b s) (ix3 h b s) (fun a => by fin_cases a <;> simp [ix3]))
    (View.ld_unit_apply_of (Val := Elt Ideal) (e := .f32) X4 _ _ i4 (ix3 0 0 s) (ix3 h n s) (fun a => by fin_cases a <;> simp [ix3]))

theorem off1 (t : Fin grid0.N) (a : Fin 4) (n : Fin 128) (hn : n.val = 4 * (t.val % 32) + a.val) :
    k0_off1 (grid0.coords t) (BitVec.ofNat 32 a.val) = ![(0 : Fin 8).val, n.val, 0] := by
  rw [hn, ← row_at t a]; rfl
theorem off2 (t : Fin grid0.N) (a : Fin 4) (n : Fin 128) (hn : n.val = 4 * (t.val % 32) + a.val) :
    k0_off2 (grid0.coords t) (BitVec.ofNat 32 a.val) = ![(1 : Fin 8).val, n.val, 0] := by
  rw [hn, ← row_at t a]; rfl
theorem off3 (t : Fin grid0.N) (a : Fin 4) (n : Fin 128) (hn : n.val = 4 * (t.val % 32) + a.val) :
    k0_off3 (grid0.coords t) (BitVec.ofNat 32 a.val) = ![(2 : Fin 8).val, n.val, 0] := by
  rw [hn, ← row_at t a]; rfl
theorem off4 (t : Fin grid0.N) (a : Fin 4) (n : Fin 128) (hn : n.val = 4 * (t.val % 32) + a.val) :
    k0_off4 (grid0.coords t) (BitVec.ofNat 32 a.val) = ![(3 : Fin 8).val, n.val, 0] := by
  rw [hn, ← row_at t a]; rfl
theorem off5 (t : Fin grid0.N) (a : Fin 4) (n : Fin 128) (hn : n.val = 4 * (t.val % 32) + a.val) :
    k0_off5 (grid0.coords t) (BitVec.ofNat 32 a.val) = ![(4 : Fin 8).val, n.val, 0] := by
  rw [hn, ← row_at t a]; rfl
theorem off6 (t : Fin grid0.N) (a : Fin 4) (n : Fin 128) (hn : n.val = 4 * (t.val % 32) + a.val) :
    k0_off6 (grid0.coords t) (BitVec.ofNat 32 a.val) = ![(5 : Fin 8).val, n.val, 0] := by
  rw [hn, ← row_at t a]; rfl
theorem off7 (t : Fin grid0.N) (a : Fin 4) (n : Fin 128) (hn : n.val = 4 * (t.val % 32) + a.val) :
    k0_off7 (grid0.coords t) (BitVec.ofNat 32 a.val) = ![(6 : Fin 8).val, n.val, 0] := by
  rw [hn, ← row_at t a]; rfl
theorem off8 (t : Fin grid0.N) (a : Fin 4) (n : Fin 128) (hn : n.val = 4 * (t.val % 32) + a.val) :
    k0_off8 (grid0.coords t) (BitVec.ofNat 32 a.val) = ![(7 : Fin 8).val, n.val, 0] := by
  rw [hn, ← row_at t a]; rfl

/-- A point's stored block, from what its four rows of gates are. -/
theorem step (u x : FVec Ideal S512x4096 .bf16) (P0 P1 P2 P3 P4 : FVec Ideal S128x512 .f32) (w : IVec S128x512 1)
    (acc : FVec Ideal S512x4096 .f32) (v : FVec Ideal S512x4096 .bf16) (X5 X3 X4 : FVec Ideal S8x128x512 .f32)
    (j : Fin 32) (y : S512x4096.Idx)
    (h0 : ∀ (n : Fin 128) (b s), n.val = 4 * j.val + 0 → P0 (ix2 b s) = gate X5 X3 X4 n b s)
    (h1 : ∀ (n : Fin 128) (b s), n.val = 4 * j.val + 1 → P1 (ix2 b s) = gate X5 X3 X4 n b s)
    (h2 : ∀ (n : Fin 128) (b s), n.val = 4 * j.val + 2 → P2 (ix2 b s) = gate X5 X3 X4 n b s)
    (h3 : ∀ (n : Fin 128) (b s), n.val = 4 * j.val + 3 →
      P3 (ix2 b s) + Scalar.select (w (ix2 b s)) (P4 (ix2 b s)) 0 = gate X5 X3 X4 n b s) :
    k0_pay1 (F := Ideal) (k0_pay3 u x) P0 P1 P2 P3 w P4 k0_pay36 acc v y = acc y + part u x X5 X3 X4 v j y := by
  pointwise [k0_pay1, k0_pay3, k0_pay36]
  refine congrArg₂ _ rfl (Finset.sum_congr rfl fun e _ => congrArg₂ _ (congrArg₂ _ ?_ rfl) rfl)
  have he := e.isLt
  by_cases a0 : e.val < 128
  · refine (dif_pos a0).trans ((h0 ⟨4 * j.val + e.val / 128, by omega⟩ _ _ ?_).trans ?_)
    · show 4 * j.val + e.val / 128 = _; omega
    · exact congrArg (fun k => gate X5 X3 X4 _ k _) (Fin.ext (by show e.val = e.val % 128; omega))
  refine (dif_neg a0).trans ?_
  by_cases a1 : e.val - 128 < 128
  · refine (dif_pos a1).trans ((h1 ⟨4 * j.val + e.val / 128, by omega⟩ _ _ ?_).trans ?_)
    · show 4 * j.val + e.val / 128 = _; omega
    · exact congrArg (fun k => gate X5 X3 X4 _ k _) (Fin.ext (by show e.val - 128 = e.val % 128; omega))
  refine (dif_neg a1).trans ?_
  by_cases a2 : e.val - 128 - 128 < 128
  · refine (dif_pos a2).trans ((h2 ⟨4 * j.val + e.val / 128, by omega⟩ _ _ ?_).trans ?_)
    · show 4 * j.val + e.val / 128 = _; omega
    · exact congrArg (fun k => gate X5 X3 X4 _ k _) (Fin.ext (by show e.val - 128 - 128 = e.val % 128; omega))
  refine (dif_neg a2).trans ?_
  refine (h3 ⟨4 * j.val + e.val / 128, by omega⟩ _ _ ?_).trans ?_
  · show 4 * j.val + e.val / 128 = _; omega
  · exact congrArg (fun k => gate X5 X3 X4 _ k _) (Fin.ext (by show e.val - 128 - 128 - 128 = e.val % 128; omega))

variable (m : (ℓ : Loc nD τ sig) → Buf (Elt Ideal) ℓ)

/-- What point `t` adds. -/
def add (c : Dev nD) (t : Fin cfg0.N) (y : S512x4096.Idx) : EReal :=
  part (iblk m c 1 t) (iblk m c 0 t) (iblk m c 5 t) (iblk m c 3 t) (iblk m c 4 t) (iblk m c 2 t)
    ⟨t.val % 32, Nat.mod_lt _ (by decide)⟩ y

set_option maxHeartbeats 2000000 in
theorem at_A (c : Dev nD) (t : Fin cfg0.N) (h : t.val % 32 = 0) (y) :
    outsAt0 m c t.val t.isLt y = 0 + add m c t y := by
  rw [outsAt0_A m c t h]
  frame_out
  have hz : ∀ y, k0_pay2 (F := Ideal) y = 0 := fun y => by pointwise [k0_pay2]
  rw [← hz y]
  refine step _ _ _ _ _ _ _ _ _ _ _ _ _ ⟨t.val % 32, Nat.mod_lt _ (by decide)⟩ y ?_ ?_ ?_ ?_
  · intro n b s hn
    rw [row0]; unfold gate; rw [Fin.sum_univ_eight]
    refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
    · exact one_ld _ _ _ _ _ _ _ _ _ 0 n b s rfl (off1 t 0 n hn) (off1 t 0 n hn)
    · exact one_ld _ _ _ _ _ _ _ _ _ 1 n b s rfl (off2 t 0 n hn) (off2 t 0 n hn)
    · exact one_ld _ _ _ _ _ _ _ _ _ 2 n b s rfl (off3 t 0 n hn) (off3 t 0 n hn)
    · exact one_ld _ _ _ _ _ _ _ _ _ 3 n b s rfl (off4 t 0 n hn) (off4 t 0 n hn)
    · exact one_ld _ _ _ _ _ _ _ _ _ 4 n b s rfl (off5 t 0 n hn) (off5 t 0 n hn)
    · exact one_ld _ _ _ _ _ _ _ _ _ 5 n b s rfl (off6 t 0 n hn) (off6 t 0 n hn)
    · exact one_ld _ _ _ _ _ _ _ _ _ 6 n b s rfl (off7 t 0 n hn) (off7 t 0 n hn)
    · exact one_ld _ _ _ _ _ _ _ _ _ 7 n b s rfl (off8 t 0 n hn) (off8 t 0 n hn)
  · intro n b s hn
    rw [row1]; unfold gate; rw [Fin.sum_univ_eight]
    refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
    · exact one_ld _ _ _ _ _ _ _ _ _ 0 n b s rfl (off1 t 1 n hn) (off1 t 1 n hn)
    · exact one_ld _ _ _ _ _ _ _ _ _ 1 n b s rfl (off2 t 1 n hn) (off2 t 1 n hn)
    · exact one_ld _ _ _ _ _ _ _ _ _ 2 n b s rfl (off3 t 1 n hn) (off3 t 1 n hn)
    · exact one_ld _ _ _ _ _ _ _ _ _ 3 n b s rfl (off4 t 1 n hn) (off4 t 1 n hn)
    · exact one_ld _ _ _ _ _ _ _ _ _ 4 n b s rfl (off5 t 1 n hn) (off5 t 1 n hn)
    · exact one_ld _ _ _ _ _ _ _ _ _ 5 n b s rfl (off6 t 1 n hn) (off6 t 1 n hn)
    · exact one_ld _ _ _ _ _ _ _ _ _ 6 n b s rfl (off7 t 1 n hn) (off7 t 1 n hn)
    · exact one_ld _ _ _ _ _ _ _ _ _ 7 n b s rfl (off8 t 1 n hn) (off8 t 1 n hn)
  · intro n b s hn
    rw [row2]; unfold gate; rw [Fin.sum_univ_eight]
    refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
    · exact one_ld _ _ _ _ _ _ _ _ _ 0 n b s rfl (off1 t 2 n hn) (off1 t 2 n hn)
    · exact one_ld _ _ _ _ _ _ _ _ _ 1 n b s rfl (off2 t 2 n hn) (off2 t 2 n hn)
    · exact one_ld _ _ _ _ _ _ _ _ _ 2 n b s rfl (off3 t 2 n hn) (off3 t 2 n hn)
    · exact one_ld _ _ _ _ _ _ _ _ _ 3 n b s rfl (off4 t 2 n hn) (off4 t 2 n hn)
    · exact one_ld _ _ _ _ _ _ _ _ _ 4 n b s rfl (off5 t 2 n hn) (off5 t 2 n hn)
    · exact one_ld _ _ _ _ _ _ _ _ _ 5 n b s rfl (off6 t 2 n hn) (off6 t 2 n hn)
    · exact one_ld _ _ _ _ _ _ _ _ _ 6 n b s rfl (off7 t 2 n hn) (off7 t 2 n hn)
    · exact one_ld _ _ _ _ _ _ _ _ _ 7 n b s rfl (off8 t 2 n hn) (off8 t 2 n hn)
  · intro n b s hn
    rw [row3]; unfold gate; rw [Fin.sum_univ_eight]
    refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
    · exact one_ld _ _ _ _ _ _ _ _ _ 0 n b s rfl (off1 t 3 n hn) (off1 t 3 n hn)
    · exact one_ld _ _ _ _ _ _ _ _ _ 1 n b s rfl (off2 t 3 n hn) (off2 t 3 n hn)
    · exact one_ld _ _ _ _ _ _ _ _ _ 2 n b s rfl (off3 t 3 n hn) (off3 t 3 n hn)
    · exact one_ld _ _ _ _ _ _ _ _ _ 3 n b s rfl (off4 t 3 n hn) (off4 t 3 n hn)
    · exact one_ld _ _ _ _ _ _ _ _ _ 4 n b s rfl (off5 t 3 n hn) (off5 t 3 n hn)
    · exact one_ld _ _ _ _ _ _ _ _ _ 5 n b s rfl (off6 t 3 n hn) (off6 t 3 n hn)
    · exact one_ld _ _ _ _ _ _ _ _ _ 6 n b s rfl (off7 t 3 n hn) (off7 t 3 n hn)
    · exact one_ld _ _ _ _ _ _ _ _ _ 7 n b s rfl (off8 t 3 n hn) (off8 t 3 n hn)

set_option maxHeartbeats 2000000 in
theorem at_B (c : Dev nD) (t : Fin cfg0.N) (h : ¬ t.val % 32 = 0) (y) :
    outsAt0 m c t.val t.isLt y
      = outsAt0 m c (t.val - 1) (Nat.lt_of_le_of_lt (Nat.sub_le _ _) t.isLt) y + add m c t y := by
  rw [outsAt0_B m c t h]
  frame_out
  refine step _ _ _ _ _ _ _ _ _ _ _ _ _ ⟨t.val % 32, Nat.mod_lt _ (by decide)⟩ y ?_ ?_ ?_ ?_
  · intro n b s hn
    rw [row0]; unfold gate; rw [Fin.sum_univ_eight]
    refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
    · exact one_ld _ _ _ _ _ _ _ _ _ 0 n b s rfl (off1 t 0 n hn) (off1 t 0 n hn)
    · exact one_ld _ _ _ _ _ _ _ _ _ 1 n b s rfl (off2 t 0 n hn) (off2 t 0 n hn)
    · exact one_ld _ _ _ _ _ _ _ _ _ 2 n b s rfl (off3 t 0 n hn) (off3 t 0 n hn)
    · exact one_ld _ _ _ _ _ _ _ _ _ 3 n b s rfl (off4 t 0 n hn) (off4 t 0 n hn)
    · exact one_ld _ _ _ _ _ _ _ _ _ 4 n b s rfl (off5 t 0 n hn) (off5 t 0 n hn)
    · exact one_ld _ _ _ _ _ _ _ _ _ 5 n b s rfl (off6 t 0 n hn) (off6 t 0 n hn)
    · exact one_ld _ _ _ _ _ _ _ _ _ 6 n b s rfl (off7 t 0 n hn) (off7 t 0 n hn)
    · exact one_ld _ _ _ _ _ _ _ _ _ 7 n b s rfl (off8 t 0 n hn) (off8 t 0 n hn)
  · intro n b s hn
    rw [row1]; unfold gate; rw [Fin.sum_univ_eight]
    refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
    · exact one_ld _ _ _ _ _ _ _ _ _ 0 n b s rfl (off1 t 1 n hn) (off1 t 1 n hn)
    · exact one_ld _ _ _ _ _ _ _ _ _ 1 n b s rfl (off2 t 1 n hn) (off2 t 1 n hn)
    · exact one_ld _ _ _ _ _ _ _ _ _ 2 n b s rfl (off3 t 1 n hn) (off3 t 1 n hn)
    · exact one_ld _ _ _ _ _ _ _ _ _ 3 n b s rfl (off4 t 1 n hn) (off4 t 1 n hn)
    · exact one_ld _ _ _ _ _ _ _ _ _ 4 n b s rfl (off5 t 1 n hn) (off5 t 1 n hn)
    · exact one_ld _ _ _ _ _ _ _ _ _ 5 n b s rfl (off6 t 1 n hn) (off6 t 1 n hn)
    · exact one_ld _ _ _ _ _ _ _ _ _ 6 n b s rfl (off7 t 1 n hn) (off7 t 1 n hn)
    · exact one_ld _ _ _ _ _ _ _ _ _ 7 n b s rfl (off8 t 1 n hn) (off8 t 1 n hn)
  · intro n b s hn
    rw [row2]; unfold gate; rw [Fin.sum_univ_eight]
    refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
    · exact one_ld _ _ _ _ _ _ _ _ _ 0 n b s rfl (off1 t 2 n hn) (off1 t 2 n hn)
    · exact one_ld _ _ _ _ _ _ _ _ _ 1 n b s rfl (off2 t 2 n hn) (off2 t 2 n hn)
    · exact one_ld _ _ _ _ _ _ _ _ _ 2 n b s rfl (off3 t 2 n hn) (off3 t 2 n hn)
    · exact one_ld _ _ _ _ _ _ _ _ _ 3 n b s rfl (off4 t 2 n hn) (off4 t 2 n hn)
    · exact one_ld _ _ _ _ _ _ _ _ _ 4 n b s rfl (off5 t 2 n hn) (off5 t 2 n hn)
    · exact one_ld _ _ _ _ _ _ _ _ _ 5 n b s rfl (off6 t 2 n hn) (off6 t 2 n hn)
    · exact one_ld _ _ _ _ _ _ _ _ _ 6 n b s rfl (off7 t 2 n hn) (off7 t 2 n hn)
    · exact one_ld _ _ _ _ _ _ _ _ _ 7 n b s rfl (off8 t 2 n hn) (off8 t 2 n hn)
  · intro n b s hn
    rw [row3]; unfold gate; rw [Fin.sum_univ_eight]
    refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
    · exact one_ld _ _ _ _ _ _ _ _ _ 0 n b s rfl (off1 t 3 n hn) (off1 t 3 n hn)
    · exact one_ld _ _ _ _ _ _ _ _ _ 1 n b s rfl (off2 t 3 n hn) (off2 t 3 n hn)
    · exact one_ld _ _ _ _ _ _ _ _ _ 2 n b s rfl (off3 t 3 n hn) (off3 t 3 n hn)
    · exact one_ld _ _ _ _ _ _ _ _ _ 3 n b s rfl (off4 t 3 n hn) (off4 t 3 n hn)
    · exact one_ld _ _ _ _ _ _ _ _ _ 4 n b s rfl (off5 t 3 n hn) (off5 t 3 n hn)
    · exact one_ld _ _ _ _ _ _ _ _ _ 5 n b s rfl (off6 t 3 n hn) (off6 t 3 n hn)
    · exact one_ld _ _ _ _ _ _ _ _ _ 6 n b s rfl (off7 t 3 n hn) (off7 t 3 n hn)
    · exact one_ld _ _ _ _ _ _ _ _ _ 7 n b s rfl (off8 t 3 n hn) (off8 t 3 n hn)

end Cert.ExpertIdeal.Value

end
-- ==== Proof.ExpertValue.lean ====
module

public import proofs.«01_k».proof.Proof.ExpertStep
public import proofs.«01_k».proof.Proof.Gen.ExpertRefIdeal.Read
public import Idealize.ShloMosaic.Lib.Pipeline.ValueKit
public import Idealize.ShloMosaic.Lib.Claim
public import proofs.«01_k».proof.Defs

@[expose] public section

set_option maxRecDepth 16384

noncomputable section

namespace Cert.ExpertIdeal.Value

open Cert.ExpertIdeal Cert.ExpertIdeal.Gen Idealize.ShloMosaic Idealize.ShloMosaic.TcCoe Idealize.SL.Sem
open Idealize.ShloMosaic.Pipeline (Dat)
open Cert.ExpertRefIdeal.Read

variable (m : (ℓ : Loc nD τ sig) → Buf (Elt Ideal) ℓ)

theorem idx : ∀ t : Fin cfg0.N, win0_0.index t = ![t.val / 32, 0] ∧ win0_1.index t = ![t.val % 32, 0]
    ∧ win0_2.index t = ![t.val % 32, 0] ∧ win0_3.index t = ![0, 0, t.val / 32]
    ∧ win0_4.index t = ![0, 0, t.val / 32] ∧ win0_5.index t = ![0, 0, t.val / 32]
    ∧ win0_6.index t = ![t.val / 32, 0] :=
  (by decide +kernel : ∀ t : Fin grid0.N, _)

/-- What expert `e` contributes to an entry of the result. -/
def term (x : FVec Ideal S16384x4096 .bf16) (u v : FVec Ideal S16384x4096 .f32) (phi e1 e2 : FVec Ideal S8x128x16384 .f32)
    (y : S16384x4096.Idx) (e : Fin 16384) : EReal :=
  (∑ h : Fin 8, if phi (ix3 h ⟨e.val / 128, by omega⟩ (y 0)) ≤ e2 (ix3 h ⟨e.val % 128, by omega⟩ (y 0))
      then e1 (ix3 h ⟨e.val / 128, by omega⟩ (y 0)) * e2 (ix3 h ⟨e.val % 128, by omega⟩ (y 0)) else 0)
    * gelu (∑ k, u (ix2 e k) * x (ix2 (y 0) k)) * v (ix2 e (y 1))

theorem ref_at (x u v phi e1 e2) (y) : val_main_v30 (F := Ideal) x u v phi e1 e2 y = ∑ e, term x u v phi e1 e2 y e := by
  pointwise [val_main_v30,val_main_v29,val_main_v28,val_main_v27,val_main_v26,val_main_v25,val_main_v24,val_main_v23,val_main_v22,val_main_v21,val_main_v20,val_main_v19,val_main_v18,val_main_v17,val_main_v16,val_main_v15,val_main_v14,val_main_v13,val_main_v12,val_main_v11,val_main_v10,val_main_v9,val_main_v8,val_main_v7,val_main_v6,val_main_v5,val_main_v4,val_main_v3,val_main_v2,val_main_v1,val_main_v0, val_main_call0_v1, val_main_call0_v0, val_main_cst, val_main_cst_0, val_main_cst_1, val_main_cst_2, val_main_cst_3, val_main_cst_4]
  refine Finset.sum_congr rfl fun e _ => ?_
  unfold term gelu
  have hs : ∑ k, x (ix2 (y 0) k) * u (ix2 e k) = ∑ k, u (ix2 e k) * x (ix2 (y 0) k) :=
    Finset.sum_congr rfl fun k _ => mul_comm _ _
  have hz : id (constant (F := Ideal) Cert.ExpertRefIdeal.S_ FTy.f32 0#32) ix0 = (0 : EReal) := Ideal.ofBits_zero_f32
  rw [hs, hz]
  refine congrArg₂ _ (congrArg₂ _ rfl ?_) rfl
  rw [← mul_assoc, mul_comm (∑ k, u (ix2 e k) * x (ix2 (y 0) k)) (Ideal.ofBits FTy.f32 1056964608#32)]

/-- What point `p` adds for its `k`-th expert is that expert's contribution. -/
theorem part_at (c : Dev nD) (t p : Fin cfg0.N) (s : Fin 32) (h1 : p.val / 32 = t.val / 32) (h2 : p.val % 32 = s.val)
    (y : S512x4096.Idx) (k : Fin 512) (hl : s.val * 512 + k.val < 16384) :
    summand (iblk m c 1 p) (iblk m c 0 p) (iblk m c 5 p) (iblk m c 3 p) (iblk m c 4 p) (iblk m c 2 p)
        ⟨p.val % 32, Nat.mod_lt _ (by decide)⟩ y k
      = term (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y) ⟨s.val * 512 + k.val, hl⟩ := by
  unfold summand gate term
  have hp := idx p
  have ht := idx t
  rw [h1, h2] at hp
  refine congrArg₂ _ (congrArg₂ _ (Finset.sum_congr rfl fun h _ => ite_parts ?_ ?_ ?_)
    (congrArg gelu (Finset.sum_congr rfl fun l _ => congrArg₂ _ ?_ ?_))) ?_
  · blk_point [iblk, V, hp, ht]
  · blk_point [iblk, V, hp, ht]
  · blk_point [iblk, V, hp, ht]
  · blk_point [iblk, V, hp, ht]
  · blk_point [iblk, V, hp, ht]
  · blk_point [iblk, V, hp, ht]

theorem run_at (c : Dev nD) (t : Fin cfg0.N) (ht : t.val % 32 = 31) (y : S512x4096.Idx) :
    outsAt0 m c t.val t.isLt y = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y) := by
  rw [ref_at]
  refine (Pipeline.eq_sum_fin_of_reset_step_apply_of_flush (fun n h => outsAt0 m c n h) 32 (fun _ => 0) (add m c)
    (at_A m c) (at_B m c) t ht y).trans ?_
  rw [zero_add]
  unfold add part
  exact Fin.sum_mul_add_congr fun s k hl => part_at m c t ⟨_, Pipeline.run_point_lt_of_flush t ht s⟩ s
    (by show (32 * (t.val / 32) + s.val) / 32 = _; omega) (by show (32 * (t.val / 32) + s.val) % 32 = _; omega) y k hl

/-- The result array after the run is the reference's. -/
theorem final (c : Dev nD) : (dats m 0 c).arrAt 6 (cfgs 0).N
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  exact run_at m c t ((flush0_6 t).mp hf) y

end Cert.ExpertIdeal.Value

namespace Cert.Proof

open Idealize.ShloMosaic Idealize.SL.Sem

/-- The expert mixing's claim. -/
theorem alg_expert : Cert.algebraic_ExpertIdeal_ExpertRefIdeal
    (hExpertIdeal := Cert.ExpertIdeal.Gen.facts) (hExpertRefIdeal := Cert.ExpertRefIdeal.Gen.facts) := by
  pair_intro
  · run_from Cert.ExpertIdeal.Gen.run_main m g
  · refine (θ_run _ _ _).mono (fun r h c => ⟨(h c).1.trans ((Cert.ExpertRefIdeal.Read.val_main_v30_eq ..).trans ?_), (h c).2⟩)
      (Cert.ExpertRefIdeal.Value.run m' g')
    obtain ⟨a0, a1, a2, a3, a4, a5⟩ := hagree c
    rw [a0, a1, a2, a3, a4, a5]
    exact (Cert.ExpertIdeal.Value.final m c).symm

end Cert.Proof

end
-- ==== Proof.OutValue.lean ====
module

public import proofs.«01_k».proof.Proof.Gen.OutIdeal.Frame
public import proofs.«01_k».proof.Proof.Gen.OutRefIdeal.Read
public import Idealize.ShloMosaic.Lib.Pipeline.ValueKit
public import Idealize.ShloMosaic.Lib.Claim
public import proofs.«01_k».proof.Defs

@[expose] public section

set_option maxRecDepth 16384

noncomputable section

namespace Cert.OutIdeal.Value

open Cert.OutIdeal Cert.OutIdeal.Gen Idealize.ShloMosaic Idealize.ShloMosaic.TcCoe Idealize.SL.Sem
open Idealize.ShloMosaic.Pipeline (Dat)
open Cert.OutRefIdeal.Read (val_main_v0 val_main_v1 val_main_v2)

variable (m : (ℓ : Loc nD τ sig) → Buf (Elt Ideal) ℓ)

/-- Which block each window is on at grid point `t`: the weight's column block moves slowest. -/
theorem idx : ∀ t : Fin cfg0.N, win0_0.index t = ![t.val % 32, 0] ∧ win0_1.index t = ![0, t.val / 32]
    ∧ win0_2.index t = ![t.val % 32, t.val / 32] ∧ win0_3.index t = ![t.val % 32, t.val / 32] :=
  (by decide +kernel : ∀ t : Fin grid0.N, _)

/-- The block that point `t` computes, entry by entry: the same entry of residual plus product. -/
theorem point (c : Dev nD) (t : Fin cfg0.N) (y) :
    k0_pay1 (F := Ideal) (iblk m c 2 t) (iblk m c 0 t) (iblk m c 1 t) y
      = val_main_v2 (F := Ideal) (m ((c : Thread nD τ).loc main_arg0)) (m ((c : Thread nD τ).loc main_arg1))
          (m ((c : Thread nD τ).loc main_arg2)) (((cfg0.win 3).blk t).view.emb y) := by
  pointwise [k0_pay1, val_main_v2, val_main_v1, val_main_v0]
  blk_point [iblk, V, idx t]

/-- The result array after the run is the reference's. -/
theorem final (c : Dev nD) : (dats m 0 c).arrAt 3 (cfgs 0).N
    = val_main_v2 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]; frame_out
  exact point m c t y

end Cert.OutIdeal.Value

namespace Cert.Proof

open Idealize.ShloMosaic Idealize.SL.Sem

/-- The output projection's claim. -/
theorem alg_out : Cert.algebraic_OutIdeal_OutRefIdeal
    (hOutIdeal := Cert.OutIdeal.Gen.facts) (hOutRefIdeal := Cert.OutRefIdeal.Gen.facts) := by
  pair_intro
  · run_from Cert.OutIdeal.Gen.run_main m g
  · run_from Cert.OutRefIdeal.Value.run m' g'
    exact (Cert.OutIdeal.Value.final m c).symm

end Cert.Proof

end
-- ==== Proof.PqValue.lean ====
module

public import proofs.«01_k».proof.Proof.Gen.PqIdeal.Frame
public import proofs.«01_k».proof.Proof.Gen.PqRefIdeal.Read
public import Idealize.ShloMosaic.Lib.Pipeline.ValueKit
public import Idealize.ShloMosaic.Lib.Claim
public import proofs.«01_k».proof.Defs

@[expose] public section

set_option maxRecDepth 16384

noncomputable section

namespace Cert.PqIdeal.Value

open Cert.PqIdeal Cert.PqIdeal.Gen Idealize.ShloMosaic Idealize.ShloMosaic.TcCoe Idealize.SL.Sem
open Idealize.ShloMosaic.Pipeline (Dat)
open Cert.PqRefIdeal.Read (val_main_v1 val_main_v0)

variable (m : (ℓ : Loc nD τ sig) → Buf (Elt Ideal) ℓ)

/-- Which block each window is on at grid point `t`. -/
theorem idx : ∀ t : Fin cfg0.N, win0_0.index t = ![t.val % 32, 0] ∧ win0_1.index t = ![0, t.val / 32] ∧ win0_2.index t = ![t.val % 32, t.val / 32] :=
  (by decide +kernel : ∀ t : Fin grid0.N, _)

/-- The block that point `t` computes, entry by entry. -/
theorem point (c : Dev nD) (t : Fin cfg0.N) (y) :
    k0_pay1 (F := Ideal) (iblk m c 0 t) (iblk m c 1 t) y
      = val_main_v1 (F := Ideal) (m ((c : Thread nD τ).loc main_arg0)) (m ((c : Thread nD τ).loc main_arg1))
          (((cfg0.win 2).blk t).view.emb y) := by
  pointwise [k0_pay1, val_main_v1, val_main_v0]
  blk_point [iblk, V, idx t]

/-- The result array after the run is the reference's. -/
theorem final (c : Dev nD) : (dats m 0 c).arrAt 2 (cfgs 0).N
    = val_main_v1 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.PqIdeal.Value

namespace Cert.Proof

open Idealize.ShloMosaic Idealize.SL.Sem

/-- The claim of `Pq`. -/
theorem alg_pq : Cert.algebraic_PqIdeal_PqRefIdeal
    (hPqIdeal := Cert.PqIdeal.Gen.facts) (hPqRefIdeal := Cert.PqRefIdeal.Gen.facts) := by
  pair_intro
  · run_from Cert.PqIdeal.Gen.run_main m g
  · run_from Cert.PqRefIdeal.Value.run m' g'
    exact (Cert.PqIdeal.Value.final m c).symm

end Cert.Proof

end
-- ==== Proof.PleValue.lean ====
module

public import proofs.«01_k».proof.Proof.Gen.PleIdeal.Frame
public import proofs.«01_k».proof.Proof.Gen.PleRefIdeal.Read
public import Idealize.ShloMosaic.Lib.Pipeline.ValueKit
public import Idealize.ShloMosaic.Lib.Claim
public import proofs.«01_k».proof.Defs

@[expose] public section

set_option maxRecDepth 16384

noncomputable section

namespace Cert.PleIdeal.Value

open Cert.PleIdeal Cert.PleIdeal.Gen Idealize.ShloMosaic Idealize.ShloMosaic.TcCoe Idealize.SL.Sem
open Idealize.ShloMosaic.Pipeline (Dat)
open Cert.PleRefIdeal.Read (val_main_v10 val_main_v9 val_main_v8 val_main_v7 val_main_v6 val_main_cst_0 val_main_v5 val_main_v4 val_main_cst val_main_v3 val_main_v2 val_main_v1 val_main_v0)

variable (m : (ℓ : Loc nD τ sig) → Buf (Elt Ideal) ℓ)

/-- Which block each window is on at grid point `t`. -/
theorem idx : ∀ t : Fin cfg0.N, win0_0.index t = ![t.val % 32, 0] ∧ win0_1.index t = ![0, t.val / 32] ∧ win0_2.index t = ![t.val % 32, 0] ∧ win0_3.index t = ![0, t.val / 32] ∧ win0_4.index t = ![t.val % 32, t.val / 32] ∧ win0_5.index t = ![t.val % 32, t.val / 32] :=
  (by decide +kernel : ∀ t : Fin grid0.N, _)

/-- The block that point `t` computes, entry by entry. -/
theorem point (c : Dev nD) (t : Fin cfg0.N) (y) :
    k0_pay1 (F := Ideal) (iblk m c 0 t) (iblk m c 1 t) (iblk m c 4 t) (iblk m c 2 t) (iblk m c 3 t) y
      = val_main_v10 (F := Ideal) (m ((c : Thread nD τ).loc main_arg0)) (m ((c : Thread nD τ).loc main_arg1)) (m ((c : Thread nD τ).loc main_arg2)) (m ((c : Thread nD τ).loc main_arg3)) (m ((c : Thread nD τ).loc main_arg4))
          (((cfg0.win 5).blk t).view.emb y) := by
  pointwise [k0_pay1, val_main_v10, val_main_v9, val_main_v8, val_main_v7, val_main_v6, val_main_cst_0, val_main_v5, val_main_v4, val_main_cst, val_main_v3, val_main_v2, val_main_v1, val_main_v0, Ideal.logistic]
  blk_point [iblk, V, idx t]

/-- The result array after the run is the reference's. -/
theorem final (c : Dev nD) : (dats m 0 c).arrAt 5 (cfgs 0).N
    = val_main_v10 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  exact point m c t y

end Cert.PleIdeal.Value

namespace Cert.Proof

open Idealize.ShloMosaic Idealize.SL.Sem

/-- The claim of `Ple`. -/
theorem alg_ple : Cert.algebraic_PleIdeal_PleRefIdeal
    (hPleIdeal := Cert.PleIdeal.Gen.facts) (hPleRefIdeal := Cert.PleRefIdeal.Gen.facts) := by
  pair_intro
  · run_from Cert.PleIdeal.Gen.run_main m g
  · run_from Cert.PleRefIdeal.Value.run m' g'
    exact (Cert.PleIdeal.Value.final m c).symm

end Cert.Proof

end
-- ==== Proof.NormValue.lean ====
/- Norm: each output block is the reference's. -/
module

public import proofs.«01_k».proof.Proof.Gen.NormIdeal.Frame
public import proofs.«01_k».proof.Proof.Gen.NormRefIdeal.Read
public import Idealize.ShloMosaic.Lib.Pipeline.ValueKit
public import Idealize.ShloMosaic.Lib.Claim
public import proofs.«01_k».proof.Defs

@[expose] public section

set_option maxRecDepth 16384

noncomputable section

namespace Cert.NormIdeal.Value

open Cert.NormIdeal Cert.NormIdeal.Gen Idealize.ShloMosaic Idealize.ShloMosaic.TcCoe Idealize.SL.Sem
open Idealize.ShloMosaic.Pipeline (Dat)
open Cert.NormRefIdeal.Read (val_main_v13 val_main_v12 val_main_v11 val_main_v10 val_main_v9 val_main_v8 val_main_v7 val_main_v6 val_main_v5 val_main_v4 val_main_v3 val_main_v2 val_main_v1 val_main_v0 val_main_cst val_main_cst_0 val_main_cst_1)

variable (m : (ℓ : Loc nD τ sig) → Buf (Elt Ideal) ℓ)

/-- Which block each window is on at grid point `t`. -/
theorem idx : ∀ t : Fin cfg0.N, win0_0.index t = ![t.val, 0] ∧ win0_1.index t = ![0, 0] ∧ win0_2.index t = ![t.val, 0] :=
  (by decide +kernel : ∀ t : Fin grid0.N, _)

/-- The block that point `t` computes, entry by entry. -/
theorem point2 (c : Dev nD) (t : Fin cfg0.N) (y) :
    k0_pay1 (F := Ideal) (iblk m c 0 t) (iblk m c 1 t) y = val_main_v13 (F := Ideal) (m ((c : Thread nD τ).loc main_arg0)) (m ((c : Thread nD τ).loc main_arg1)) (((cfg0.win 2).blk t).view.emb y) := by
  pointwise [k0_pay1, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

/-- The array after the run is the reference's. -/
theorem final2 (c : Dev nD) : (dats m 0 c).arrAt 2 (cfgs 0).N = val_main_v13 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point2 m c t y

end Cert.NormIdeal.Value

namespace Cert.Proof

open Idealize.ShloMosaic Idealize.SL.Sem

/-- The claim of `Norm`. -/
theorem alg_norm : Cert.algebraic_NormIdeal_NormRefIdeal
    (hNormIdeal := Cert.NormIdeal.Gen.facts) (hNormRefIdeal := Cert.NormRefIdeal.Gen.facts) := by
  pair_intro
  · run_from Cert.NormIdeal.Gen.run_main m g
  · run_from Cert.NormRefIdeal.Value.run m' g'
    exact (Cert.NormIdeal.Value.final2 m c).symm

end Cert.Proof

end
-- ==== Proof.SumValue.lean ====
/- Sum: each output block is the reference's. -/
module

public import proofs.«01_k».proof.Proof.Gen.SumIdeal.Frame
public import proofs.«01_k».proof.Proof.Gen.SumRefIdeal.Read
public import Idealize.ShloMosaic.Lib.Pipeline.ValueKit
public import Idealize.ShloMosaic.Lib.Claim
public import proofs.«01_k».proof.Defs

@[expose] public section

set_option maxRecDepth 16384

noncomputable section

namespace Cert.SumIdeal.Value

open Cert.SumIdeal Cert.SumIdeal.Gen Idealize.ShloMosaic Idealize.ShloMosaic.TcCoe Idealize.SL.Sem
open Idealize.ShloMosaic.Pipeline (Dat)
open Cert.SumRefIdeal.Read (val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1)

variable (m : (ℓ : Loc nD τ sig) → Buf (Elt Ideal) ℓ)

/-- Which block each window is on at grid point `t`. -/
theorem idx : ∀ t : Fin cfg0.N, win0_0.index t = ![t.val, 0] ∧ win0_1.index t = ![t.val, 0] ∧ win0_2.index t = ![0, 0] ∧ win0_3.index t = ![t.val, 0] ∧ win0_4.index t = ![t.val, 0] :=
  (by decide +kernel : ∀ t : Fin grid0.N, _)

/-- The block that point `t` computes, entry by entry. -/
theorem point3 (c : Dev nD) (t : Fin cfg0.N) (y) :
    k0_pay1 (F := Ideal) (iblk m c 0 t) (iblk m c 1 t) y = val_main_v0 (F := Ideal) (m ((c : Thread nD τ).loc main_arg0)) (m ((c : Thread nD τ).loc main_arg1)) (((cfg0.win 3).blk t).view.emb y) := by
  pointwise [k0_pay1, val_main_v0]
  blk_point [iblk, V, idx t]

/-- The array after the run is the reference's. -/
theorem final3 (c : Dev nD) : (dats m 0 c).arrAt 3 (cfgs 0).N = val_main_v0 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  exact point3 m c t y

/-- The block that point `t` computes, entry by entry. -/
theorem point4 (c : Dev nD) (t : Fin cfg0.N) (y) :
    k0_pay2 (F := Ideal) (iblk m c 0 t) (iblk m c 1 t) (iblk m c 2 t) y = val_main_v14 (F := Ideal) (m ((c : Thread nD τ).loc main_arg0)) (m ((c : Thread nD τ).loc main_arg1)) (m ((c : Thread nD τ).loc main_arg2)) (((cfg0.win 4).blk t).view.emb y) := by
  pointwise [k0_pay2, k0_pay1, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  blk_point [iblk, V, idx t]

/-- The array after the run is the reference's. -/
theorem final4 (c : Dev nD) : (dats m 0 c).arrAt 4 (cfgs 0).N = val_main_v14 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point4 m c t y

end Cert.SumIdeal.Value

namespace Cert.Proof

open Idealize.ShloMosaic Idealize.SL.Sem

/-- The claim of `Sum`. -/
theorem alg_sum : Cert.algebraic_SumIdeal_SumRefIdeal
    (hSumIdeal := Cert.SumIdeal.Gen.facts) (hSumRefIdeal := Cert.SumRefIdeal.Gen.facts) := by
  pair_intro
  · run_from Cert.SumIdeal.Gen.run_main m g
  · run_from Cert.SumRefIdeal.Value.run m' g'
    · exact (Cert.SumIdeal.Value.final3 m c).symm
    · exact (Cert.SumIdeal.Value.final4 m c).symm

end Cert.Proof

end
-- ==== Proof.lean ====
module

public import proofs.«01_k».proof.Defs
public import proofs.«01_k».proof.Proof.Gen.Da
public import proofs.«01_k».proof.Proof.Gen.Ds
public import proofs.«01_k».proof.Proof.Gen.Da.Skeleton
public import proofs.«01_k».proof.Proof.Gen.Ds.Skeleton
public import proofs.«01_k».proof.Proof.Gen.Da.Launch
public import proofs.«01_k».proof.Proof.Gen.Ds.Launch

public import proofs.«01_k».proof.Proof.Gen.Da.Flash
public import proofs.«01_k».proof.Proof.Gen.Ds.Flash
public import proofs.«01_k».proof.Proof.Gen.DaIdeal
public import proofs.«01_k».proof.Proof.Gen.DsIdeal
public import proofs.«01_k».proof.Proof.Gen.DaIdeal.Skeleton
public import proofs.«01_k».proof.Proof.Gen.DsIdeal.Skeleton
public import proofs.«01_k».proof.Proof.Gen.DaIdeal.Launch
public import proofs.«01_k».proof.Proof.Gen.DsIdeal.Launch

public import proofs.«01_k».proof.Proof.Gen.DaIdeal.Flash
public import proofs.«01_k».proof.Proof.Gen.DsIdeal.Flash
public import proofs.«01_k».proof.Proof.Gen.DaRefIdeal
public import proofs.«01_k».proof.Proof.Gen.DsRefIdeal
public import proofs.«01_k».proof.Proof.Gen.DaRefIdeal.Run
public import proofs.«01_k».proof.Proof.Gen.DsRefIdeal.Run
public import proofs.«01_k».proof.Proof.Gen.DaRefIdeal.Read
public import proofs.«01_k».proof.Proof.Gen.DsRefIdeal.Read
public import proofs.«01_k».proof.Proof.Gen.Pre_causal_and_finite
public import proofs.«01_k».proof.Proof.Gen.Pre_past_and_finite
public import proofs.«01_k».proof.Proof.Gen.Expert
public import proofs.«01_k».proof.Proof.Gen.Expert.Skeleton
public import proofs.«01_k».proof.Proof.Gen.Expert.Launch
public import proofs.«01_k».proof.Proof.Gen.Expert.Points
public import proofs.«01_k».proof.Proof.Gen.Expert.Frame
public import proofs.«01_k».proof.Proof.Gen.ExpertIdeal
public import proofs.«01_k».proof.Proof.Gen.ExpertIdeal.Skeleton
public import proofs.«01_k».proof.Proof.Gen.ExpertIdeal.Launch
public import proofs.«01_k».proof.Proof.Gen.ExpertIdeal.Points
public import proofs.«01_k».proof.Proof.Gen.ExpertIdeal.Frame
public import proofs.«01_k».proof.Proof.Gen.ExpertRefIdeal
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Pq
public import proofs.«01_k».proof.Proof.Gen.Pq.Skeleton
public import proofs.«01_k».proof.Proof.Gen.Pq.Launch
public import proofs.«01_k».proof.Proof.Gen.Pq.Points
public import proofs.«01_k».proof.Proof.Gen.Pq.Frame
public import proofs.«01_k».proof.Proof.Gen.PqIdeal
public import proofs.«01_k».proof.Proof.Gen.PqIdeal.Skeleton
public import proofs.«01_k».proof.Proof.Gen.PqIdeal.Launch
public import proofs.«01_k».proof.Proof.Gen.PqIdeal.Points
public import proofs.«01_k».proof.Proof.Gen.PqIdeal.Frame
public import proofs.«01_k».proof.Proof.Gen.PqRefIdeal
public import proofs.«01_k».proof.Proof.Gen.Ple
public import proofs.«01_k».proof.Proof.Gen.Norm
public import proofs.«01_k».proof.Proof.Gen.Sum
public import proofs.«01_k».proof.Proof.Gen.Ple.Skeleton
public import proofs.«01_k».proof.Proof.Gen.Norm.Skeleton
public import proofs.«01_k».proof.Proof.Gen.Sum.Skeleton
public import proofs.«01_k».proof.Proof.Gen.Ple.Launch
public import proofs.«01_k».proof.Proof.Gen.Norm.Launch
public import proofs.«01_k».proof.Proof.Gen.Sum.Launch
public import proofs.«01_k».proof.Proof.Gen.Ple.Points
public import proofs.«01_k».proof.Proof.Gen.Norm.Points
public import proofs.«01_k».proof.Proof.Gen.Sum.Points
public import proofs.«01_k».proof.Proof.Gen.Ple.Frame
public import proofs.«01_k».proof.Proof.Gen.Norm.Frame
public import proofs.«01_k».proof.Proof.Gen.Sum.Frame
public import proofs.«01_k».proof.Proof.Gen.PleIdeal
public import proofs.«01_k».proof.Proof.Gen.NormIdeal
public import proofs.«01_k».proof.Proof.Gen.SumIdeal
public import proofs.«01_k».proof.Proof.Gen.PleIdeal.Skeleton
public import proofs.«01_k».proof.Proof.Gen.NormIdeal.Skeleton
public import proofs.«01_k».proof.Proof.Gen.SumIdeal.Skeleton
public import proofs.«01_k».proof.Proof.Gen.PleIdeal.Launch
public import proofs.«01_k».proof.Proof.Gen.NormIdeal.Launch
public import proofs.«01_k».proof.Proof.Gen.SumIdeal.Launch
public import proofs.«01_k».proof.Proof.Gen.PleIdeal.Points
public import proofs.«01_k».proof.Proof.Gen.NormIdeal.Points
public import proofs.«01_k».proof.Proof.Gen.SumIdeal.Points
public import proofs.«01_k».proof.Proof.Gen.PleIdeal.Frame
public import proofs.«01_k».proof.Proof.Gen.NormIdeal.Frame
public import proofs.«01_k».proof.Proof.Gen.SumIdeal.Frame
public import proofs.«01_k».proof.Proof.Gen.PleRefIdeal
public import proofs.«01_k».proof.Proof.Gen.NormRefIdeal
public import proofs.«01_k».proof.Proof.Gen.SumRefIdeal
public import proofs.«01_k».proof.Proof.Gen.ExpertIdeal.Value
public import proofs.«01_k».proof.Proof.Gen.ExpertRefIdeal.Run
public import proofs.«01_k».proof.Proof.Gen.ExpertRefIdeal.Read
public import proofs.«01_k».proof.Proof.Gen.InIdeal.Value
public import proofs.«01_k».proof.Proof.Gen.InRefIdeal.Run
public import proofs.«01_k».proof.Proof.Gen.InRefIdeal.Read
public import proofs.«01_k».proof.Proof.Gen.OutIdeal.Value
public import proofs.«01_k».proof.Proof.Gen.OutRefIdeal.Run
public import proofs.«01_k».proof.Proof.Gen.OutRefIdeal.Read
public import proofs.«01_k».proof.Proof.Gen.PqIdeal.Value
public import proofs.«01_k».proof.Proof.Gen.PqRefIdeal.Run
public import proofs.«01_k».proof.Proof.Gen.PqRefIdeal.Read
public import proofs.«01_k».proof.Proof.Gen.PleIdeal.Value
public import proofs.«01_k».proof.Proof.Gen.NormIdeal.Value
public import proofs.«01_k».proof.Proof.Gen.SumIdeal.Value
public import proofs.«01_k».proof.Proof.Gen.PleRefIdeal.Run
public import proofs.«01_k».proof.Proof.Gen.NormRefIdeal.Run
public import proofs.«01_k».proof.Proof.Gen.SumRefIdeal.Run
public import proofs.«01_k».proof.Proof.Gen.PleRefIdeal.Read
public import proofs.«01_k».proof.Proof.Gen.NormRefIdeal.Read
public import proofs.«01_k».proof.Proof.Gen.SumRefIdeal.Read
public import proofs.«01_k».proof.Proof.DaValue
public import proofs.«01_k».proof.Proof.DsValue
public import proofs.«01_k».proof.Proof.InValue
public import proofs.«01_k».proof.Proof.ExpertValue
public import proofs.«01_k».proof.Proof.OutValue
public import proofs.«01_k».proof.Proof.PqValue
public import proofs.«01_k».proof.Proof.PleValue
public import proofs.«01_k».proof.Proof.NormValue
public import proofs.«01_k».proof.Proof.SumValue
public import Idealize.ShloMosaic.Adequacy
public import Idealize.ShloMosaic.Init

@[expose] public section

noncomputable section

namespace Cert.Proof

open Idealize.ShloMosaic Idealize.SL.Sem Cert.Expert

theorem claim : Cert.Claim := ⟨Cert.Da.Gen.facts, Cert.DaIdeal.Gen.facts, Cert.DaRefIdeal.Gen.facts, Cert.Ds.Gen.facts, Cert.DsIdeal.Gen.facts, Cert.DsRefIdeal.Gen.facts, Cert.Expert.Gen.facts, Cert.ExpertIdeal.Gen.facts, Cert.ExpertRefIdeal.Gen.facts, Cert.In.Gen.facts, Cert.InIdeal.Gen.facts, Cert.InRefIdeal.Gen.facts, Cert.Out.Gen.facts, Cert.OutIdeal.Gen.facts, Cert.OutRefIdeal.Gen.facts, Cert.Pq.Gen.facts, Cert.PqIdeal.Gen.facts, Cert.PqRefIdeal.Gen.facts, Cert.Ple.Gen.facts, Cert.PleIdeal.Gen.facts, Cert.PleRefIdeal.Gen.facts, Cert.Norm.Gen.facts, Cert.NormIdeal.Gen.facts, Cert.NormRefIdeal.Gen.facts, Cert.Sum.Gen.facts, Cert.SumIdeal.Gen.facts, Cert.SumRefIdeal.Gen.facts, Cert.Pre_causal_and_finite.Gen.facts, Cert.Pre_past_and_finite.Gen.facts,
  fun m ρ h => Cert.Da.Gen.frame 0 m ρ (Cert.Da.pinned_of_pre m h),
  fun m ρ h => Cert.DaIdeal.Gen.frame 0 m ρ (Cert.DaIdeal.pinned_of_pre m h),
  fun m ρ _ => (θ_run _ _ _).mono (fun r h => ⟨fun c => (h c).2, sem_eq_zero_of_no_sems (by decide) r.2⟩)
    (Cert.DaRefIdeal.Value.run m ρ),
  fun m ρ _ => (θ_run _ _ _).mono (fun r h => ⟨fun c => (h c).2, sem_eq_zero_of_no_sems (by decide) r.2⟩)
    (Cert.DaRefIdeal.Value.run m ρ),
  fun m ρ h => Cert.Ds.Gen.frame 0 m ρ (Cert.Ds.pinned_of_pre m h),
  fun m ρ h => Cert.DsIdeal.Gen.frame 0 m ρ (Cert.DsIdeal.pinned_of_pre m h),
  fun m ρ _ => (θ_run _ _ _).mono (fun r h => ⟨fun c => (h c).2, sem_eq_zero_of_no_sems (by decide) r.2⟩)
    (Cert.DsRefIdeal.Value.run m ρ),
  fun m ρ _ => (θ_run _ _ _).mono (fun r h => ⟨fun c => (h c).2, sem_eq_zero_of_no_sems (by decide) r.2⟩)
    (Cert.DsRefIdeal.Value.run m ρ),
  fun m ρ _ => Cert.Expert.Gen.frame m ρ,
  fun m ρ _ => Cert.ExpertIdeal.Gen.frame m ρ,
  fun m ρ _ => (θ_run _ _ _).mono (fun r h => ⟨fun c => (h c).2, sem_eq_zero_of_no_sems (by decide) r.2⟩)
    (Cert.ExpertRefIdeal.Value.run m ρ),
  fun m ρ _ => Cert.In.Gen.frame m ρ,
  fun m ρ _ => Cert.InIdeal.Gen.frame m ρ,
  fun m ρ _ => (θ_run _ _ _).mono (fun r h => ⟨fun c => (h c).2, sem_eq_zero_of_no_sems (by decide) r.2⟩)
    (Cert.InRefIdeal.Value.run m ρ),
  fun m ρ _ => Cert.Out.Gen.frame m ρ,
  fun m ρ _ => Cert.OutIdeal.Gen.frame m ρ,
  fun m ρ _ => (θ_run _ _ _).mono (fun r h => ⟨fun c => (h c).2, sem_eq_zero_of_no_sems (by decide) r.2⟩)
    (Cert.OutRefIdeal.Value.run m ρ),
  fun m ρ _ => Cert.Pq.Gen.frame m ρ,
  fun m ρ _ => Cert.PqIdeal.Gen.frame m ρ,
  fun m ρ _ => (θ_run _ _ _).mono (fun r h => ⟨fun c => (h c).2, sem_eq_zero_of_no_sems (by decide) r.2⟩)
    (Cert.PqRefIdeal.Value.run m ρ),
  fun m ρ _ => Cert.Ple.Gen.frame m ρ,
  fun m ρ _ => Cert.PleIdeal.Gen.frame m ρ,
  fun m ρ _ => (θ_run _ _ _).mono (fun r h => ⟨fun c => (h c).2, sem_eq_zero_of_no_sems (by decide) r.2⟩)
    (Cert.PleRefIdeal.Value.run m ρ),
  fun m ρ _ => Cert.Norm.Gen.frame m ρ,
  fun m ρ _ => Cert.NormIdeal.Gen.frame m ρ,
  fun m ρ _ => (θ_run _ _ _).mono (fun r h => ⟨fun c => (h c).2, sem_eq_zero_of_no_sems (by decide) r.2⟩)
    (Cert.NormRefIdeal.Value.run m ρ),
  fun m ρ _ => Cert.Sum.Gen.frame m ρ,
  fun m ρ _ => Cert.SumIdeal.Gen.frame m ρ,
  fun m ρ _ => (θ_run _ _ _).mono (fun r h => ⟨fun c => (h c).2.2, sem_eq_zero_of_no_sems (by decide) r.2⟩)
    (Cert.SumRefIdeal.Value.run m ρ),
  IdealRules.named_const.statement Cert.DaIdeal.κ "mask" .f32 0xF149F2CA#32 ⊥ rfl,
  Cert.Proof.alg_da,
  IdealRules.named_const.statement Cert.DsIdeal.κ "mask" .f32 0xF149F2CA#32 ⊥ rfl,
  Cert.Proof.alg_ds,
  trivial,
  Cert.Proof.alg_expert,
  trivial,
  Cert.Proof.alg_in,
  trivial,
  Cert.Proof.alg_out,
  trivial,
  Cert.Proof.alg_pq,
  trivial,
  Cert.Proof.alg_ple,
  trivial,
  Cert.Proof.alg_norm,
  trivial,
  Cert.Proof.alg_sum⟩

end Cert.Proof

end
